-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions [hPre_positions : Cert.Pre_positions.Facts] (m : (ℓ : Loc Cert.KernelIdeal.nD Cert.KernelIdeal.τ Cert.KernelIdeal.sig) → Buf (Elt Ideal) ℓ) : Prop :=
  ∀ c : Dev Cert.KernelIdeal.nD,
    (Cert.Pre_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions [hPre_positions : Cert.Pre_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_positions [hKernelIdeal : Cert.KernelIdeal.Facts] [hPre_positions : Cert.Pre_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_positions [hReferenceIdeal : Cert.ReferenceIdeal.Facts] [hPre_positions : Cert.Pre_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_positions [hKernelIdeal : Cert.KernelIdeal.Facts] [hReferenceIdeal : Cert.ReferenceIdeal.Facts] [hPre_positions : Cert.Pre_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v0_0) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_positions : Cert.Pre_positions.Facts),
    quiescent_Kernel (hKernel := hKernel)
    ∧ quiescent_KernelIdeal (hKernelIdeal := hKernelIdeal)
    ∧ quiescent_KernelIdeal_pre_positions (hKernelIdeal := hKernelIdeal) (hPre_positions := hPre_positions)
    ∧ quiescent_ReferenceIdeal (hReferenceIdeal := hReferenceIdeal)
    ∧ quiescent_ReferenceIdeal_pre_positions (hReferenceIdeal := hReferenceIdeal) (hPre_positions := hPre_positions)
    ∧ preserves_Kernel_KernelIdeal
    ∧ algebraic_KernelIdeal_ReferenceIdeal_pre_positions (hKernelIdeal := hKernelIdeal) (hReferenceIdeal := hReferenceIdeal) (hPre_positions := hPre_positions)
-- ==== Pre_positions.lean ====
abbrev S6x2048x16x128 : Shape := ⟨4, ![6, 2048, 16, 128]⟩
abbrev S6x2048 : Shape := ⟨2, ![6, 2048]⟩
abbrev S6 : Shape := ⟨1, ![6]⟩
abbrev S6x2048x8x128 : Shape := ⟨4, ![6, 2048, 8, 128]⟩
abbrev S6x2048x8 : Shape := ⟨3, ![6, 2048, 8]⟩
abbrev S6x2048x16 : Shape := ⟨3, ![6, 2048, 16]⟩
abbrev S6x16x128 : Shape := ⟨3, ![6, 16, 128]⟩
abbrev S6x8x256 : Shape := ⟨3, ![6, 8, 256]⟩
abbrev S6x16x1 : Shape := ⟨3, ![6, 16, 1]⟩
abbrev S128 : Shape := ⟨1, ![128]⟩
abbrev S1x1x128 : Shape := ⟨3, ![1, 1, 128]⟩
abbrev S_ : Shape := ⟨0, ![]⟩
abbrev S6x8x1 : Shape := ⟨3, ![6, 8, 1]⟩
abbrev S256 : Shape := ⟨1, ![256]⟩
abbrev S1x1x256 : Shape := ⟨3, ![1, 1, 256]⟩

class Facts : Prop where
  shapeCasts_S6x2048_S6x16x128 : S6x2048.ShapeCasts S6x16x128
  shapeCasts_S6x2048_S6x8x256 : S6x2048.ShapeCasts S6x8x256
  slices_S6x16x128_S6x16x1_0_0_0 : S6x16x128.Slices ![0, 0, 0] S6x16x1
  bcast_S128_S1x1x128_2 : S128.BroadcastsInDim S1x1x128 (![2] : Fin 1 → Fin S1x1x128.rank)
  bcast_S6x16x1_S6x16x128_0_1_2 : S6x16x1.BroadcastsInDim S6x16x128 (![0, 1, 2] : Fin 3 → Fin S6x16x128.rank)
  bcast_S1x1x128_S6x16x128_0_1_2 : S1x1x128.BroadcastsInDim S6x16x128 (![0, 1, 2] : Fin 3 → Fin S6x16x128.rank)
  reducesTo_S6x16x128_S_d0_1_2 : S6x16x128.ReducesTo [0, 1, 2] S_
  h_S_ : 0 < S_.numel
  slices_S6x8x256_S6x8x1_0_0_0 : S6x8x256.Slices ![0, 0, 0] S6x8x1
  bcast_S256_S1x1x256_2 : S256.BroadcastsInDim S1x1x256 (![2] : Fin 1 → Fin S1x1x256.rank)
  bcast_S6x8x1_S6x8x256_0_1_2 : S6x8x1.BroadcastsInDim S6x8x256 (![0, 1, 2] : Fin 3 → Fin S6x8x256.rank)
  bcast_S1x1x256_S6x8x256_0_1_2 : S1x1x256.BroadcastsInDim S6x8x256 (![0, 1, 2] : Fin 3 → Fin S6x8x256.rank)
  reducesTo_S6x8x256_S_d0_1_2 : S6x8x256.ReducesTo [0, 1, 2] S_
  bcast_S_S6x2048 : S_.BroadcastsInDim S6x2048 (![] : Fin 0 → Fin S6x2048.rank)
  reducesTo_S6x2048_S_d0_1 : S6x2048.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_v32 : IVec S_ 1) (main_v37 : IVec S6 1) : IVec S_ 1 :=
  let main_c_9 : IVec S_ 1 := constantI S_ 1 1#1
  let main_v38 : IVec S_ 1 := (fun x v => Host.reduce IntOp.andi x v reducesTo_S6_S_d0 h_S_) main_v37 main_c_9
  let main_v39 : IVec S_ 1 := andi main_v32 main_v38
  main_v39

def fn_part1 {F : FTy → Type} [FloatOps F] (main_arg1 : IVec S6x2048 32) (main_arg2 : IVec S6x2048 32) (main_arg3 : IVec S6 32) (main_v18 : IVec S_ 1) (main_v20 : IVec S6x2048 1) : IVec S_ 1 :=
  let main_c_2 : IVec S_ 32 := constantI S_ 32 536870912#32
  let main_v21 : IVec S6x2048 32 := broadcastInDim S6x2048 ![] bcast_S_S6x2048 main_c_2
  let main_v22 : IVec S6x2048 1 := cmpi .slt main_arg1 main_v21
  let main_v23 : IVec S6x2048 1 := andi main_v20 main_v22
  let main_c_3 : IVec S_ 1 := constantI S_ 1 1#1
  let main_v24 : IVec S_ 1 := (fun x v => Host.reduce IntOp.andi x v reducesTo_S6x2048_S_d0_1 h_S_) main_v23 main_c_3
  let main_v25 : IVec S_ 1 := andi main_v18 main_v24
  let main_c_4 : IVec S_ 32 := constantI S_ 32 0#32
  let main_v26 : IVec S6x2048 32 := broadcastInDim S6x2048 ![] bcast_S_S6x2048 main_c_4
  let main_v27 : IVec S6x2048 1 := cmpi .sge main_arg2 main_v26
  let main_c_5 : IVec S_ 32 := constantI S_ 32 536870912#32
  let main_v28 : IVec S6x2048 32 := broadcastInDim S6x2048 ![] bcast_S_S6x2048 main_c_5
  let main_v29 : IVec S6x2048 1 := cmpi .slt main_arg2 main_v28
  let main_v30 : IVec S6x2048 1 := andi main_v27 main_v29
  let main_c_6 : IVec S_ 1 := constantI S_ 1 1#1
  let main_v31 : IVec S_ 1 := (fun x v => Host.reduce IntOp.andi x v reducesTo_S6x2048_S_d0_1 h_S_) main_v30 main_c_6
  let main_v32 : IVec S_ 1 := andi main_v25 main_v31
  let main_c_7 : IVec S_ 32 := constantI S_ 32 0#32
  let main_v33 : IVec S6 32 := broadcastInDim S6 ![] bcast_S_S6 main_c_7
  let main_v34 : IVec S6 1 := cmpi .sge main_arg3 main_v33
  let main_c_8 : IVec S_ 32 := constantI S_ 32 536870912#32
  let main_v35 : IVec S6 32 := broadcastInDim S6 ![] bcast_S_S6 main_c_8
  let main_v36 : IVec S6 1 := cmpi .slt main_arg3 main_v35
  let main_v37 : IVec S6 1 := andi main_v34 main_v36
  fn_part2 (F := F) main_v32 main_v37

def fn {F : FTy → Type} [FloatOps F] (main_arg0 : FVec F S6x2048x16x128 .bf16) (main_arg1 : IVec S6x2048 32) (main_arg2 : IVec S6x2048 32) (main_arg3 : IVec S6 32) (main_arg4 : FVec F S6x2048x8x128 .fp8e4m3) (main_arg5 : FVec F S6x2048x8 .f32) (main_arg6 : FVec F S6x2048x8x128 .fp8e4m3) (main_arg7 : FVec F S6x2048x8 .f32) (main_arg8 : FVec F S6x2048x16x128 .f32) (main_arg9 : FVec F S6x2048x16 .f32) : IVec S_ 1 :=
  let main_v0 : IVec S6x16x128 32 := shapeCast S6x16x128 main_arg1 shapeCasts_S6x2048_S6x16x128
  let main_v1 : IVec S6x8x256 32 := shapeCast S6x8x256 main_arg2 shapeCasts_S6x2048_S6x8x256
  let main_v2 : IVec S6x16x1 32 := (extractStridedSlice S6x16x1 ![0, 0, 0] · slices_S6x16x128_S6x16x1_0_0_0) main_v0
  let main_v3 : IVec S128 32 := iotaInDim S128 32 0
  let main_v4 : IVec S1x1x128 32 := broadcastInDim S1x1x128 ![2] bcast_S128_S1x1x128_2 main_v3
  let main_v5 : IVec S6x16x128 32 := broadcastInDim S6x16x128 ![0, 1, 2] bcast_S6x16x1_S6x16x128_0_1_2 main_v2
  let main_v6 : IVec S6x16x128 32 := broadcastInDim S6x16x128 ![0, 1, 2] bcast_S1x1x128_S6x16x128_0_1_2 main_v4
  let main_v7 : IVec S6x16x128 32 := addi main_v5 main_v6
  let main_v8 : IVec S6x16x128 1 := cmpi .eq main_v0 main_v7
  let main_c : IVec S_ 1 := constantI S_ 1 1#1
  let main_v9 : IVec S_ 1 := (fun x v => Host.reduce IntOp.andi x v reducesTo_S6x16x128_S_d0_1_2 h_S_) main_v8 main_c
  let main_v10 : IVec S6x8x1 32 := (extractStridedSlice S6x8x1 ![0, 0, 0] · slices_S6x8x256_S6x8x1_0_0_0) main_v1
  let main_v11 : IVec S256 32 := iotaInDim S256 32 0
  let main_v12 : IVec S1x1x256 32 := broadcastInDim S1x1x256 ![2] bcast_S256_S1x1x256_2 main_v11
  let main_v13 : IVec S6x8x256 32 := broadcastInDim S6x8x256 ![0, 1, 2] bcast_S6x8x1_S6x8x256_0_1_2 main_v10
  let main_v14 : IVec S6x8x256 32 := broadcastInDim S6x8x256 ![0, 1, 2] bcast_S1x1x256_S6x8x256_0_1_2 main_v12
  let main_v15 : IVec S6x8x256 32 := addi main_v13 main_v14
  let main_v16 : IVec S6x8x256 1 := cmpi .eq main_v1 main_v15
  let main_c_0 : IVec S_ 1 := constantI S_ 1 1#1
  let main_v17 : IVec S_ 1 := (fun x v => Host.reduce IntOp.andi x v reducesTo_S6x8x256_S_d0_1_2 h_S_) main_v16 main_c_0
  let main_v18 : IVec S_ 1 := andi main_v9 main_v17
  let main_c_1 : IVec S_ 32 := constantI S_ 32 0#32
  let main_v19 : IVec S6x2048 32 := broadcastInDim S6x2048 ![] bcast_S_S6x2048 main_c_1
  let main_v20 : IVec S6x2048 1 := cmpi .sge main_arg1 main_v19
  fn_part1 (F := F) main_arg1 main_arg2 main_arg3 main_v18 main_v20
-- ==== Kernel.lean ====
abbrev S6x2048x16x128 : Shape := ⟨4, ![6, 2048, 16, 128]⟩
abbrev S6x2048 : Shape := ⟨2, ![6, 2048]⟩
abbrev S6 : Shape := ⟨1, ![6]⟩
abbrev S6x2048x8x128 : Shape := ⟨4, ![6, 2048, 8, 128]⟩
abbrev S6x2048x8 : Shape := ⟨3, ![6, 2048, 8]⟩
abbrev S6x2048x16 : Shape := ⟨3, ![6, 2048, 16]⟩
abbrev S6x8x2048 : Shape := ⟨3, ![6, 8, 2048]⟩
abbrev S6x16x2048 : Shape := ⟨3, ![6, 16, 2048]⟩
abbrev S1x128x16x128 : Shape := ⟨4, ![1, 128, 16, 128]⟩
abbrev S1x2048x8x128 : Shape := ⟨4, ![1, 2048, 8, 128]⟩
abbrev S1x8x2048 : Shape := ⟨3, ![1, 8, 2048]⟩
abbrev S1x16x128 : Shape := ⟨3, ![1, 16, 128]⟩
abbrev S4x2048x256 : Shape := ⟨3, ![4, 2048, 256]⟩
abbrev S8x128x2048 : Shape := ⟨3, ![8, 128, 2048]⟩
abbrev S8x2048x128 : Shape := ⟨3, ![8, 2048, 128]⟩
abbrev S2048x8x128 : Shape := ⟨3, ![2048, 8, 128]⟩
abbrev S256x1x128 : Shape := ⟨3, ![256, 1, 128]⟩
abbrev S256x128 : Shape := ⟨2, ![256, 128]⟩
abbrev S1x256x128 : Shape := ⟨3, ![1, 256, 128]⟩
abbrev S128x256 : Shape := ⟨2, ![128, 256]⟩
abbrev S1x128x256 : Shape := ⟨3, ![1, 128, 256]⟩
abbrev S8x2048 : Shape := ⟨2, ![8, 2048]⟩
abbrev S1x256 : Shape := ⟨2, ![1, 256]⟩
abbrev S1x128 : Shape := ⟨2, ![1, 128]⟩
abbrev S128x128 : Shape := ⟨2, ![128, 128]⟩
abbrev S1 : Shape := ⟨1, ![1]⟩
abbrev S1x1 : Shape := ⟨2, ![1, 1]⟩
abbrev S128x16x128 : Shape := ⟨3, ![128, 16, 128]⟩
abbrev S128x1x128 : Shape := ⟨3, ![128, 1, 128]⟩
abbrev S128 : Shape := ⟨1, ![128]⟩
abbrev S16x128 : Shape := ⟨2, ![16, 128]⟩
abbrev S128x4x128 : Shape := ⟨3, ![128, 4, 128]⟩
abbrev S1x128x4x128 : Shape := ⟨4, ![1, 128, 4, 128]⟩
abbrev S256x256 : Shape := ⟨2, ![256, 256]⟩
abbrev S256 : Shape := ⟨1, ![256]⟩
abbrev S2048x128 : Shape := ⟨2, ![2048, 128]⟩
abbrev S128x2x128 : Shape := ⟨3, ![128, 2, 128]⟩
abbrev S1x128x2x128 : Shape := ⟨4, ![1, 128, 2, 128]⟩

abbrev nBuf : Space → Nat
  | .hbm => 14
  | .vmem => 26
  | .smem => 3
  | _ => 0

abbrev bufTy : (tb : Table) → Fin (tcTables nBuf tb) → BufTy
  | .hbm, ⟨0, _⟩ => ⟨S6x2048x16x128, .bf16⟩
  | .hbm, ⟨1, _⟩ => ⟨S6x2048x8x128, .fp8e4m3⟩
  | .hbm, ⟨2, _⟩ => ⟨S6x2048x8, .f32⟩
  | .hbm, ⟨3, _⟩ => ⟨S6x2048x8x128, .fp8e4m3⟩
  | .hbm, ⟨4, _⟩ => ⟨S6x2048x8, .f32⟩
  | .hbm, ⟨5, _⟩ => ⟨S6x2048x16x128, .f32⟩
  | .hbm, ⟨6, _⟩ => ⟨S6x2048x16, .f32⟩
  | .hbm, ⟨7, _⟩ => ⟨S6x8x2048, .f32⟩
  | .hbm, ⟨8, _⟩ => ⟨S6x8x2048, .f32⟩
  | .hbm, ⟨9, _⟩ => ⟨S6x16x2048, .f32⟩
  | .hbm, ⟨10, _⟩ => ⟨S6x2048x16x128, .bf16⟩
  | .hbm, ⟨11, _⟩ => ⟨S6x16x2048, .f32⟩
  | .hbm, ⟨12, _⟩ => ⟨S6x2048x16x128, .fp8e4m3⟩
  | .hbm, ⟨13, _⟩ => ⟨S6x16x2048, .f32⟩
  | .local _ .vmem, ⟨0, _⟩ => ⟨S1x128x16x128, .bf16⟩
  | .local _ .vmem, ⟨1, _⟩ => ⟨S1x128x16x128, .bf16⟩
  | .local _ .vmem, ⟨2, _⟩ => ⟨S1x2048x8x128, .fp8e4m3⟩
  | .local _ .vmem, ⟨3, _⟩ => ⟨S1x2048x8x128, .fp8e4m3⟩
  | .local _ .vmem, ⟨4, _⟩ => ⟨S1x2048x8x128, .fp8e4m3⟩
  | .local _ .vmem, ⟨5, _⟩ => ⟨S1x2048x8x128, .fp8e4m3⟩
  | .local _ .vmem, ⟨6, _⟩ => ⟨S1x8x2048, .f32⟩
  | .local _ .vmem, ⟨7, _⟩ => ⟨S1x8x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x128x16x128, .f32⟩
  | .local _ .vmem, ⟨11, _⟩ => ⟨S1x128x16x128, .f32⟩
  | .local _ .vmem, ⟨12, _⟩ => ⟨S1x16x128, .f32⟩
  | .local _ .vmem, ⟨13, _⟩ => ⟨S1x16x128, .f32⟩
  | .local _ .vmem, ⟨14, _⟩ => ⟨S1x128x16x128, .bf16⟩
  | .local _ .vmem, ⟨15, _⟩ => ⟨S1x128x16x128, .bf16⟩
  | .local _ .vmem, ⟨16, _⟩ => ⟨S1x16x128, .f32⟩
  | .local _ .vmem, ⟨17, _⟩ => ⟨S1x16x128, .f32⟩
  | .local _ .vmem, ⟨18, _⟩ => ⟨S1x128x16x128, .fp8e4m3⟩
  | .local _ .vmem, ⟨19, _⟩ => ⟨S1x128x16x128, .fp8e4m3⟩
  | .local _ .vmem, ⟨20, _⟩ => ⟨S1x16x128, .f32⟩
  | .local _ .vmem, ⟨21, _⟩ => ⟨S1x16x128, .f32⟩
  | .local _ .vmem, ⟨22, _⟩ => ⟨S4x2048x256, .fp8e4m3⟩
  | .local _ .vmem, ⟨23, _⟩ => ⟨S8x128x2048, .bf16⟩
  | .local _ .vmem, ⟨24, _⟩ => ⟨S8x2048x128, .f32⟩
  | .local _ .vmem, ⟨25, _⟩ => ⟨S8x2048x128, .f32⟩
  | .local _ .smem, ⟨0, _⟩ => ⟨S6x2048, .i32⟩
  | .local _ .smem, ⟨1, _⟩ => ⟨S6x2048, .i32⟩
  | .local _ .smem, ⟨2, _⟩ => ⟨S6, .i32⟩
  | _, _ => ⟨S6x2048x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![6, 16], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_4 : BitVec 32 := 0#32
  let v2 : BitVec 1 := Scalar.cmpi .ne v1 c0_i32_4
  v2

@[reducible] def k0_t1_loop : Scf.Loop 32 :=
  let c0_i32_782 : BitVec 32 := 0#32
  let c8_i32_783 : BitVec 32 := 8#32
  let v1169 : BitVec 32 := Scalar.addi c0_i32_782 c8_i32_783
  let c1_i32_784 : BitVec 32 := 1#32
  ⟨c0_i32_782, v1169, c1_i32_784⟩
def k0_mult1 (k0_t1 : Fin k0_t1_loop.trips) : BitVec 32 :=
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  v1170
def k0_off1 (k0_t1 : Fin k0_t1_loop.trips) : Fin 3 → Nat :=
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1174 : Index := Scalar.indexCast v1171
  let c0_789 : Index := 0#32
  let c0_790 : Index := 0#32
  ![v1174.toNat, 0, 0]
def k0_off2 (k0_t1 : Fin k0_t1_loop.trips) : Fin 3 → Nat :=
  let c0_791 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1177 : Index := Scalar.indexCast v1171
  let c0_792 : Index := 0#32
  ![0, v1177.toNat, 0]
def k0_off3 (k0_t1 : Fin k0_t1_loop.trips) : Fin 3 → Nat :=
  let c0_798 : Index := 0#32
  let c0_799 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1188 : Index := Scalar.indexCast v1171
  ![0, 0, v1188.toNat]
def k0_off4 (k0_t1 : Fin k0_t1_loop.trips) : Fin 2 → Nat :=
  let c0_802 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1194 : Index := Scalar.indexCast v1171
  ![0, v1194.toNat]
def k0_off5 (k0_t1 : Fin k0_t1_loop.trips) : Fin 3 → Nat :=
  let c0_803 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1206 : Index := Scalar.indexCast v1171
  let c0_804 : Index := 0#32
  ![0, v1206.toNat, 0]
def k0_off6 (k0_t1 : Fin k0_t1_loop.trips) : Fin 3 → Nat :=
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1230 : Index := Scalar.indexCast v1171
  let c1_813 : Index := 1#32
  let c0_814 : Index := 0#32
  ![v1230.toNat, 1, 0]
def k0_off7 (k0_t1 : Fin k0_t1_loop.trips) : Fin 3 → Nat :=
  let c0_815 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1233 : Index := Scalar.indexCast v1171
  let c128 : Index := 128#32
  ![0, v1233.toNat, 128]
def k0_off8 (k0_t1 : Fin k0_t1_loop.trips) : Fin 3 → Nat :=
  let c1_821 : Index := 1#32
  let c0_822 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1244 : Index := Scalar.indexCast v1171
  ![1, 0, v1244.toNat]
def k0_off9 (k0_t1 : Fin k0_t1_loop.trips) : Fin 2 → Nat :=
  let c1_825 : Index := 1#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1250 : Index := Scalar.indexCast v1171
  ![1, v1250.toNat]
def k0_off10 (k0_t1 : Fin k0_t1_loop.trips) : Fin 3 → Nat :=
  let c1_826 : Index := 1#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1262 : Index := Scalar.indexCast v1171
  let c0_827 : Index := 0#32
  ![1, v1262.toNat, 0]
def k0_off11 (k0_t1 : Fin k0_t1_loop.trips) : Fin 3 → Nat :=
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1286 : Index := Scalar.indexCast v1171
  let c2_836 : Index := 2#32
  let c0_837 : Index := 0#32
  ![v1286.toNat, 2, 0]
def k0_off12 (k0_t1 : Fin k0_t1_loop.trips) : Fin 3 → Nat :=
  let c1_838 : Index := 1#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1289 : Index := Scalar.indexCast v1171
  let c0_839 : Index := 0#32
  ![1, v1289.toNat, 0]
def k0_off13 (k0_t1 : Fin k0_t1_loop.trips) : Fin 3 → Nat :=
  let c2_845 : Index := 2#32
  let c0_846 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1300 : Index := Scalar.indexCast v1171
  ![2, 0, v1300.toNat]
def k0_off14 (k0_t1 : Fin k0_t1_loop.trips) : Fin 2 → Nat :=
  let c2_849 : Index := 2#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1306 : Index := Scalar.indexCast v1171
  ![2, v1306.toNat]
def k0_off15 (k0_t1 : Fin k0_t1_loop.trips) : Fin 3 → Nat :=
  let c2_850 : Index := 2#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1318 : Index := Scalar.indexCast v1171
  let c0_851 : Index := 0#32
  ![2, v1318.toNat, 0]
def k0_off16 (k0_t1 : Fin k0_t1_loop.trips) : Fin 3 → Nat :=
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1342 : Index := Scalar.indexCast v1171
  let c3_860 : Index := 3#32
  let c0_861 : Index := 0#32
  ![v1342.toNat, 3, 0]
def k0_off17 (k0_t1 : Fin k0_t1_loop.trips) : Fin 3 → Nat :=
  let c1_862 : Index := 1#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1345 : Index := Scalar.indexCast v1171
  let c128_863 : Index := 128#32
  ![1, v1345.toNat, 128]
def k0_off18 (k0_t1 : Fin k0_t1_loop.trips) : Fin 3 → Nat :=
  let c3_869 : Index := 3#32
  let c0_870 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1356 : Index := Scalar.indexCast v1171
  ![3, 0, v1356.toNat]
def k0_off19 (k0_t1 : Fin k0_t1_loop.trips) : Fin 2 → Nat :=
  let c3_873 : Index := 3#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1362 : Index := Scalar.indexCast v1171
  ![3, v1362.toNat]
def k0_off20 (k0_t1 : Fin k0_t1_loop.trips) : Fin 3 → Nat :=
  let c3_874 : Index := 3#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1374 : Index := Scalar.indexCast v1171
  let c0_875 : Index := 0#32
  ![3, v1374.toNat, 0]
def k0_off21 (k0_t1 : Fin k0_t1_loop.trips) : Fin 3 → Nat :=
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1398 : Index := Scalar.indexCast v1171
  let c4_884 : Index := 4#32
  let c0_885 : Index := 0#32
  ![v1398.toNat, 4, 0]
def k0_off22 (k0_t1 : Fin k0_t1_loop.trips) : Fin 3 → Nat :=
  let c2_886 : Index := 2#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1401 : Index := Scalar.indexCast v1171
  let c0_887 : Index := 0#32
  ![2, v1401.toNat, 0]
def k0_off23 (k0_t1 : Fin k0_t1_loop.trips) : Fin 3 → Nat :=
  let c4_893 : Index := 4#32
  let c0_894 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1412 : Index := Scalar.indexCast v1171
  ![4, 0, v1412.toNat]
def k0_off24 (k0_t1 : Fin k0_t1_loop.trips) : Fin 2 → Nat :=
  let c4_897 : Index := 4#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1418 : Index := Scalar.indexCast v1171
  ![4, v1418.toNat]
def k0_off25 (k0_t1 : Fin k0_t1_loop.trips) : Fin 3 → Nat :=
  let c4_898 : Index := 4#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1430 : Index := Scalar.indexCast v1171
  let c0_899 : Index := 0#32
  ![4, v1430.toNat, 0]
def k0_off26 (k0_t1 : Fin k0_t1_loop.trips) : Fin 3 → Nat :=
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1454 : Index := Scalar.indexCast v1171
  let c5_908 : Index := 5#32
  let c0_909 : Index := 0#32
  ![v1454.toNat, 5, 0]
def k0_off27 (k0_t1 : Fin k0_t1_loop.trips) : Fin 3 → Nat :=
  let c2_910 : Index := 2#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1457 : Index := Scalar.indexCast v1171
  let c128_911 : Index := 128#32
  ![2, v1457.toNat, 128]
def k0_off28 (k0_t1 : Fin k0_t1_loop.trips) : Fin 3 → Nat :=
  let c5_917 : Index := 5#32
  let c0_918 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1468 : Index := Scalar.indexCast v1171
  ![5, 0, v1468.toNat]
def k0_off29 (k0_t1 : Fin k0_t1_loop.trips) : Fin 2 → Nat :=
  let c5_921 : Index := 5#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1474 : Index := Scalar.indexCast v1171
  ![5, v1474.toNat]
def k0_off30 (k0_t1 : Fin k0_t1_loop.trips) : Fin 3 → Nat :=
  let c5_922 : Index := 5#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1486 : Index := Scalar.indexCast v1171
  let c0_923 : Index := 0#32
  ![5, v1486.toNat, 0]
def k0_off31 (k0_t1 : Fin k0_t1_loop.trips) : Fin 3 → Nat :=
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1510 : Index := Scalar.indexCast v1171
  let c6_932 : Index := 6#32
  let c0_933 : Index := 0#32
  ![v1510.toNat, 6, 0]
def k0_off32 (k0_t1 : Fin k0_t1_loop.trips) : Fin 3 → Nat :=
  let c3_934 : Index := 3#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1513 : Index := Scalar.indexCast v1171
  let c0_935 : Index := 0#32
  ![3, v1513.toNat, 0]
def k0_off33 (k0_t1 : Fin k0_t1_loop.trips) : Fin 3 → Nat :=
  let c6_941 : Index := 6#32
  let c0_942 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1524 : Index := Scalar.indexCast v1171
  ![6, 0, v1524.toNat]
def k0_off34 (k0_t1 : Fin k0_t1_loop.trips) : Fin 2 → Nat :=
  let c6_945 : Index := 6#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1530 : Index := Scalar.indexCast v1171
  ![6, v1530.toNat]
def k0_off35 (k0_t1 : Fin k0_t1_loop.trips) : Fin 3 → Nat :=
  let c6_946 : Index := 6#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1542 : Index := Scalar.indexCast v1171
  let c0_947 : Index := 0#32
  ![6, v1542.toNat, 0]
def k0_off36 (k0_t1 : Fin k0_t1_loop.trips) : Fin 3 → Nat :=
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1566 : Index := Scalar.indexCast v1171
  let c7_956 : Index := 7#32
  let c0_957 : Index := 0#32
  ![v1566.toNat, 7, 0]
def k0_off37 (k0_t1 : Fin k0_t1_loop.trips) : Fin 3 → Nat :=
  let c3_958 : Index := 3#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1569 : Index := Scalar.indexCast v1171
  let c128_959 : Index := 128#32
  ![3, v1569.toNat, 128]
def k0_off38 (k0_t1 : Fin k0_t1_loop.trips) : Fin 3 → Nat :=
  let c7_965 : Index := 7#32
  let c0_966 : Index := 0#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1580 : Index := Scalar.indexCast v1171
  ![7, 0, v1580.toNat]
def k0_off39 (k0_t1 : Fin k0_t1_loop.trips) : Fin 2 → Nat :=
  let c7_969 : Index := 7#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1586 : Index := Scalar.indexCast v1171
  ![7, v1586.toNat]
def k0_off40 (k0_t1 : Fin k0_t1_loop.trips) : Fin 3 → Nat :=
  let c7_970 : Index := 7#32
  let c0_i32_782 : BitVec 32 := 0#32
  let c1_i32_784 : BitVec 32 := 1#32
  let arg20 : BitVec 32 := Scf.iv c0_i32_782 c1_i32_784 k0_t1
  let c256_i32 : BitVec 32 := 256#32
  let v1170 : BitVec 32 := Scalar.muli arg20 c256_i32
  let v1171 : BitVec 32 := v1170
  let v1598 : Index := Scalar.indexCast v1171
  let c0_971 : Index := 0#32
  ![7, v1598.toNat, 0]
def k0_off41 (i : grid0.Coords) : Fin 1 → Nat :=
  let arg0 : BitVec 32 := BitVec.ofNat 32 (i 0).val
  let v3 : Index := Scalar.indexCast arg0
  ![v3.toNat]
def k0_off42 (i : grid0.Coords) : Fin 2 → Nat :=
  let arg0 : BitVec 32 := BitVec.ofNat 32 (i 0).val
  let v6 : Index := Scalar.indexCast arg0
  let arg1 : BitVec 32 := BitVec.ofNat 32 (i 1).val
  let c128_i32 : BitVec 32 := 128#32
  let v5 : BitVec 32 := Scalar.muli arg1 c128_i32
  let v7 : Index := Scalar.indexCast v5
  ![v6.toNat, v7.toNat]
@[reducible] def k0_t2_loop : Scf.Loop 32 :=
  let c0_i32_102 : BitVec 32 := 0#32
  let c8_i32 : BitVec 32 := 8#32
  let v145 : BitVec 32 := Scalar.addi c0_i32_102 c8_i32
  let c1_i32 : BitVec 32 := 1#32
  ⟨c0_i32_102, v145, c1_i32⟩
def k0_mult2 (k0_t2 : Fin k0_t2_loop.trips) : BitVec 32 :=
  let c0_i32_102 : BitVec 32 := 0#32
  let c1_i32 : BitVec 32 := 1#32
  let arg20 : BitVec 32 := Scf.iv c0_i32_102 c1_i32 k0_t2
  let c256_i32 : BitVec 32 := 256#32
  let v1169 : BitVec 32 := Scalar.muli arg20 c256_i32
  v1169
def k0_off43 (i : grid0.Coords) (k0_t2 : Fin k0_t2_loop.trips) : Fin 2 → Nat :=
  let arg0 : BitVec 32 := BitVec.ofNat 32 (i 0).val
  let v1171 : Index := Scalar.indexCast arg0
  let c0_i32_102 : BitVec 32 := 0#32
  let c1_i32 : BitVec 32 := 1#32
  let arg20 : BitVec 32 := Scf.iv c0_i32_102 c1_i32 k0_t2
  let c256_i32 : BitVec 32 := 256#32
  let v1169 : BitVec 32 := Scalar.muli arg20 c256_i32
  let v1170 : BitVec 32 := v1169
  let v1172 : Index := Scalar.indexCast v1170
  ![v1171.toNat, v1172.toNat]
def k0_off44 (k0_t2 : Fin k0_t2_loop.trips) : Fin 3 → Nat :=
  let c0_787 : Index := 0#32
  let c0_i32_102 : BitVec 32 := 0#32
  let c1_i32 : BitVec 32 := 1#32
  let arg20 : BitVec 32 := Scf.iv c0_i32_102 c1_i32 k0_t2
  let c256_i32 : BitVec 32 := 256#32
  let v1169 : BitVec 32 := Scalar.muli arg20 c256_i32
  let v1170 : BitVec 32 := v1169
  let v1185 : Index := Scalar.indexCast v1170
  let c0_788 : Index := 0#32
  ![0, v1185.toNat, 0]
def k0_off45 (k0_t2 : Fin k0_t2_loop.trips) : Fin 3 → Nat :=
  let c0_794 : Index := 0#32
  let c0_i32_102 : BitVec 32 := 0#32
  let c1_i32 : BitVec 32 := 1#32
  let arg20 : BitVec 32 := Scf.iv c0_i32_102 c1_i32 k0_t2
  let c256_i32 : BitVec 32 := 256#32
  let v1169 : BitVec 32 := Scalar.muli arg20 c256_i32
  let v1170 : BitVec 32 := v1169
  let v1204 : Index := Scalar.indexCast v1170
  let c0_795 : Index := 0#32
  ![0, v1204.toNat, 0]
def k0_off46 (k0_t2 : Fin k0_t2_loop.trips) : Fin 3 → Nat :=
  let c0_800 : Index := 0#32
  let c0_801 : Index := 0#32
  let c0_i32_102 : BitVec 32 := 0#32
  let c1_i32 : BitVec 32 := 1#32
  let arg20 : BitVec 32 := Scf.iv c0_i32_102 c1_i32 k0_t2
  let c256_i32 : BitVec 32 := 256#32
  let v1169 : BitVec 32 := Scalar.muli arg20 c256_i32
  let v1170 : BitVec 32 := v1169
  let v1229 : Index := Scalar.indexCast v1170
  ![0, 0, v1229.toNat]
@[reducible] def k0_t3_loop : Scf.Loop 32 :=
  let c0_i32_160 : BitVec 32 := 0#32
  let c8_i32_161 : BitVec 32 := 8#32
  let v234 : BitVec 32 := Scalar.addi c0_i32_160 c8_i32_161
  let c1_i32_162 : BitVec 32 := 1#32
  ⟨c0_i32_160, v234, c1_i32_162⟩
def k0_mult3 (k0_t3 : Fin k0_t3_loop.trips) : BitVec 32 :=
  let c0_i32_160 : BitVec 32 := 0#32
  let c1_i32_162 : BitVec 32 := 1#32
  let arg20 : BitVec 32 := Scf.iv c0_i32_160 c1_i32_162 k0_t3
  let c256_i32 : BitVec 32 := 256#32
  let v1169 : BitVec 32 := Scalar.muli arg20 c256_i32
  v1169
def k0_off47 (i : grid0.Coords) (k0_t3 : Fin k0_t3_loop.trips) : Fin 2 → Nat :=
  let arg0 : BitVec 32 := BitVec.ofNat 32 (i 0).val
  let v1171 : Index := Scalar.indexCast arg0
  let c0_i32_160 : BitVec 32 := 0#32
  let c1_i32_162 : BitVec 32 := 1#32
  let arg20 : BitVec 32 := Scf.iv c0_i32_160 c1_i32_162 k0_t3
  let c256_i32 : BitVec 32 := 256#32
  let v1169 : BitVec 32 := Scalar.muli arg20 c256_i32
  let v1170 : BitVec 32 := v1169
  let v1172 : Index := Scalar.indexCast v1170
  ![v1171.toNat, v1172.toNat]
def k0_off48 (k0_t3 : Fin k0_t3_loop.trips) : Fin 3 → Nat :=
  let c0_787 : Index := 0#32
  let c0_i32_160 : BitVec 32 := 0#32
  let c1_i32_162 : BitVec 32 := 1#32
  let arg20 : BitVec 32 := Scf.iv c0_i32_160 c1_i32_162 k0_t3
  let c256_i32 : BitVec 32 := 256#32
  let v1169 : BitVec 32 := Scalar.muli arg20 c256_i32
  let v1170 : BitVec 32 := v1169
  let v1185 : Index := Scalar.indexCast v1170
  let c128 : Index := 128#32
  ![0, v1185.toNat, 128]
def k0_off49 (k0_t3 : Fin k0_t3_loop.trips) : Fin 3 → Nat :=
  let c1_793 : Index := 1#32
  let c0_i32_160 : BitVec 32 := 0#32
  let c1_i32_162 : BitVec 32 := 1#32
  let arg20 : BitVec 32 := Scf.iv c0_i32_160 c1_i32_162 k0_t3
  let c256_i32 : BitVec 32 := 256#32
  let v1169 : BitVec 32 := Scalar.muli arg20 c256_i32
  let v1170 : BitVec 32 := v1169
  let v1204 : Index := Scalar.indexCast v1170
  let c0_794 : Index := 0#32
  ![1, v1204.toNat, 0]
def k0_off50 (k0_t3 : Fin k0_t3_loop.trips) : Fin 3 → Nat :=
  let c1_799 : Index := 1#32
  let c0_800 : Index := 0#32
  let c0_i32_160 : BitVec 32 := 0#32
  let c1_i32_162 : BitVec 32 := 1#32
  let arg20 : BitVec 32 := Scf.iv c0_i32_160 c1_i32_162 k0_t3
  let c256_i32 : BitVec 32 := 256#32
  let v1169 : BitVec 32 := Scalar.muli arg20 c256_i32
  let v1170 : BitVec 32 := v1169
  let v1229 : Index := Scalar.indexCast v1170
  ![1, 0, v1229.toNat]
@[reducible] def k0_t4_loop : Scf.Loop 32 :=
  let c0_i32_295 : BitVec 32 := 0#32
  let c8_i32_296 : BitVec 32 := 8#32
  let v435 : BitVec 32 := Scalar.addi c0_i32_295 c8_i32_296
  let c1_i32_297 : BitVec 32 := 1#32
  ⟨c0_i32_295, v435, c1_i32_297⟩
def k0_mult4 (k0_t4 : Fin k0_t4_loop.trips) : BitVec 32 :=
  let c0_i32_295 : BitVec 32 := 0#32
  let c1_i32_297 : BitVec 32 := 1#32
  let arg20 : BitVec 32 := Scf.iv c0_i32_295 c1_i32_297 k0_t4
  let c256_i32 : BitVec 32 := 256#32
  let v1169 : BitVec 32 := Scalar.muli arg20 c256_i32
  v1169
def k0_off51 (i : grid0.Coords) (k0_t4 : Fin k0_t4_loop.trips) : Fin 2 → Nat :=
  let arg0 : BitVec 32 := BitVec.ofNat 32 (i 0).val
  let v1171 : Index := Scalar.indexCast arg0
  let c0_i32_295 : BitVec 32 := 0#32
  let c1_i32_297 : BitVec 32 := 1#32
  let arg20 : BitVec 32 := Scf.iv c0_i32_295 c1_i32_297 k0_t4
  let c256_i32 : BitVec 32 := 256#32
  let v1169 : BitVec 32 := Scalar.muli arg20 c256_i32
  let v1170 : BitVec 32 := v1169
  let v1172 : Index := Scalar.indexCast v1170
  ![v1171.toNat, v1172.toNat]
def k0_off52 (k0_t4 : Fin k0_t4_loop.trips) : Fin 3 → Nat :=
  let c1_787 : Index := 1#32
  let c0_i32_295 : BitVec 32 := 0#32
  let c1_i32_297 : BitVec 32 := 1#32
  let arg20 : BitVec 32 := Scf.iv c0_i32_295 c1_i32_297 k0_t4
  let c256_i32 : BitVec 32 := 256#32
  let v1169 : BitVec 32 := Scalar.muli arg20 c256_i32
  let v1170 : BitVec 32 := v1169
  let v1185 : Index := Scalar.indexCast v1170
  let c0_788 : Index := 0#32
  ![1, v1185.toNat, 0]
def k0_off53 (k0_t4 : Fin k0_t4_loop.trips) : Fin 3 → Nat :=
  let c2_794 : Index := 2#32
  let c0_i32_295 : BitVec 32 := 0#32
  let c1_i32_297 : BitVec 32 := 1#32
  let arg20 : BitVec 32 := Scf.iv c0_i32_295 c1_i32_297 k0_t4
  let c256_i32 : BitVec 32 := 256#32
  let v1169 : BitVec 32 := Scalar.muli arg20 c256_i32
  let v1170 : BitVec 32 := v1169
  let v1204 : Index := Scalar.indexCast v1170
  let c0_795 : Index := 0#32
  ![2, v1204.toNat, 0]
def k0_off54 (k0_t4 : Fin k0_t4_loop.trips) : Fin 3 → Nat :=
  let c2_800 : Index := 2#32
  let c0_801 : Index := 0#32
  let c0_i32_295 : BitVec 32 := 0#32
  let c1_i32_297 : BitVec 32 := 1#32
  let arg20 : BitVec 32 := Scf.iv c0_i32_295 c1_i32_297 k0_t4
  let c256_i32 : BitVec 32 := 256#32
  let v1169 : BitVec 32 := Scalar.muli arg20 c256_i32
  let v1170 : BitVec 32 := v1169
  let v1229 : Index := Scalar.indexCast v1170
  ![2, 0, v1229.toNat]
@[reducible] def k0_t5_loop : Scf.Loop 32 :=
  let c0_i32_355 : BitVec 32 := 0#32
  let c8_i32_356 : BitVec 32 := 8#32
  let v524 : BitVec 32 := Scalar.addi c0_i32_355 c8_i32_356
  let c1_i32_357 : BitVec 32 := 1#32
  ⟨c0_i32_355, v524, c1_i32_357⟩
def k0_mult5 (k0_t5 : Fin k0_t5_loop.trips) : BitVec 32 :=
  let c0_i32_355 : BitVec 32 := 0#32
  let c1_i32_357 : BitVec 32 := 1#32
  let arg20 : BitVec 32 := Scf.iv c0_i32_355 c1_i32_357 k0_t5
  let c256_i32 : BitVec 32 := 256#32
  let v1169 : BitVec 32 := Scalar.muli arg20 c256_i32
  v1169
def k0_off55 (i : grid0.Coords) (k0_t5 : Fin k0_t5_loop.trips) : Fin 2 → Nat :=
  let arg0 : BitVec 32 := BitVec.ofNat 32 (i 0).val
  let v1171 : Index := Scalar.indexCast arg0
  let c0_i32_355 : BitVec 32 := 0#32
  let c1_i32_357 : BitVec 32 := 1#32
  let arg20 : BitVec 32 := Scf.iv c0_i32_355 c1_i32_357 k0_t5
  let c256_i32 : BitVec 32 := 256#32
  let v1169 : BitVec 32 := Scalar.muli arg20 c256_i32
  let v1170 : BitVec 32 := v1169
  let v1172 : Index := Scalar.indexCast v1170
  ![v1171.toNat, v1172.toNat]
def k0_off56 (k0_t5 : Fin k0_t5_loop.trips) : Fin 3 → Nat :=
  let c1_787 : Index := 1#32
  let c0_i32_355 : BitVec 32 := 0#32
  let c1_i32_357 : BitVec 32 := 1#32
  let arg20 : BitVec 32 := Scf.iv c0_i32_355 c1_i32_357 k0_t5
  let c256_i32 : BitVec 32 := 256#32
  let v1169 : BitVec 32 := Scalar.muli arg20 c256_i32
  let v1170 : BitVec 32 := v1169
  let v1185 : Index := Scalar.indexCast v1170
  let c128 : Index := 128#32
  ![1, v1185.toNat, 128]
def k0_off57 (k0_t5 : Fin k0_t5_loop.trips) : Fin 3 → Nat :=
  let c3_793 : Index := 3#32
  let c0_i32_355 : BitVec 32 := 0#32
  let c1_i32_357 : BitVec 32 := 1#32
  let arg20 : BitVec 32 := Scf.iv c0_i32_355 c1_i32_357 k0_t5
  let c256_i32 : BitVec 32 := 256#32
  let v1169 : BitVec 32 := Scalar.muli arg20 c256_i32
  let v1170 : BitVec 32 := v1169
  let v1204 : Index := Scalar.indexCast v1170
  let c0_794 : Index := 0#32
  ![3, v1204.toNat, 0]
def k0_off58 (k0_t5 : Fin k0_t5_loop.trips) : Fin 3 → Nat :=
  let c3_799 : Index := 3#32
  let c0_800 : Index := 0#32
  let c0_i32_355 : BitVec 32 := 0#32
  let c1_i32_357 : BitVec 32 := 1#32
  let arg20 : BitVec 32 := Scf.iv c0_i32_355 c1_i32_357 k0_t5
  let c256_i32 : BitVec 32 := 256#32
  let v1169 : BitVec 32 := Scalar.muli arg20 c256_i32
  let v1170 : BitVec 32 := v1169
  let v1229 : Index := Scalar.indexCast v1170
  ![3, 0, v1229.toNat]
@[reducible] def k0_t6_loop : Scf.Loop 32 :=
  let c0_i32_490 : BitVec 32 := 0#32
  let c8_i32_491 : BitVec 32 := 8#32
  let v725 : BitVec 32 := Scalar.addi c0_i32_490 c8_i32_491
  let c1_i32_492 : BitVec 32 := 1#32
  ⟨c0_i32_490, v725, c1_i32_492⟩
def k0_mult6 (k0_t6 : Fin k0_t6_loop.trips) : BitVec 32 :=
  let c0_i32_490 : BitVec 32 := 0#32
  let c1_i32_492 : BitVec 32 := 1#32
  let arg20 : BitVec 32 := Scf.iv c0_i32_490 c1_i32_492 k0_t6
  let c256_i32 : BitVec 32 := 256#32
  let v1169 : BitVec 32 := Scalar.muli arg20 c256_i32
  v1169
def k0_off59 (i : grid0.Coords) (k0_t6 : Fin k0_t6_loop.trips) : Fin 2 → Nat :=
  let arg0 : BitVec 32 := BitVec.ofNat 32 (i 0).val
  let v1171 : Index := Scalar.indexCast arg0
  let c0_i32_490 : BitVec 32 := 0#32
  let c1_i32_492 : BitVec 32 := 1#32
  let arg20 : BitVec 32 := Scf.iv c0_i32_490 c1_i32_492 k0_t6
  let c256_i32 : BitVec 32 := 256#32
  let v1169 : BitVec 32 := Scalar.muli arg20 c256_i32
  let v1170 : BitVec 32 := v1169
  let v1172 : Index := Scalar.indexCast v1170
  ![v1171.toNat, v1172.toNat]
def k0_off60 (k0_t6 : Fin k0_t6_loop.trips) : Fin 3 → Nat :=
  let c2_787 : Index := 2#32
  let c0_i32_490 : BitVec 32 := 0#32
  let c1_i32_492 : BitVec 32 := 1#32
  let arg20 : BitVec 32 := Scf.iv c0_i32_490 c1_i32_492 k0_t6
  let c256_i32 : BitVec 32 := 256#32
  let v1169 : BitVec 32 := Scalar.muli arg20 c256_i32
  let v1170 : BitVec 32 := v1169
  let v1185 : Index := Scalar.indexCast v1170
  let c0_788 : Index := 0#32
  ![2, v1185.toNat, 0]
def k0_off61 (k0_t6 : Fin k0_t6_loop.trips) : Fin 3 → Nat :=
  let c4_794 : Index := 4#32
  let c0_i32_490 : BitVec 32 := 0#32
  let c1_i32_492 : BitVec 32 := 1#32
  let arg20 : BitVec 32 := Scf.iv c0_i32_490 c1_i32_492 k0_t6
  let c256_i32 : BitVec 32 := 256#32
  let v1169 : BitVec 32 := Scalar.muli arg20 c256_i32
  let v1170 : BitVec 32 := v1169
  let v1204 : Index := Scalar.indexCast v1170
  let c0_795 : Index := 0#32
  ![4, v1204.toNat, 0]
def k0_off62 (k0_t6 : Fin k0_t6_loop.trips) : Fin 3 → Nat :=
  let c4_800 : Index := 4#32
  let c0_801 : Index := 0#32
  let c0_i32_490 : BitVec 32 := 0#32
  let c1_i32_492 : BitVec 32 := 1#32
  let arg20 : BitVec 32 := Scf.iv c0_i32_490 c1_i32_492 k0_t6
  let c256_i32 : BitVec 32 := 256#32
  let v1169 : BitVec 32 := Scalar.muli arg20 c256_i32
  let v1170 : BitVec 32 := v1169
  let v1229 : Index := Scalar.indexCast v1170
  ![4, 0, v1229.toNat]
@[reducible] def k0_t7_loop : Scf.Loop 32 :=
  let c0_i32_550 : BitVec 32 := 0#32
  let c8_i32_551 : BitVec 32 := 8#32
  let v814 : BitVec 32 := Scalar.addi c0_i32_550 c8_i32_551
  let c1_i32_552 : BitVec 32 := 1#32
  ⟨c0_i32_550, v814, c1_i32_552⟩
def k0_mult7 (k0_t7 : Fin k0_t7_loop.trips) : BitVec 32 :=
  let c0_i32_550 : BitVec 32 := 0#32
  let c1_i32_552 : BitVec 32 := 1#32
  let arg20 : BitVec 32 := Scf.iv c0_i32_550 c1_i32_552 k0_t7
  let c256_i32 : BitVec 32 := 256#32
  let v1169 : BitVec 32 := Scalar.muli arg20 c256_i32
  v1169
def k0_off63 (i : grid0.Coords) (k0_t7 : Fin k0_t7_loop.trips) : Fin 2 → Nat :=
  let arg0 : BitVec 32 := BitVec.ofNat 32 (i 0).val
  let v1171 : Index := Scalar.indexCast arg0
  let c0_i32_550 : BitVec 32 := 0#32
  let c1_i32_552 : BitVec 32 := 1#32
  let arg20 : BitVec 32 := Scf.iv c0_i32_550 c1_i32_552 k0_t7
  let c256_i32 : BitVec 32 := 256#32
  let v1169 : BitVec 32 := Scalar.muli arg20 c256_i32
  let v1170 : BitVec 32 := v1169
  let v1172 : Index := Scalar.indexCast v1170
  ![v1171.toNat, v1172.toNat]
def k0_off64 (k0_t7 : Fin k0_t7_loop.trips) : Fin 3 → Nat :=
  let c2_787 : Index := 2#32
  let c0_i32_550 : BitVec 32 := 0#32
  let c1_i32_552 : BitVec 32 := 1#32
  let arg20 : BitVec 32 := Scf.iv c0_i32_550 c1_i32_552 k0_t7
  let c256_i32 : BitVec 32 := 256#32
  let v1169 : BitVec 32 := Scalar.muli arg20 c256_i32
  let v1170 : BitVec 32 := v1169
  let v1185 : Index := Scalar.indexCast v1170
  let c128 : Index := 128#32
  ![2, v1185.toNat, 128]
def k0_off65 (k0_t7 : Fin k0_t7_loop.trips) : Fin 3 → Nat :=
  let c5_793 : Index := 5#32
  let c0_i32_550 : BitVec 32 := 0#32
  let c1_i32_552 : BitVec 32 := 1#32
  let arg20 : BitVec 32 := Scf.iv c0_i32_550 c1_i32_552 k0_t7
  let c256_i32 : BitVec 32 := 256#32
  let v1169 : BitVec 32 := Scalar.muli arg20 c256_i32
  let v1170 : BitVec 32 := v1169
  let v1204 : Index := Scalar.indexCast v1170
  let c0_794 : Index := 0#32
  ![5, v1204.toNat, 0]
def k0_off66 (k0_t7 : Fin k0_t7_loop.trips) : Fin 3 → Nat :=
  let c5_799 : Index := 5#32
  let c0_800 : Index := 0#32
  let c0_i32_550 : BitVec 32 := 0#32
  let c1_i32_552 : BitVec 32 := 1#32
  let arg20 : BitVec 32 := Scf.iv c0_i32_550 c1_i32_552 k0_t7
  let c256_i32 : BitVec 32 := 256#32
  let v1169 : BitVec 32 := Scalar.muli arg20 c256_i32
  let v1170 : BitVec 32 := v1169
  let v1229 : Index := Scalar.indexCast v1170
  ![5, 0, v1229.toNat]
@[reducible] def k0_t8_loop : Scf.Loop 32 :=
  let c0_i32_685 : BitVec 32 := 0#32
  let c8_i32_686 : BitVec 32 := 8#32
  let v1015 : BitVec 32 := Scalar.addi c0_i32_685 c8_i32_686
  let c1_i32_687 : BitVec 32 := 1#32
  ⟨c0_i32_685, v1015, c1_i32_687⟩
def k0_mult8 (k0_t8 : Fin k0_t8_loop.trips) : BitVec 32 :=
  let c0_i32_685 : BitVec 32 := 0#32
  let c1_i32_687 : BitVec 32 := 1#32
  let arg20 : BitVec 32 := Scf.iv c0_i32_685 c1_i32_687 k0_t8
  let c256_i32 : BitVec 32 := 256#32
  let v1169 : BitVec 32 := Scalar.muli arg20 c256_i32
  v1169
def k0_off67 (i : grid0.Coords) (k0_t8 : Fin k0_t8_loop.trips) : Fin 2 → Nat :=
  let arg0 : BitVec 32 := BitVec.ofNat 32 (i 0).val
  let v1171 : Index := Scalar.indexCast arg0
  let c0_i32_685 : BitVec 32 := 0#32
  let c1_i32_687 : BitVec 32 := 1#32
  let arg20 : BitVec 32 := Scf.iv c0_i32_685 c1_i32_687 k0_t8
  let c256_i32 : BitVec 32 := 256#32
  let v1169 : BitVec 32 := Scalar.muli arg20 c256_i32
  let v1170 : BitVec 32 := v1169
  let v1172 : Index := Scalar.indexCast v1170
  ![v1171.toNat, v1172.toNat]
def k0_off68 (k0_t8 : Fin k0_t8_loop.trips) : Fin 3 → Nat :=
  let c3_787 : Index := 3#32
  let c0_i32_685 : BitVec 32 := 0#32
  let c1_i32_687 : BitVec 32 := 1#32
  let arg20 : BitVec 32 := Scf.iv c0_i32_685 c1_i32_687 k0_t8
  let c256_i32 : BitVec 32 := 256#32
  let v1169 : BitVec 32 := Scalar.muli arg20 c256_i32
  let v1170 : BitVec 32 := v1169
  let v1185 : Index := Scalar.indexCast v1170
  let c0_788 : Index := 0#32
  ![3, v1185.toNat, 0]
def k0_off69 (k0_t8 : Fin k0_t8_loop.trips) : Fin 3 → Nat :=
  let c6_794 : Index := 6#32
  let c0_i32_685 : BitVec 32 := 0#32
  let c1_i32_687 : BitVec 32 := 1#32
  let arg20 : BitVec 32 := Scf.iv c0_i32_685 c1_i32_687 k0_t8
  let c256_i32 : BitVec 32 := 256#32
  let v1169 : BitVec 32 := Scalar.muli arg20 c256_i32
  let v1170 : BitVec 32 := v1169
  let v1204 : Index := Scalar.indexCast v1170
  let c0_795 : Index := 0#32
  ![6, v1204.toNat, 0]
def k0_off70 (k0_t8 : Fin k0_t8_loop.trips) : Fin 3 → Nat :=
  let c6_800 : Index := 6#32
  let c0_801 : Index := 0#32
  let c0_i32_685 : BitVec 32 := 0#32
  let c1_i32_687 : BitVec 32 := 1#32
  let arg20 : BitVec 32 := Scf.iv c0_i32_685 c1_i32_687 k0_t8
  let c256_i32 : BitVec 32 := 256#32
  let v1169 : BitVec 32 := Scalar.muli arg20 c256_i32
  let v1170 : BitVec 32 := v1169
  let v1229 : Index := Scalar.indexCast v1170
  ![6, 0, v1229.toNat]
@[reducible] def k0_t9_loop : Scf.Loop 32 :=
  let c0_i32_745 : BitVec 32 := 0#32
  let c8_i32_746 : BitVec 32 := 8#32
  let v1104 : BitVec 32 := Scalar.addi c0_i32_745 c8_i32_746
  let c1_i32_747 : BitVec 32 := 1#32
  ⟨c0_i32_745, v1104, c1_i32_747⟩
def k0_mult9 (k0_t9 : Fin k0_t9_loop.trips) : BitVec 32 :=
  let c0_i32_745 : BitVec 32 := 0#32
  let c1_i32_747 : BitVec 32 := 1#32
  let arg20 : BitVec 32 := Scf.iv c0_i32_745 c1_i32_747 k0_t9
  let c256_i32 : BitVec 32 := 256#32
  let v1169 : BitVec 32 := Scalar.muli arg20 c256_i32
  v1169
def k0_off71 (i : grid0.Coords) (k0_t9 : Fin k0_t9_loop.trips) : Fin 2 → Nat :=
  let arg0 : BitVec 32 := BitVec.ofNat 32 (i 0).val
  let v1171 : Index := Scalar.indexCast arg0
  let c0_i32_745 : BitVec 32 := 0#32
  let c1_i32_747 : BitVec 32 := 1#32
  let arg20 : BitVec 32 := Scf.iv c0_i32_745 c1_i32_747 k0_t9
  let c256_i32 : BitVec 32 := 256#32
  let v1169 : BitVec 32 := Scalar.muli arg20 c256_i32
  let v1170 : BitVec 32 := v1169
  let v1172 : Index := Scalar.indexCast v1170
  ![v1171.toNat, v1172.toNat]
def k0_off72 (k0_t9 : Fin k0_t9_loop.trips) : Fin 3 → Nat :=
  let c3_787 : Index := 3#32
  let c0_i32_745 : BitVec 32 := 0#32
  let c1_i32_747 : BitVec 32 := 1#32
  let arg20 : BitVec 32 := Scf.iv c0_i32_745 c1_i32_747 k0_t9
  let c256_i32 : BitVec 32 := 256#32
  let v1169 : BitVec 32 := Scalar.muli arg20 c256_i32
  let v1170 : BitVec 32 := v1169
  let v1185 : Index := Scalar.indexCast v1170
  let c128 : Index := 128#32
  ![3, v1185.toNat, 128]
def k0_off73 (k0_t9 : Fin k0_t9_loop.trips) : Fin 3 → Nat :=
  let c7_793 : Index := 7#32
  let c0_i32_745 : BitVec 32 := 0#32
  let c1_i32_747 : BitVec 32 := 1#32
  let arg20 : BitVec 32 := Scf.iv c0_i32_745 c1_i32_747 k0_t9
  let c256_i32 : BitVec 32 := 256#32
  let v1169 : BitVec 32 := Scalar.muli arg20 c256_i32
  let v1170 : BitVec 32 := v1169
  let v1204 : Index := Scalar.indexCast v1170
  let c0_794 : Index := 0#32
  ![7, v1204.toNat, 0]
def k0_off74 (k0_t9 : Fin k0_t9_loop.trips) : Fin 3 → Nat :=
  let c7_799 : Index := 7#32
  let c0_800 : Index := 0#32
  let c0_i32_745 : BitVec 32 := 0#32
  let c1_i32_747 : BitVec 32 := 1#32
  let arg20 : BitVec 32 := Scf.iv c0_i32_745 c1_i32_747 k0_t9
  let c256_i32 : BitVec 32 := 256#32
  let v1169 : BitVec 32 := Scalar.muli arg20 c256_i32
  let v1170 : BitVec 32 := v1169
  let v1229 : Index := Scalar.indexCast v1170
  ![7, 0, v1229.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x8x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x8x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x16x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S6x2048x16x128 : Shape := ⟨4, ![6, 2048, 16, 128]⟩
abbrev S6x2048 : Shape := ⟨2, ![6, 2048]⟩
abbrev S6 : Shape := ⟨1, ![6]⟩
abbrev S6x2048x8x128 : Shape := ⟨4, ![6, 2048, 8, 128]⟩
abbrev S6x2048x8 : Shape := ⟨3, ![6, 2048, 8]⟩
abbrev S6x2048x16 : Shape := ⟨3, ![6, 2048, 16]⟩
abbrev S6x2048x16x1 : Shape := ⟨4, ![6, 2048, 16, 1]⟩
abbrev S6x8x2048 : Shape := ⟨3, ![6, 8, 2048]⟩
abbrev S6x8x1x1x2048 : Shape := ⟨5, ![6, 8, 1, 1, 2048]⟩
abbrev S6x2048x8x2x128 : Shape := ⟨5, ![6, 2048, 8, 2, 128]⟩
abbrev S6x8x2048x2048x2 : Shape := ⟨5, ![6, 8, 2048, 2048, 2]⟩
abbrev S6x8x2x2048x2048 : Shape := ⟨5, ![6, 8, 2, 2048, 2048]⟩
abbrev S6x2048x8x2 : Shape := ⟨4, ![6, 2048, 8, 2]⟩
abbrev S6x8x2x2048 : Shape := ⟨4, ![6, 8, 2, 2048]⟩
abbrev S6x8x2x2048x1 : Shape := ⟨5, ![6, 8, 2, 2048, 1]⟩
abbrev S_ : Shape := ⟨0, ![]⟩
abbrev S6x2048x1 : Shape := ⟨3, ![6, 2048, 1]⟩
abbrev S6x1x2048 : Shape := ⟨3, ![6, 1, 2048]⟩
abbrev S6x2048x2048 : Shape := ⟨3, ![6, 2048, 2048]⟩
abbrev S6x1x1 : Shape := ⟨3, ![6, 1, 1]⟩
abbrev S6x1x1x2048x2048 : Shape := ⟨5, ![6, 1, 1, 2048, 2048]⟩
abbrev S6x8x128x2x2048 : Shape := ⟨5, ![6, 8, 128, 2, 2048]⟩
abbrev S6x2048x8x2x1 : Shape := ⟨5, ![6, 2048, 8, 2, 1]⟩
abbrev S6x16x2048 : Shape := ⟨3, ![6, 16, 2048]⟩

abbrev nBuf : Space → Nat
  | .hbm => 97
  | .vmem => 8
  | .smem => 0
  | _ => 0

abbrev bufTy : (tb : Table) → Fin (tcTables nBuf tb) → BufTy
  | .hbm, ⟨0, _⟩ => ⟨S6x2048x16x128, .bf16⟩
  | .hbm, ⟨1, _⟩ => ⟨S6x2048, .i32⟩
  | .hbm, ⟨2, _⟩ => ⟨S6x2048, .i32⟩
  | .hbm, ⟨3, _⟩ => ⟨S6, .i32⟩
  | .hbm, ⟨4, _⟩ => ⟨S6x2048x8x128, .fp8e4m3⟩
  | .hbm, ⟨5, _⟩ => ⟨S6x2048x8, .f32⟩
  | .hbm, ⟨6, _⟩ => ⟨S6x2048x8x128, .fp8e4m3⟩
  | .hbm, ⟨7, _⟩ => ⟨S6x2048x8, .f32⟩
  | .hbm, ⟨8, _⟩ => ⟨S6x2048x16x128, .f32⟩
  | .hbm, ⟨9, _⟩ => ⟨S6x2048x16, .f32⟩
  | .hbm, ⟨10, _⟩ => ⟨S6x2048x16x128, .fp8e4m3⟩
  | .hbm, ⟨11, _⟩ => ⟨S6x2048x16, .f32⟩
  | .hbm, ⟨12, _⟩ => ⟨S6x2048x16x128, .f32⟩
  | .hbm, ⟨13, _⟩ => ⟨S6x2048x8x128, .f32⟩
  | .hbm, ⟨14, _⟩ => ⟨S6x2048x8x128, .bf16⟩
  | .hbm, ⟨15, _⟩ => ⟨S6x8x2048, .f32⟩
  | .hbm, ⟨16, _⟩ => ⟨S6x8x1x1x2048, .f32⟩
  | .hbm, ⟨17, _⟩ => ⟨S6x8x2048, .f32⟩
  | .hbm, ⟨18, _⟩ => ⟨S6x8x1x1x2048, .f32⟩
  | .hbm, ⟨19, _⟩ => ⟨S6x2048x8x2x128, .f32⟩
  | .hbm, ⟨20, _⟩ => ⟨S6x8x2048x2048x2, .f32⟩
  | .hbm, ⟨21, _⟩ => ⟨S6x8x2x2048x2048, .f32⟩
  | .hbm, ⟨22, _⟩ => ⟨S6x2048x8x2, .f32⟩
  | .hbm, ⟨23, _⟩ => ⟨S6x8x2x2048, .f32⟩
  | .hbm, ⟨24, _⟩ => ⟨S6x8x2x2048x1, .f32⟩
  | .hbm, ⟨25, _⟩ => ⟨S6x8x2x2048x2048, .f32⟩
  | .hbm, ⟨26, _⟩ => ⟨S6x8x2x2048x2048, .f32⟩
  | .hbm, ⟨27, _⟩ => ⟨S6x8x2x2048x2048, .f32⟩
  | .hbm, ⟨28, _⟩ => ⟨S6x8x2x2048x2048, .f32⟩
  | .hbm, ⟨29, _⟩ => ⟨S_, .f32⟩
  | .hbm, ⟨30, _⟩ => ⟨S6x8x2x2048x2048, .f32⟩
  | .hbm, ⟨31, _⟩ => ⟨S6x8x2x2048x2048, .f32⟩
  | .hbm, ⟨32, _⟩ => ⟨S6x2048x1, .i32⟩
  | .hbm, ⟨33, _⟩ => ⟨S6x1x2048, .i32⟩
  | .hbm, ⟨34, _⟩ => ⟨S6x2048x2048, .i32⟩
  | .hbm, ⟨35, _⟩ => ⟨S6x2048x2048, .i32⟩
  | .hbm, ⟨36, _⟩ => ⟨S6x2048x2048, .i1⟩
  | .hbm, ⟨37, _⟩ => ⟨S6x1x1, .i32⟩
  | .hbm, ⟨38, _⟩ => ⟨S6x2048x1, .i32⟩
  | .hbm, ⟨39, _⟩ => ⟨S6x2048x1, .i32⟩
  | .hbm, ⟨40, _⟩ => ⟨S6x2048x2048, .i32⟩
  | .hbm, ⟨41, _⟩ => ⟨S6x2048x2048, .i32⟩
  | .hbm, ⟨42, _⟩ => ⟨S6x2048x2048, .i1⟩
  | .hbm, ⟨43, _⟩ => ⟨S6x2048x2048, .i1⟩
  | .hbm, ⟨44, _⟩ => ⟨S6x1x1x2048x2048, .i1⟩
  | .hbm, ⟨45, _⟩ => ⟨S_, .f32⟩
  | .hbm, ⟨46, _⟩ => ⟨S_, .f32⟩
  | .hbm, ⟨47, _⟩ => ⟨S6x8x2x2048x2048, .i1⟩
  | .hbm, ⟨48, _⟩ => ⟨S6x8x2x2048x2048, .f32⟩
  | .hbm, ⟨49, _⟩ => ⟨S6x8x2x2048x2048, .f32⟩
  | .hbm, ⟨50, _⟩ => ⟨S6x2048x8x2, .f32⟩
  | .hbm, ⟨51, _⟩ => ⟨S6x8x2x2048, .f32⟩
  | .hbm, ⟨52, _⟩ => ⟨S_, .f32⟩
  | .hbm, ⟨53, _⟩ => ⟨S6x8x2x2048, .f32⟩
  | .hbm, ⟨54, _⟩ => ⟨S6x8x2x2048, .f32⟩
  | .hbm, ⟨55, _⟩ => ⟨S6x8x2x2048, .f32⟩
  | .hbm, ⟨56, _⟩ => ⟨S6x8x2x2048, .f32⟩
  | .hbm, ⟨57, _⟩ => ⟨S_, .f32⟩
  | .hbm, ⟨58, _⟩ => ⟨S6x8x2x2048, .f32⟩
  | .hbm, ⟨59, _⟩ => ⟨S6x8x2x2048, .f32⟩
  | .hbm, ⟨60, _⟩ => ⟨S6x8x2x2048x1, .f32⟩
  | .hbm, ⟨61, _⟩ => ⟨S6x8x2x2048x2048, .f32⟩
  | .hbm, ⟨62, _⟩ => ⟨S6x8x2x2048x2048, .f32⟩
  | .hbm, ⟨63, _⟩ => ⟨S_, .f32⟩
  | .hbm, ⟨64, _⟩ => ⟨S6x8x2x2048x2048, .f32⟩
  | .hbm, ⟨65, _⟩ => ⟨S6x8x2x2048x2048, .f32⟩
  | .hbm, ⟨66, _⟩ => ⟨S_, .f32⟩
  | .hbm, ⟨67, _⟩ => ⟨S6x8x2x2048, .f32⟩
  | .hbm, ⟨68, _⟩ => ⟨S6x8x2x2048, .f32⟩
  | .hbm, ⟨69, _⟩ => ⟨S6x8x2x2048x2048, .f32⟩
  | .hbm, ⟨70, _⟩ => ⟨S6x8x2x2048x2048, .f32⟩
  | .hbm, ⟨71, _⟩ => ⟨S6x8x2x2048x2048, .bf16⟩
  | .hbm, ⟨72, _⟩ => ⟨S6x8x128x2x2048, .f32⟩
  | .hbm, ⟨73, _⟩ => ⟨S6x2048x8x2x128, .f32⟩
  | .hbm, ⟨74, _⟩ => ⟨S6x2048x8x2x128, .f32⟩
  | .hbm, ⟨75, _⟩ => ⟨S6x2048x8x2, .f32⟩
  | .hbm, ⟨76, _⟩ => ⟨S6x2048x8x2x1, .f32⟩
  | .hbm, ⟨77, _⟩ => ⟨S6x2048x8x2x128, .f32⟩
  | .hbm, ⟨78, _⟩ => ⟨S6x2048x8x2x128, .f32⟩
  | .hbm, ⟨79, _⟩ => ⟨S6x2048x8x2x128, .f32⟩
  | .hbm, ⟨80, _⟩ => ⟨S6x2048x8x2, .f32⟩
  | .hbm, ⟨81, _⟩ => ⟨S6x2048x8x2x1, .f32⟩
  | .hbm, ⟨82, _⟩ => ⟨S6x2048x8x2x128, .f32⟩
  | .hbm, ⟨83, _⟩ => ⟨S6x2048x8x2x128, .f32⟩
  | .hbm, ⟨84, _⟩ => ⟨S6x8x2x2048, .f32⟩
  | .hbm, ⟨85, _⟩ => ⟨S_, .f32⟩
  | .hbm, ⟨86, _⟩ => ⟨S_, .f32⟩
  | .hbm, ⟨87, _⟩ => ⟨S6x8x2x2048, .f32⟩
  | .hbm, ⟨88, _⟩ => ⟨S6x8x2x2048, .f32⟩
  | .hbm, ⟨89, _⟩ => ⟨S6x8x2x2048, .f32⟩
  | .hbm, ⟨90, _⟩ => ⟨S_, .f32⟩
  | .hbm, ⟨91, _⟩ => ⟨S6x8x2x2048, .f32⟩
  | .hbm, ⟨92, _⟩ => ⟨S6x8x2x2048, .f32⟩
  | .hbm, ⟨93, _⟩ => ⟨S6x2048x8x2x128, .bf16⟩
  | .hbm, ⟨94, _⟩ => ⟨S6x2048x16x128, .bf16⟩
  | .hbm, ⟨95, _⟩ => ⟨S6x16x2048, .f32⟩
  | .hbm, ⟨96, _⟩ => ⟨S6x16x2048, .f32⟩
  | .local _ .vmem, ⟨0, _⟩ => ⟨S6x2048x16x128, .bf16⟩
  | .local _ .vmem, ⟨1, _⟩ => ⟨S6x2048x8x128, .fp8e4m3⟩
  | .local _ .vmem, ⟨2, _⟩ => ⟨S6x2048x8x128, .fp8e4m3⟩
  | .local _ .vmem, ⟨3, _⟩ => ⟨S6x2048x16x128, .fp8e4m3⟩
  | .local _ .vmem, ⟨4, _⟩ => ⟨S6x2048x16, .f32⟩
  | .local _ .vmem, ⟨5, _⟩ => ⟨S6x2048x16x128, .f32⟩
  | .local _ .vmem, ⟨6, _⟩ => ⟨S6x2048x8x128, .f32⟩
  | .local _ .vmem, ⟨7, _⟩ => ⟨S6x2048x8x128, .bf16⟩
  | _, _ => ⟨S6x2048x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_1 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_5 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_6 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x2048x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2048x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x2048x16x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2048x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2048x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2048x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Points.lean ====
/- The schedule of the kernel's windows on the grid, and the body as the pipeline calls it at a point. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 4 (%arg4)) is fetched at the points ≡ 0 (mod 16), at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_reads cc0_transform_1 reads0_1 hreads0_1 0 (by decide) (by decide) (Pipeline.Window.sep_of_coord cc0_transform_1 0 0 (fun _ => rfl) (by decide)) (P := 16) (by decide) t : ∀ t : Fin grid0.N, Pipeline.Window.fetchOf grid0 false cc0_transform_1 t = true ↔ t.val % 16 = 0)
/-- Window 2 (operand 5 (%arg6)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 0 (by decide) (by decide) (Pipeline.Window.sep_of_coord cc0_transform_2 0 0 (fun _ => rfl) (by decide)) (P := 16) (by decide) t : ∀ t : Fin grid0.N, Pipeline.Window.fetchOf grid0 false cc0_transform_2 t = true ↔ t.val % 16 = 0)
/-- Window 3 (operand 6 (%arg5)) is fetched at the points ≡ 0 (mod 16), at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_reads cc0_transform_3 reads0_3 hreads0_3 0 (by decide) (by decide) (Pipeline.Window.sep_of_coord cc0_transform_3 0 0 (fun _ => rfl) (by decide)) (P := 16) (by decide) t : ∀ t : Fin grid0.N, Pipeline.Window.fetchOf grid0 false cc0_transform_3 t = true ↔ t.val % 16 = 0)
/-- Window 4 (operand 7 (%arg7)) is fetched at the points ≡ 0 (mod 16), at any contents of the tables (its index map reads none). -/
theorem fetch0_4 (a : (pcfg0 (F := F)).Adm) : ∀ t : Fin (cfg0 a).N, ((cfg0 a).win 4).fetch t = true ↔ t.val % 16 = 0 :=
  (fun t => Pipeline.Window.fetchOf_reads cc0_transform_4 reads0_4 hreads0_4 0 (by decide) (by decide) (Pipeline.Window.sep_of_coord cc0_transform_4 0 0 (fun _ => rfl) (by decide)) (P := 16) (by decide) t : ∀ t : Fin grid0.N, Pipeline.Window.fetchOf grid0 false cc0_transform_4 t = true ↔ t.val % 16 = 0)
/-- Window 5 (operand 8 (%arg8)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 1 (fun _ => rfl) (by decide)) (P := 1) (by decide) t).mpr (Nat.mod_one _) : ∀ t : Fin grid0.N, Pipeline.Window.fetchOf grid0 false cc0_transform_5 t = true)
/-- Window 6 (operand 9 (%arg9)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 2 (fun _ => rfl) (by decide)) (P := 1) (by decide) t).mpr (Nat.mod_one _) : ∀ t : Fin grid0.N, Pipeline.Window.fetchOf grid0 false cc0_transform_6 t = true)
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 2 (fun _ => rfl) (by decide)) (P := 1) (m := 0) (by decide) rfl t).mpr (Nat.mod_one _) : ∀ t : Fin grid0.N, Pipeline.Window.flushOf grid0 true cc0_transform_8 t = true)
/-- Window 9 (result 2 (%0#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 1 (fun _ => rfl) (by decide)) (P := 1) (m := 0) (by decide) rfl t).mpr (Nat.mod_one _) : ∀ t : Fin grid0.N, Pipeline.Window.flushOf grid0 true cc0_transform_9 t = true)
/-- Window 10 (result 3 (%0#3)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 2 (fun _ => rfl) (by decide)) (P := 1) (m := 0) (by decide) rfl t).mpr (Nat.mod_one _) : ∀ t : Fin grid0.N, Pipeline.Window.flushOf grid0 true cc0_transform_10 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ring_window_attention (grid0.coords t) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel.Gen

end
-- ==== Proof.Kernel.Trip.lean ====
/- One key block of the kernel's inner loop, stated once for all eight pairs of heads: the program a trip of each of the
   eight printed loops is, and what a trip does to the three carried arrays. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loops carry: the running maximum, the running sum, the running weighted sum of values. -/
abbrev Carry (F : FTy → Type) : Type := FVec F S1x256 .f32 × FVec F S1x256 .f32 × FVec F S128x256 .f32

/-- The kernel's test that a block of keys starting at position `k0` meets the window of a block of queries starting at
    `q0`: some key is at or before the last query, and some key is inside the window of the first. -/
abbrev blockLive (w q0 k0 : BitVec 32) : Prop :=
  Scalar.cmpi .ne (Scalar.extui (Scalar.andi (Scalar.cmpi .sle k0 (Scalar.subi (Scalar.addi q0 128#32) 1#32))
    (Scalar.cmpi .sgt (Scalar.subi (Scalar.addi k0 256#32) 1#32) (Scalar.subi q0 w)))) 0#32 = 1#1

/-- The carried arrays after a live block of keys. -/
abbrev liveNext (w q0 : Elt F .i32) (qt : FVec F S128x256 .fp8e4m3) (qs : FVec F S1x256 .f32) (k0 : Elt F .i32)
    (kb : Vec F S1x256x128 .fp8e4m3) (ks vs : Vec F S1x256x128 .f32) (vt : Vec F S1x128x256 .bf16) (acc : Carry F) : Carry F :=
  (k0_pay43 w q0 qt qs acc.1 k0 kb ks, k0_pay46 w q0 qt qs acc.1 acc.2.1 k0 kb ks,
    k0_pay110 acc.2.2 (k0_pay41 vs) (k0_pay44 w q0 qt qs acc.1 k0 kb ks) (k0_pay45 w q0 qt qs acc.1 k0 kb ks) vt)

/-- One trip as a program: read the block's first position, and when the block is live read its codes and scales and
    update the carried arrays. -/
def unitBody (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (o3 : Fin 2 → ℕ) (h3 : ∀ a, o3 a + S1x1.size a ≤ S6x2048.size a) (oK : Fin 3 → ℕ) (hK : ∀ a, oK a + S1x256x128.size a ≤ S4x2048x256.size a)
    (oS : Fin 3 → ℕ) (hS : ∀ a, oS a + S1x256x128.size a ≤ S8x2048x128.size a) (oV : Fin 3 → ℕ) (hV : ∀ a, oV a + S1x128x256.size a ≤ S8x128x2048.size a)
    (w q0 : Elt F .i32) (qt : FVec F S128x256 .fp8e4m3) (qs : FVec F S1x256 .f32) (acc : Carry F) :
    Prog (TpuEff nD τ sig (Elt F) Λ₀ .tc) (Carry F) := do
  let k0 : Elt F .i32 ← smemLoad arg3 (Rect.unit (s := S6x2048) o3 S1x1.size h3) numel1_S1x1 rfl
  if blockLive w q0 k0 then do
    let kb : Vec F S1x256x128 .fp8e4m3 ← Prog.lift (.load arg16 (Rect.unit (s := S4x2048x256) oK S1x256x128.size hK).toLoadRect (View.loadsAt_vmem h_S1x256x128))
    let ks : Vec F S1x256x128 .f32 ← Prog.lift (.load arg18 (Rect.unit (s := S8x2048x128) oS S1x256x128.size hS).toLoadRect (View.loadsAt_vmem h_S1x256x128))
    let vs : Vec F S1x256x128 .f32 ← Prog.lift (.load arg19 (Rect.unit (s := S8x2048x128) oS S1x256x128.size hS).toLoadRect (View.loadsAt_vmem h_S1x256x128))
    let vt : Vec F S1x128x256 .bf16 ← Prog.lift (.load arg17 (Rect.unit (s := S8x128x2048) oV S1x128x256.size hV).toLoadRect (View.loadsAt_vmem h_S1x128x256))
    pure (liveNext w q0 qt qs k0 kb ks vs vt acc)
  else pure acc

/-- The five buffers a trip reads, at their contents. -/
abbrev unitHeld (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty) : sProp 𝕄 :=
  iprop((arg3.view.loc (c : Thread nD τ) ↦{fullShare.right} X3) ∗ (arg16.view.loc (c : Thread nD τ) ↦[arg16.view.set]{fullShare} X16)
    ∗ (arg17.view.loc (c : Thread nD τ) ↦[arg17.view.set]{fullShare} X17) ∗ (arg18.view.loc (c : Thread nD τ) ↦[arg18.view.set]{fullShare} X18)
    ∗ (arg19.view.loc (c : Thread nD τ) ↦[arg19.view.set]{fullShare} X19))

/-- The word of the table `arg3` at `o3`. -/
def tableWord (c : Dev nD) (arg3 : Memref sig .tc .smem S6x2048 .i32) (X3 : Buf (Elt F) (arg3.view.loc (c : Thread nD τ)))
    (o3 : Fin 2 → ℕ) (h3 : ∀ a, o3 a + S1x1.size a ≤ S6x2048.size a) : Elt F .i32 :=
  View.readAt (Elt F) arg3.view (Rect.unit (s := S6x2048) o3 S1x1.size h3).toLoadRect X3 (Shape.Idx.first (numel1_S1x1.symm ▸ Nat.one_pos))

/-- The carried arrays after one trip, off the buffers it reads. -/
def unitNext (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty)
    (o3 : Fin 2 → ℕ) (h3 : ∀ a, o3 a + S1x1.size a ≤ S6x2048.size a) (oK : Fin 3 → ℕ) (hK : ∀ a, oK a + S1x256x128.size a ≤ S4x2048x256.size a)
    (oS : Fin 3 → ℕ) (hS : ∀ a, oS a + S1x256x128.size a ≤ S8x2048x128.size a) (oV : Fin 3 → ℕ) (hV : ∀ a, oV a + S1x128x256.size a ≤ S8x128x2048.size a)
    (w q0 : Elt F .i32) (qt : FVec F S128x256 .fp8e4m3) (qs : FVec F S1x256 .f32) (acc : Carry F) : Carry F :=
  if blockLive w q0 (tableWord c arg3 X3 o3 h3) then
    liveNext w q0 qt qs (tableWord c arg3 X3 o3 h3) (View.readAt (Elt F) arg16.view (Rect.unit (s := S4x2048x256) oK S1x256x128.size hK).toLoadRect X16)
      (View.readAt (Elt F) arg18.view (Rect.unit (s := S8x2048x128) oS S1x256x128.size hS).toLoadRect X18)
      (View.readAt (Elt F) arg19.view (Rect.unit (s := S8x2048x128) oS S1x256x128.size hS).toLoadRect X19)
      (View.readAt (Elt F) arg17.view (Rect.unit (s := S8x128x2048) oV S1x128x256.size hV).toLoadRect X17) acc
  else acc

/-- One trip: it leaves the buffers as they are and yields `unitNext`. -/
theorem unit_trip (𝒱 : Variants) (bd : Option 𝒱.V) (E : Set ℕ) (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty)
    (o3 : Fin 2 → ℕ) (h3 : ∀ a, o3 a + S1x1.size a ≤ S6x2048.size a) (oK : Fin 3 → ℕ) (hK : ∀ a, oK a + S1x256x128.size a ≤ S4x2048x256.size a)
    (oS : Fin 3 → ℕ) (hS : ∀ a, oS a + S1x256x128.size a ≤ S8x2048x128.size a) (oV : Fin 3 → ℕ) (hV : ∀ a, oV a + S1x128x256.size a ≤ S8x128x2048.size a)
    (w q0 : Elt F .i32) (qt : FVec F S128x256 .fp8e4m3) (qs : FVec F S1x256 .f32) (acc : Carry F) :
    unitHeld c arg3 arg16 arg17 arg18 arg19 X3 X16 X17 X18 X19
    ⊢ wp frame (wpE (defs₀ (F := F)) 𝒱 (c : Thread nD τ) bd) E (unitBody arg3 arg16 arg17 arg18 arg19 o3 h3 oK hK oS hS oV hV w q0 qt qs acc)
      (fun y => iprop(⌜y = unitNext c arg3 arg16 arg17 arg18 arg19 X3 X16 X17 X18 X19 o3 h3 oK hK oS hS oV hV w q0 qt qs acc⌝
        ∗ unitHeld c arg3 arg16 arg17 arg18 arg19 X3 X16 X17 X18 X19)) := by
  unfold unitBody
  iintro ⟨H3, H16, H17, H18, H19⟩
  sl_exec
  split_ifs with h
  · sl_exec
    sl_step
    isplitr; · ipureintro; exact (if_pos h).symm
    isplitl [H3]; · iexact H3
    isplitl [H16]; · iexact H16
    isplitl [H17]; · iexact H17
    isplitl [H18]; · iexact H18
    iexact H19
  · sl_exec
    sl_step
    isplitr; · ipureintro; exact (if_neg h).symm
    isplitl [H3]; · iexact H3
    isplitl [H16]; · iexact H16
    isplitl [H17]; · iexact H17
    isplitl [H18]; · iexact H18
    iexact H19

/-- The carried arrays before trip `k` of a loop of `T` trips, each doing `next`. -/
def unitSt {T : ℕ} (next : Fin T → Carry F → Carry F) (init : Carry F) : ℕ → Carry F
  | 0 => init
  | k + 1 => if h : k < T then next ⟨k, h⟩ (unitSt next init k) else unitSt next init k

theorem unitSt_succ {T : ℕ} (next : Fin T → Carry F → Carry F) (init : Carry F) (k : Fin T) :
    unitSt next init (k.val + 1) = next k (unitSt next init k.val) := by
  rw [unitSt]; exact dif_pos k.isLt

/-- The invariant of a loop of such trips: the buffers as they were, the carried arrays those before trip `k`. -/
abbrev unitInv {T : ℕ} (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty) (next : Fin T → Carry F → Carry F) (init : Carry F) (k : ℕ) (acc : Carry F) : sProp 𝕄 :=
  iprop((arg3.view.loc (c : Thread nD τ) ↦{fullShare.right} X3) ∗ (arg16.view.loc (c : Thread nD τ) ↦[arg16.view.set]{fullShare} X16)
    ∗ (arg17.view.loc (c : Thread nD τ) ↦[arg17.view.set]{fullShare} X17) ∗ (arg18.view.loc (c : Thread nD τ) ↦[arg18.view.set]{fullShare} X18)
    ∗ (arg19.view.loc (c : Thread nD τ) ↦[arg19.view.set]{fullShare} X19) ∗ ⌜acc = unitSt next init k⌝)

/-- One step of that invariant, for a loop whose trip `k` is the program `unitBody`. -/
theorem unit_step {T : ℕ} (𝒱 : Variants) (bd : Option 𝒱.V) (E : Set ℕ) (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty)
    (o3 : Fin T → Fin 2 → ℕ) (h3 : ∀ k a, o3 k a + S1x1.size a ≤ S6x2048.size a) (oK : Fin T → Fin 3 → ℕ) (hK : ∀ k a, oK k a + S1x256x128.size a ≤ S4x2048x256.size a)
    (oS : Fin T → Fin 3 → ℕ) (hS : ∀ k a, oS k a + S1x256x128.size a ≤ S8x2048x128.size a) (oV : Fin T → Fin 3 → ℕ) (hV : ∀ k a, oV k a + S1x128x256.size a ≤ S8x128x2048.size a)
    (w q0 : Elt F .i32) (qt : FVec F S128x256 .fp8e4m3) (qs : FVec F S1x256 .f32) (init : Carry F) (k : Fin T) (acc : Carry F) :
    unitInv c arg3 arg16 arg17 arg18 arg19 X3 X16 X17 X18 X19 (fun k => unitNext c arg3 arg16 arg17 arg18 arg19 X3 X16 X17 X18 X19 (o3 k) (h3 k) (oK k) (hK k) (oS k) (hS k) (oV k) (hV k) w q0 qt qs) init k.val acc
    ⊢ wp frame (wpE (defs₀ (F := F)) 𝒱 (c : Thread nD τ) bd) E (unitBody arg3 arg16 arg17 arg18 arg19 (o3 k) (h3 k) (oK k) (hK k) (oS k) (hS k) (oV k) (hV k) w q0 qt qs acc)
      (fun y => unitInv c arg3 arg16 arg17 arg18 arg19 X3 X16 X17 X18 X19 (fun k => unitNext c arg3 arg16 arg17 arg18 arg19 X3 X16 X17 X18 X19 (o3 k) (h3 k) (oK k) (hK k) (oS k) (hS k) (oV k) (hV k) w q0 qt qs) init (k.val + 1) y) := by
  iintro ⟨H3, H16, H17, H18, H19, %hacc⟩
  subst hacc
  iapply (wp_wand_r Idealize.ShloMosaic.frame (wpE (defs₀ (F := F)) 𝒱 (c : Thread nD τ) bd) E)
  isplitl [H3 H16 H17 H18 H19]
  · iapply (unit_trip 𝒱 bd E c arg3 arg16 arg17 arg18 arg19 X3 X16 X17 X18 X19 (o3 k) (h3 k) (oK k) (hK k) (oS k) (hS k) (oV k) (hV k) w q0 qt qs)
    isplitl [H3]; · iexact H3
    isplitl [H16]; · iexact H16
    isplitl [H17]; · iexact H17
    isplitl [H18]; · iexact H18
    iexact H19
  · iintro %y ⟨%hy, H3, H16, H17, H18, H19⟩
    isplitl [H3]; · iexact H3
    isplitl [H16]; · iexact H16
    isplitl [H17]; · iexact H17
    isplitl [H18]; · iexact H18
    isplitl [H19]; · iexact H19
    rw [unitSt_succ]
    ipureintro; rw [hy]

end Cert.Kernel.Gen
end
-- ==== Proof.Kernel.Loops.lean ====
/- The eight printed loops over key blocks, one per pair of heads, each by the one trip of `Trip.lean`. -/
module

public import proofs.«01_k».proof.Proof.Kernel.Trip

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- Loop 2 of the printed module, heads 0 and 1. -/
@[sl_loop] def loopInv_k0_t2 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v121 : FVec F S128x256 .fp8e4m3) (v132 : FVec F S1x256 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.Kernel.Gen.LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v121 v132 init where
  inv := unitInv c arg3 arg16 arg17 arg18 arg19 X3 X16 X17 X18 X19 (fun k => unitNext c arg3 arg16 arg17 arg18 arg19 X3 X16 X17 X18 X19 (k0_off43 i k) (k0_off43_inb i k) (k0_off44 k) (k0_off44_inb k) (k0_off45 k) (k0_off45_inb k) (k0_off46 k) (k0_off46_inb k) v4 v8 v121 v132) init
  step k acc := by
    rw [show k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v121 v132 k acc
      = unitBody arg3 arg16 arg17 arg18 arg19 (k0_off43 i k) (k0_off43_inb i k) (k0_off44 k) (k0_off44_inb k) (k0_off45 k) (k0_off45_inb k) (k0_off46 k) (k0_off46_inb k) v4 v8 v121 v132 acc from by
        simp only [k0_t2_body, k0_part12_eq_skeleton]; unfold k0_part12_skel unitBody; rfl]
    exact unit_step 𝒱 bd E c arg3 arg16 arg17 arg18 arg19 X3 X16 X17 X18 X19 (k0_off43 i) (k0_off43_inb i) k0_off44 k0_off44_inb k0_off45 k0_off45_inb k0_off46 k0_off46_inb v4 v8 v121 v132 init k acc

set_option warn.classDefReducibility false in
/-- Loop 3 of the printed module, heads 2 and 3. -/
@[sl_loop] def loopInv_k0_t3 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v210 : FVec F S128x256 .fp8e4m3) (v221 : FVec F S1x256 .f32) (v230 : FVec F S1x256 .f32) (v231 : FVec F S1x256 .f32) (v232 : FVec F S1x256 .f32) (v233 : FVec F S128x256 .f32) (c0_i32_160 : BitVec 32) (c1_i32_162 : BitVec 32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.Kernel.Gen.LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v210 v221 v230 v231 v232 v233 c0_i32_160 c1_i32_162 init where
  inv := unitInv c arg3 arg16 arg17 arg18 arg19 X3 X16 X17 X18 X19 (fun k => unitNext c arg3 arg16 arg17 arg18 arg19 X3 X16 X17 X18 X19 (k0_off47 i k) (k0_off47_inb i k) (k0_off48 k) (k0_off48_inb k) (k0_off49 k) (k0_off49_inb k) (k0_off50 k) (k0_off50_inb k) v4 v8 v210 v221) init
  step k acc := by
    rw [show k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v210 v221 v230 v231 v232 v233 c0_i32_160 c1_i32_162 k acc
      = unitBody arg3 arg16 arg17 arg18 arg19 (k0_off47 i k) (k0_off47_inb i k) (k0_off48 k) (k0_off48_inb k) (k0_off49 k) (k0_off49_inb k) (k0_off50 k) (k0_off50_inb k) v4 v8 v210 v221 acc from by
        simp only [k0_t3_body, k0_part13_eq_skeleton]; unfold k0_part13_skel unitBody; rfl]
    exact unit_step 𝒱 bd E c arg3 arg16 arg17 arg18 arg19 X3 X16 X17 X18 X19 (k0_off47 i) (k0_off47_inb i) k0_off48 k0_off48_inb k0_off49 k0_off49_inb k0_off50 k0_off50_inb v4 v8 v210 v221 init k acc

set_option warn.classDefReducibility false in
/-- Loop 4 of the printed module, heads 4 and 5. -/
@[sl_loop] def loopInv_k0_t4 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v411 : FVec F S128x256 .fp8e4m3) (v414 : Vec F S1x128 .f32) (v418 : Vec F S1x128 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.Kernel.Gen.LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v411 v414 v418 init where
  inv := unitInv c arg3 arg16 arg17 arg18 arg19 X3 X16 X17 X18 X19 (fun k => unitNext c arg3 arg16 arg17 arg18 arg19 X3 X16 X17 X18 X19 (k0_off51 i k) (k0_off51_inb i k) (k0_off52 k) (k0_off52_inb k) (k0_off53 k) (k0_off53_inb k) (k0_off54 k) (k0_off54_inb k) v4 v8 v411 (k0_pay145 v414 v418)) init
  step k acc := by
    rw [show k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v411 v414 v418 k acc
      = unitBody arg3 arg16 arg17 arg18 arg19 (k0_off51 i k) (k0_off51_inb i k) (k0_off52 k) (k0_off52_inb k) (k0_off53 k) (k0_off53_inb k) (k0_off54 k) (k0_off54_inb k) v4 v8 v411 (k0_pay145 v414 v418) acc from by
        simp only [k0_t4_body, k0_part14_eq_skeleton]; unfold k0_part14_skel unitBody; rfl]
    exact unit_step 𝒱 bd E c arg3 arg16 arg17 arg18 arg19 X3 X16 X17 X18 X19 (k0_off51 i) (k0_off51_inb i) k0_off52 k0_off52_inb k0_off53 k0_off53_inb k0_off54 k0_off54_inb v4 v8 v411 (k0_pay145 v414 v418) init k acc

set_option warn.classDefReducibility false in
/-- Loop 5 of the printed module, heads 6 and 7. -/
@[sl_loop] def loopInv_k0_t5 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v500 : FVec F S128x256 .fp8e4m3) (v511 : FVec F S1x256 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.Kernel.Gen.LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v500 v511 init where
  inv := unitInv c arg3 arg16 arg17 arg18 arg19 X3 X16 X17 X18 X19 (fun k => unitNext c arg3 arg16 arg17 arg18 arg19 X3 X16 X17 X18 X19 (k0_off55 i k) (k0_off55_inb i k) (k0_off56 k) (k0_off56_inb k) (k0_off57 k) (k0_off57_inb k) (k0_off58 k) (k0_off58_inb k) v4 v8 v500 v511) init
  step k acc := by
    rw [show k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v500 v511 k acc
      = unitBody arg3 arg16 arg17 arg18 arg19 (k0_off55 i k) (k0_off55_inb i k) (k0_off56 k) (k0_off56_inb k) (k0_off57 k) (k0_off57_inb k) (k0_off58 k) (k0_off58_inb k) v4 v8 v500 v511 acc from by
        simp only [k0_t5_body, k0_part15_eq_skeleton]; unfold k0_part15_skel unitBody; rfl]
    exact unit_step 𝒱 bd E c arg3 arg16 arg17 arg18 arg19 X3 X16 X17 X18 X19 (k0_off55 i) (k0_off55_inb i) k0_off56 k0_off56_inb k0_off57 k0_off57_inb k0_off58 k0_off58_inb v4 v8 v500 v511 init k acc

set_option warn.classDefReducibility false in
/-- Loop 6 of the printed module, heads 8 and 9. -/
@[sl_loop] def loopInv_k0_t6 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v701 : FVec F S128x256 .fp8e4m3) (v712 : FVec F S1x256 .f32) (v716 : FVec F S1x128 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.Kernel.Gen.LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v701 v712 v716 init where
  inv := unitInv c arg3 arg16 arg17 arg18 arg19 X3 X16 X17 X18 X19 (fun k => unitNext c arg3 arg16 arg17 arg18 arg19 X3 X16 X17 X18 X19 (k0_off59 i k) (k0_off59_inb i k) (k0_off60 k) (k0_off60_inb k) (k0_off61 k) (k0_off61_inb k) (k0_off62 k) (k0_off62_inb k) v4 v8 v701 v712) init
  step k acc := by
    rw [show k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v701 v712 v716 k acc
      = unitBody arg3 arg16 arg17 arg18 arg19 (k0_off59 i k) (k0_off59_inb i k) (k0_off60 k) (k0_off60_inb k) (k0_off61 k) (k0_off61_inb k) (k0_off62 k) (k0_off62_inb k) v4 v8 v701 v712 acc from by
        simp only [k0_t6_body, k0_part16_eq_skeleton]; unfold k0_part16_skel unitBody; rfl]
    exact unit_step 𝒱 bd E c arg3 arg16 arg17 arg18 arg19 X3 X16 X17 X18 X19 (k0_off59 i) (k0_off59_inb i) k0_off60 k0_off60_inb k0_off61 k0_off61_inb k0_off62 k0_off62_inb v4 v8 v701 v712 init k acc

set_option warn.classDefReducibility false in
/-- Loop 7 of the printed module, heads 10 and 11. -/
@[sl_loop] def loopInv_k0_t7 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v790 : FVec F S128x256 .fp8e4m3) (v793 : Vec F S1x128 .f32) (v797 : Vec F S1x128 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.Kernel.Gen.LoopInvTy_k0_t7 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v790 v793 v797 init where
  inv := unitInv c arg3 arg16 arg17 arg18 arg19 X3 X16 X17 X18 X19 (fun k => unitNext c arg3 arg16 arg17 arg18 arg19 X3 X16 X17 X18 X19 (k0_off63 i k) (k0_off63_inb i k) (k0_off64 k) (k0_off64_inb k) (k0_off65 k) (k0_off65_inb k) (k0_off66 k) (k0_off66_inb k) v4 v8 v790 (k0_pay207 v793 v797)) init
  step k acc := by
    rw [show k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v790 v793 v797 k acc
      = unitBody arg3 arg16 arg17 arg18 arg19 (k0_off63 i k) (k0_off63_inb i k) (k0_off64 k) (k0_off64_inb k) (k0_off65 k) (k0_off65_inb k) (k0_off66 k) (k0_off66_inb k) v4 v8 v790 (k0_pay207 v793 v797) acc from by
        simp only [k0_t7_body, k0_part17_eq_skeleton]; unfold k0_part17_skel unitBody; rfl]
    exact unit_step 𝒱 bd E c arg3 arg16 arg17 arg18 arg19 X3 X16 X17 X18 X19 (k0_off63 i) (k0_off63_inb i) k0_off64 k0_off64_inb k0_off65 k0_off65_inb k0_off66 k0_off66_inb v4 v8 v790 (k0_pay207 v793 v797) init k acc

set_option warn.classDefReducibility false in
/-- Loop 8 of the printed module, heads 12 and 13. -/
@[sl_loop] def loopInv_k0_t8 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v991 : FVec F S128x256 .fp8e4m3) (v995 : FVec F S1x128 .f32) (v998 : Vec F S1x128 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.Kernel.Gen.LoopInvTy_k0_t8 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v991 v995 v998 init where
  inv := unitInv c arg3 arg16 arg17 arg18 arg19 X3 X16 X17 X18 X19 (fun k => unitNext c arg3 arg16 arg17 arg18 arg19 X3 X16 X17 X18 X19 (k0_off67 i k) (k0_off67_inb i k) (k0_off68 k) (k0_off68_inb k) (k0_off69 k) (k0_off69_inb k) (k0_off70 k) (k0_off70_inb k) v4 v8 v991 (k0_pay237 v995 v998)) init
  step k acc := by
    rw [show k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v991 v995 v998 k acc
      = unitBody arg3 arg16 arg17 arg18 arg19 (k0_off67 i k) (k0_off67_inb i k) (k0_off68 k) (k0_off68_inb k) (k0_off69 k) (k0_off69_inb k) (k0_off70 k) (k0_off70_inb k) v4 v8 v991 (k0_pay237 v995 v998) acc from by
        simp only [k0_t8_body, k0_part18_eq_skeleton]; unfold k0_part18_skel unitBody; rfl]
    exact unit_step 𝒱 bd E c arg3 arg16 arg17 arg18 arg19 X3 X16 X17 X18 X19 (k0_off67 i) (k0_off67_inb i) k0_off68 k0_off68_inb k0_off69 k0_off69_inb k0_off70 k0_off70_inb v4 v8 v991 (k0_pay237 v995 v998) init k acc

set_option warn.classDefReducibility false in
/-- Loop 9 of the printed module, heads 14 and 15. -/
@[sl_loop] def loopInv_k0_t9 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v1080 : FVec F S128x256 .fp8e4m3) (v1091 : FVec F S1x256 .f32) (v1100 : FVec F S1x256 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.Kernel.Gen.LoopInvTy_k0_t9 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v1080 v1091 v1100 init where
  inv := unitInv c arg3 arg16 arg17 arg18 arg19 X3 X16 X17 X18 X19 (fun k => unitNext c arg3 arg16 arg17 arg18 arg19 X3 X16 X17 X18 X19 (k0_off71 i k) (k0_off71_inb i k) (k0_off72 k) (k0_off72_inb k) (k0_off73 k) (k0_off73_inb k) (k0_off74 k) (k0_off74_inb k) v4 v8 v1080 v1091) init
  step k acc := by
    rw [show k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v1080 v1091 v1100 k acc
      = unitBody arg3 arg16 arg17 arg18 arg19 (k0_off71 i k) (k0_off71_inb i k) (k0_off72 k) (k0_off72_inb k) (k0_off73 k) (k0_off73_inb k) (k0_off74 k) (k0_off74_inb k) v4 v8 v1080 v1091 acc from by
        simp only [k0_t9_body, k0_part19_eq_skeleton]; unfold k0_part19_skel unitBody; rfl]
    exact unit_step 𝒱 bd E c arg3 arg16 arg17 arg18 arg19 X3 X16 X17 X18 X19 (k0_off71 i) (k0_off71_inb i) k0_off72 k0_off72_inb k0_off73 k0_off73_inb k0_off74 k0_off74_inb v4 v8 v1080 v1091 init k acc

end Cert.Kernel.Gen
end
-- ==== Proof.Kernel.Runs.lean ====
/- What the frame certificate is stated over: the host prefix, the tables, the windows' blocks, the staging memrefs. -/
module

public import proofs.«01_k».proof.Proof.Gen.Kernel.Launch
public import proofs.«01_k».proof.Proof.Gen.Kernel.Skeleton
public import proofs.«01_k».proof.Proof.Gen.Kernel.Loops
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Kernel.Loops

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch memory after the three host transposes. -/
def V (c : Dev nD) (b : Ref sig .tc) : Buf (Elt F) ((c : Thread nD τ).loc b) :=
  StableHlo.after hostOps0 (fun b => m (c, b)) b

/-- No host operation names a fresh buffer. -/
theorem hostOps0_fresh : (hostOps0 : List (HloOp τ sig (Elt F))).Forall fun op => op.fresh = ∅ := ⟨rfl, rfl, rfl⟩

/-- @main up to the region: the host transposes, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_v0 (c : Dev nD) : V m c main_v0
    = (transpose S6x8x2048 [0, 2, 1] (m ((c : Thread nD τ).loc main_arg5) : (⟨S6x2048x8, .f32⟩ : BufTy).Contents (Elt F)) transposes_S6x2048x8_S6x8x2048_0_2_1 : (⟨S6x8x2048, .f32⟩ : BufTy).Contents (Elt F)) := rfl
theorem V_main_v1 (c : Dev nD) : V m c main_v1
    = (transpose S6x8x2048 [0, 2, 1] (m ((c : Thread nD τ).loc main_arg7) : (⟨S6x2048x8, .f32⟩ : BufTy).Contents (Elt F)) transposes_S6x2048x8_S6x8x2048_0_2_1 : (⟨S6x8x2048, .f32⟩ : BufTy).Contents (Elt F)) := rfl
theorem V_main_v2 (c : Dev nD) : V m c main_v2
    = (transpose S6x16x2048 [0, 2, 1] (m ((c : Thread nD τ).loc main_arg9) : (⟨S6x2048x16, .f32⟩ : BufTy).Contents (Elt F)) transposes_S6x2048x16_S6x16x2048_0_2_1 : (⟨S6x16x2048, .f32⟩ : BufTy).Contents (Elt F)) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6x2048 .i32 := Memref.whole main_arg1
abbrev htbM0_0 : tbM0_0.IsWhole := Memref.isWhole_whole _
abbrev tbM0_1 : Memref sig .tc .smem S6x2048 .i32 := Memref.whole main_arg2
abbrev htbM0_1 : tbM0_1.IsWhole := Memref.isWhole_whole _
abbrev tbM0_2 : Memref sig .tc .smem S6 .i32 := Memref.whole main_arg3
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 1).trans (((dats 0 c).arrAt_in 1 rfl _).trans ((hA c 1).trans (V_main_arg4 m c))),
      ((h c).2 main_arg5 (by decide : main_arg5 ∈ Pipeline.restRefs sig spec0)).trans (V_main_arg5 m c),
      ((h c).1 2).trans (((dats 0 c).arrAt_in 2 rfl _).trans ((hA c 2).trans (V_main_arg6 m c))),
      ((h c).2 main_arg7 (by decide : main_arg7 ∈ Pipeline.restRefs sig spec0)).trans (V_main_arg7 m c),
      ((h c).1 5).trans (((dats 0 c).arrAt_in 5 rfl _).trans ((hA c 5).trans (V_main_arg8 m c))),
      ((h c).2 main_arg9 (by decide : main_arg9 ∈ Pipeline.restRefs sig spec0)).trans (V_main_arg9 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin grid0.N, cond0_0 (grid0.coords t) ↔ t.val % 16 = 0 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- One staging buffer of output window 7, through which its contents are stated (`View.read_writes_of_cover`: the
    choice does not matter). -/
abbrev VO0_7 : View sig .tc .vmem S1x128x16x128 .bf16 := (Memref.whole cc0_stg7_0 : Memref sig .tc .vmem S1x128x16x128 .bf16).view
/-- One staging buffer of output window 8, through which its contents are stated (`View.read_writes_of_cover`: the
    choice does not matter). -/
abbrev VO0_8 : View sig .tc .vmem S1x16x128 .f32 := (Memref.whole cc0_stg8_0 : Memref sig .tc .vmem S1x16x128 .f32).view
/-- One staging buffer of output window 9, through which its contents are stated (`View.read_writes_of_cover`: the
    choice does not matter). -/
abbrev VO0_9 : View sig .tc .vmem S1x128x16x128 .fp8e4m3 := (Memref.whole cc0_stg9_0 : Memref sig .tc .vmem S1x128x16x128 .fp8e4m3).view
/-- One staging buffer of output window 10, through which its contents are stated (`View.read_writes_of_cover`: the
    choice does not matter). -/
abbrev VO0_10 : View sig .tc .vmem S1x16x128 .f32 := (Memref.whole cc0_stg10_0 : Memref sig .tc .vmem S1x16x128 .f32).view
/-- Each window's current staging memref at point `t`, spelled as the pipeline passes it (`bodyAt0`), and its wholeness. -/
abbrev ms0_0 (hO : Ok m) (t : Fin (cfgM m hO).N) : Memref sig .tc .vmem S1x128x16x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x8x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x8x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x2048 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x16x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x16x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x16x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x16x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x128x16x128 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x16x128 .f32 := spec0_10.stage ((cfgM m hO).slots t 10)
abbrev hs0_10 (hO : Ok m) (t : Fin (cfgM m hO).N) : (ms0_10 m hO t).IsWhole := hstage0_10 (((cfgM m hO).slots t 10).cast nbuf0_10)
/-- The scratch operands: whole scoped buffers of the kernel's own, passed beside the windows. -/
abbrev scM0_0 : Memref sig .tc .vmem S4x2048x256 .fp8e4m3 := Memref.whole cc0_scratch0
abbrev scM0_1 : Memref sig .tc .vmem S8x128x2048 .bf16 := Memref.whole cc0_scratch1
abbrev scM0_2 : Memref sig .tc .vmem S8x2048x128 .f32 := Memref.whole cc0_scratch2
abbrev scM0_3 : Memref sig .tc .vmem S8x2048x128 .f32 := Memref.whole cc0_scratch3
/-- The scratch `arg16` the kernel carries between points, as a view: what it holds is stated through it. -/
abbrev VS0_0 : View sig .tc .vmem S4x2048x256 .fp8e4m3 := scM0_0.view
/-- The scratch `arg17` the kernel carries between points, as a view: what it holds is stated through it. -/
abbrev VS0_1 : View sig .tc .vmem S8x128x2048 .bf16 := scM0_1.view
/-- The scratch `arg18` the kernel carries between points, as a view: what it holds is stated through it. -/
abbrev VS0_2 : View sig .tc .vmem S8x2048x128 .f32 := scM0_2.view
/-- The scratch `arg19` the kernel carries between points, as a view: what it holds is stated through it. -/
abbrev VS0_3 : View sig .tc .vmem S8x2048x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.Kernel.Body.lean ====
/- The kernel body run once, over any contents of the scratch: a first point of a row of blocks fills the scratch, any
   other finds it as the point before left it; which of the two is the caller's (`prepGoal`). -/
module

public import proofs.«01_k».proof.Proof.Kernel.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conditional followed by the same continuation in both branches is the conditional, then the continuation. -/
theorem dite_join.{v} {Ef : Type → Type v} {β : Type} {C : Prop} [Decidable C] (p : C → Prog Ef PUnit) (r : Prog Ef β) :
    (if h : C then p h >>= fun _ => r else r)
      = ((if h : C then (p h >>= fun _ => (pure PUnit.unit : Prog Ef PUnit)) else (pure PUnit.unit : Prog Ef PUnit)) >>= fun _ => r) := by
  by_cases h : C
  · rw [dif_pos h, dif_pos h, bind_assoc]; rfl
  · rw [dif_neg h, dif_neg h]; rfl

/-- The body's first statement: at the first block of a batch row the keys and values are prepared in the scratch. -/
def prepProg (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) : Prog (TpuEff nD τ sig (Elt F) Λ₀ .tc) PUnit :=
  if k0_h1 : k0_cond1 i = 1#1 then
    (Scf.Loop.for k0_t1_loop (k0_t1_ok i k0_h1) ⟨⟩ (k0_t1_body i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1) >>= fun _ => pure ⟨⟩)
  else pure ⟨⟩

/-- What the body's run asks of that statement: from `P` and the windows it reads, it leaves them and the scratch at `xs·`. -/
def prepGoal (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x1 : Vec F S1x2048x8x128 .fp8e4m3) (x2 : Vec F S1x2048x8x128 .fp8e4m3) (x3 : Vec F S1x8x2048 .f32) (x4 : Vec F S1x8x2048 .f32)
    (xs0 : Vec F S4x2048x256 .fp8e4m3) (xs1 : Vec F S8x128x2048 .bf16) (xs2 : Vec F S8x2048x128 .f32) (xs3 : Vec F S8x2048x128 .f32) (E : Set ℕ) (P : sProp 𝕄) : Prop :=
  iprop(P ∗ owns (c : Thread nD τ) arg6 fullShare x1 ∗ owns (c : Thread nD τ) arg7 fullShare x2 ∗ owns (c : Thread nD τ) arg8 fullShare x3 ∗ owns (c : Thread nD τ) arg9 fullShare x4)
    ⊢ wp frame (wpE (defs₀ (F := F)) Variants.none c none) E (prepProg i arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop(owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg16 fullShare xs0 ∗ owns (c : Thread nD τ) arg17 fullShare xs1 ∗ owns (c : Thread nD τ) arg18 fullShare xs2 ∗ owns (c : Thread nD τ) arg19 fullShare xs3))

set_option maxHeartbeats 4000000 in set_option sl_exec.squeezeSlice true in
/-- The whole body: the pieces it writes into each output's memref, with the proof that it runs. -/
def kernelRun0 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) :
    Σ' (L7 : List (View.Piece (Elt F) S1x128x16x128 .bf16)), Σ' (L8 : List (View.Piece (Elt F) S1x16x128 .f32)), Σ' (L9 : List (View.Piece (Elt F) S1x128x16x128 .fp8e4m3)), { L10 : List (View.Piece (Elt F) S1x16x128 .f32) //
      ∀ (E : Set ℕ) (K : PUnit → sProp 𝕄) (P : sProp 𝕄) (hprep : prepGoal c i arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 xs0 xs1 xs2 xs3 E P),
        iprop(P ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ owns (c : Thread nD τ) arg16 fullShare xs0 ∗ owns (c : Thread nD τ) arg17 fullShare xs1 ∗ owns (c : Thread nD τ) arg18 fullShare xs2 ∗ owns (c : Thread nD τ) arg19 fullShare xs3 ∗ tbPt0 c tbM0_0 xt0 ∗ tbPt0 c tbM0_1 xt1 ∗ tbPt0 c tbM0_2 xt2) -∗ K ⟨⟩))
          ⊢ wp frame (wpE (defs₀ (F := F)) Variants.none c none) E (cc0_ring_window_attention i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K P hprep => ?run⟩
  case run =>
    simp only [cc0_ring_window_attention_eq_skeleton]; unfold cc0_ring_window_attention_skel
    simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    iintro ⟨HP, H0, H1, H2, H3, H4, H5, H6, H7, H8, H9, H10, HT0, HT1, HT2, Hk⟩
    set_option sl_exec.stopBefore "k0_cond1" in sl_exec
    rw [dite_join, wp_bind]
    iapply (wp_wand_r Idealize.ShloMosaic.frame (wpE (defs₀ (F := F)) Variants.none (c : Thread nD τ) none) E)
    isplitl [HP H1 H2 H3 H4]
    · unfold prepGoal prepProg at hprep
      iapply hprep
      isplitl [HP]; · iexact HP
      isplitl [H1]; · iexact H1
      isplitl [H2]; · iexact H2
      isplitl [H3]; · iexact H3
      iexact H4
    iintro %_ ⟨H1, H2, H3, H4, HS0, HS1, HS2, HS3⟩
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%d7, %f7, -, H7⟩
    icases H8 with ⟨%d8, %f8, -, H8⟩
    icases H9 with ⟨%d9, %f9, -, H9⟩
    icases H10 with ⟨%d10, %f10, -, H10⟩
    icases HS0 with ⟨%fs0, %hfs0, HS0⟩
    icases HS1 with ⟨%fs1, %hfs1, HS1⟩
    icases HS2 with ⟨%fs2, %hfs2, HS2⟩
    icases HS3 with ⟨%fs3, %hfs3, HS3⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
    obtain rfl := harg16.eq_unread hfs0; obtain rfl := harg17.eq_unread hfs1; obtain rfl := harg18.eq_unread hfs2; obtain rfl := harg19.eq_unread hfs3
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg16.read_unread _
      iexact HS0
    isplitl [HS1]
    · iexists _; isplitr; · ipureintro; exact harg17.read_unread _
      iexact HS1
    isplitl [HS2]
    · iexists _; isplitr; · ipureintro; exact harg18.read_unread _
      iexact HS2
    isplitl [HS3]
    · iexists _; isplitr; · ipureintro; exact harg19.read_unread _
      iexact HS3
    isplitl [HT0]; · iexact HT0
    isplitl [HT1]; · iexact HT1
    iexact HT2

end Cert.Kernel.Gen

end
-- ==== Proof.Kernel.Prep.lean ====
/- What the first point of a batch row leaves in the scratch: the keys of a group side by side, the values transposed,
   and the two rows of scales repeated along the lanes. -/
module

public import proofs.«01_k».proof.Proof.Kernel.Body
public import Idealize.ShloMosaic.Lib.Pointwise
public import Idealize.ShloMosaic.Lib.WholeRead
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The keys' scratch: group `g`'s two heads side by side. -/
def prepK (x1 : Vec F S1x2048x8x128 .fp8e4m3) : Vec F S4x2048x256 .fp8e4m3 := fun y =>
  x1 (ix4 0 (y 1) ⟨2 * (y 0).val + (y 2).val / 128, by have h0 := (y 0).isLt; have h2 := (y 2).isLt; simp only [Shape.size] at h0 h2; exact by first | omega | (simp at h0 h2; omega)⟩ ⟨(y 2).val % 128, Nat.mod_lt _ (by decide)⟩)

/-- The values' scratch: each head's rows transposed, at the wider type. -/
def prepV (x2 : Vec F S1x2048x8x128 .fp8e4m3) : Vec F S8x128x2048 .bf16 := fun y =>
  FloatOps.extf .bf16 bitsLt_fp8e4m3_bf16 (x2 (ix4 0 (y 2) (y 0) (y 1)))

/-- A scales' scratch: each row repeated along the lanes. -/
def prepS (x3 : Vec F S1x8x2048 .f32) : Vec F S8x2048x128 .f32 := fun y => x3 (ix3 0 (y 0) (y 1))

theorem set_squeeze_full {sig : RefSig} {κ : Kind} {sp : Space} {s : Shape} {e : EltTy} (m : Memref sig κ sp s e) {off : Fin s.rank → ℕ}
    (inb : ∀ a, off a + s.size a ≤ s.size a) {s' : Shape} (hq : (Rect.unit off s.size inb).shape.Squeezes s') :
    ((m.slice (Rect.unit off s.size inb) (fun _ => rfl)).squeeze s' hq).view.set = m.view.set := by
  refine (View.set_reshape (v := (m.slice (Rect.unit off s.size inb) (fun _ => rfl)).view) hq.numel_eq).trans ?_
  refine (View.set_slice _ _).trans ?_
  have h : (Rect.unit off s.size inb).set = Finset.univ := by
    refine Finset.eq_univ_iff_forall.2 fun y => ?_
    rw [← Rect.map_emb_univ]
    exact Finset.mem_map.2 ⟨y, Finset.mem_univ _, Rect.emb_unit_full inb y⟩
  rw [h]; rfl

theorem readRows (arg6 : Memref sig .tc .vmem S1x2048x8x128 .fp8e4m3) (harg6 : arg6.IsWhole) (x1 : Vec F S1x2048x8x128 .fp8e4m3) (o : Fin 3 → ℕ)
    (inb : ∀ a, o a + S256x1x128.size a ≤ S2048x8x128.size a) (x : S256x1x128.Idx) (z : S1x2048x8x128.Idx)
    (h1 : (z 1).val = o 0 + (x 0).val) (h2 : (z 2).val = o 1 + (x 1).val) (h3 : (z 3).val = o 2 + (x 2).val) :
    View.readAt (Elt F) ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view (Rect.unit (s := S2048x8x128) o S256x1x128.size inb).toLoadRect (harg6.unread x1) x = x1 z := by
  refine (harg6.readAt_slice_reshape_unread x1 _ _ (Rect.unit (s := S2048x8x128) o S256x1x128.size inb).toLoadRect x).trans (congrArg x1 ?_)
  simp only [reshapeIdx]
  have hz : (z 0).val = 0 := by have := (z 0).isLt; change (z 0).val < 1 at this; omega
  refine funext fun a => Fin.ext ?_
  match a with
  | ⟨0, _⟩ => exact hz.symm
  | ⟨1, _⟩ => refine Eq.trans ?_ h1.symm; show 0 + 1 * (o 0 + 1 * (x 0).val) = _; omega
  | ⟨2, _⟩ => refine Eq.trans ?_ h2.symm; show 0 + 1 * (o 1 + 1 * (x 1).val) = _; omega
  | ⟨3, _⟩ => refine Eq.trans ?_ h3.symm; show 0 + 1 * (o 2 + 1 * (x 2).val) = _; omega

theorem readScale (arg8 : Memref sig .tc .vmem S1x8x2048 .f32) (harg8 : arg8.IsWhole) (x3 : Vec F S1x8x2048 .f32) (o : Fin 2 → ℕ)
    (inb : ∀ a, o a + S1x256.size a ≤ S8x2048.size a) (x : S1x256.Idx) (z : S1x8x2048.Idx)
    (h1 : (z 1).val = o 0 + (x 0).val) (h2 : (z 2).val = o 1 + (x 1).val) :
    View.readAt (Elt F) ((arg8.slice (Rect.unit (s := S1x8x2048) ![0, 0, 0] S1x8x2048.size inb_S1x8x2048_S1x8x2048_0_0_0) (fun _ => rfl)).squeeze S8x2048 squeezes_S1x8x2048_S8x2048).view (Rect.unit (s := S8x2048) o S1x256.size inb).toLoadRect (harg8.unread x3) x = x3 z := by
  refine (harg8.readAt_slice_reshape_unread x3 _ _ (Rect.unit (s := S8x2048) o S1x256.size inb).toLoadRect x).trans (congrArg x3 ?_)
  simp only [reshapeIdx]
  have hz : (z 0).val = 0 := by have := (z 0).isLt; change (z 0).val < 1 at this; omega
  refine funext fun a => Fin.ext ?_
  match a with
  | ⟨0, _⟩ => exact hz.symm
  | ⟨1, _⟩ => refine Eq.trans ?_ h1.symm; show 0 + 1 * (o 0 + 1 * (x 0).val) = _; omega
  | ⟨2, _⟩ => refine Eq.trans ?_ h2.symm; show 0 + 1 * (o 1 + 1 * (x 1).val) = _; omega

theorem pieceK (arg6 : Memref sig .tc .vmem S1x2048x8x128 .fp8e4m3) (harg6 : arg6.IsWhole) (x1 : Vec F S1x2048x8x128 .fp8e4m3) (kb n : ℕ) (o o' : Fin 3 → ℕ)
    (ho : o = ![256 * kb, n, 0]) (ho' : o' = ![n / 2, 256 * kb, 128 * (n % 2)]) (inb : ∀ a, o a + S256x1x128.size a ≤ S2048x8x128.size a)
    (inb' : ∀ a, o' a + S1x256x128.size a ≤ S4x2048x256.size a) (x : S1x256x128.Idx) :
    k0_pay2 (View.readAt (Elt F) ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view (Rect.unit (s := S2048x8x128) o S256x1x128.size inb).toLoadRect (harg6.unread x1)) x
      = prepK x1 ((Rect.unit (s := S4x2048x256) o' S1x256x128.size inb').emb x) := by
  subst ho ho'
  unfold k0_pay2
  pointwise
  have hx0 := (x 0).isLt; change (x 0).val < 1 at hx0
  have hx2 := (x 2).isLt; change (x 2).val < 128 at hx2
  unfold prepK
  refine readRows arg6 harg6 x1 _ inb _ _ ?_ ?_ ?_
  · show 256 * kb + 1 * (x 1).val = 256 * kb + (x 1).val; omega
  · show 2 * (n / 2 + 1 * (x 0).val) + (128 * (n % 2) + 1 * (x 2).val) / 128 = n + 0; omega
  · show (128 * (n % 2) + 1 * (x 2).val) % 128 = 0 + (x 2).val; omega

theorem pieceV (arg7 : Memref sig .tc .vmem S1x2048x8x128 .fp8e4m3) (harg7 : arg7.IsWhole) (x2 : Vec F S1x2048x8x128 .fp8e4m3) (kb n : ℕ) (o o' : Fin 3 → ℕ)
    (ho : o = ![256 * kb, n, 0]) (ho' : o' = ![n, 0, 256 * kb]) (inb : ∀ a, o a + S256x1x128.size a ≤ S2048x8x128.size a)
    (inb' : ∀ a, o' a + S1x128x256.size a ≤ S8x128x2048.size a) (x : S1x128x256.Idx) :
    k0_pay3 (View.readAt (Elt F) ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view (Rect.unit (s := S2048x8x128) o S256x1x128.size inb).toLoadRect (harg7.unread x2)) x
      = prepV x2 ((Rect.unit (s := S8x128x2048) o' S1x128x256.size inb').emb x) := by
  subst ho ho'
  unfold k0_pay3
  pointwise
  have hx0 := (x 0).isLt; change (x 0).val < 1 at hx0
  unfold prepV
  refine congrArg (FloatOps.extf .bf16 bitsLt_fp8e4m3_bf16) ?_
  refine readRows arg7 harg7 x2 _ inb _ _ ?_ ?_ ?_
  · show 256 * kb + 1 * (x 2).val = 256 * kb + (x 2).val; omega
  · show n + 1 * (x 0).val = n + 0; omega
  · show 0 + 1 * (x 1).val = 0 + (x 1).val; omega

theorem pieceS (arg8 : Memref sig .tc .vmem S1x8x2048 .f32) (harg8 : arg8.IsWhole) (x3 : Vec F S1x8x2048 .f32) (kb n : ℕ) (o : Fin 2 → ℕ) (o' : Fin 3 → ℕ)
    (ho : o = ![n, 256 * kb]) (ho' : o' = ![n, 256 * kb, 0]) (inb : ∀ a, o a + S1x256.size a ≤ S8x2048.size a)
    (inb' : ∀ a, o' a + S1x256x128.size a ≤ S8x2048x128.size a) (x : S1x256x128.Idx) :
    k0_pay6 (View.readAt (Elt F) ((arg8.slice (Rect.unit (s := S1x8x2048) ![0, 0, 0] S1x8x2048.size inb_S1x8x2048_S1x8x2048_0_0_0) (fun _ => rfl)).squeeze S8x2048 squeezes_S1x8x2048_S8x2048).view (Rect.unit (s := S8x2048) o S1x256.size inb).toLoadRect (harg8.unread x3)) x
      = prepS x3 ((Rect.unit (s := S8x2048x128) o' S1x256x128.size inb').emb x) := by
  subst ho ho'
  unfold k0_pay6
  pointwise
  have hx0 := (x 0).isLt; change (x 0).val < 1 at hx0
  unfold prepS
  split
  · refine readScale arg8 harg8 x3 _ inb _ _ ?_ ?_
    · show n + 1 * (x 0).val = n + 0; omega
    · show 256 * kb + 1 * (x 1).val = 256 * kb + (x 1).val; omega
  · refine readScale arg8 harg8 x3 _ inb _ _ ?_ ?_
    · show n + 1 * (x 0).val = n + 0; omega
    · show 256 * kb + 1 * (x 1).val = 256 * kb + (128 + ((x 1).val - 128)); omega
theorem k0_off1_at (k : Fin k0_t1_loop.trips) : k0_off1 k = ![256 * k.val, 0, 0] := by revert k; decide +kernel
theorem k0_off2_at (k : Fin k0_t1_loop.trips) : k0_off2 k = ![0 / 2, 256 * k.val, 128 * (0 % 2)] := by revert k; decide +kernel
theorem k0_off3_at (k : Fin k0_t1_loop.trips) : k0_off3 k = ![0, 0, 256 * k.val] := by revert k; decide +kernel
theorem k0_off4_at (k : Fin k0_t1_loop.trips) : k0_off4 k = ![0, 256 * k.val] := by revert k; decide +kernel
theorem k0_off5_at (k : Fin k0_t1_loop.trips) : k0_off5 k = ![0, 256 * k.val, 0] := by revert k; decide +kernel
theorem k0_off6_at (k : Fin k0_t1_loop.trips) : k0_off6 k = ![256 * k.val, 1, 0] := by revert k; decide +kernel
theorem k0_off7_at (k : Fin k0_t1_loop.trips) : k0_off7 k = ![1 / 2, 256 * k.val, 128 * (1 % 2)] := by revert k; decide +kernel
theorem k0_off8_at (k : Fin k0_t1_loop.trips) : k0_off8 k = ![1, 0, 256 * k.val] := by revert k; decide +kernel
theorem k0_off9_at (k : Fin k0_t1_loop.trips) : k0_off9 k = ![1, 256 * k.val] := by revert k; decide +kernel
theorem k0_off10_at (k : Fin k0_t1_loop.trips) : k0_off10 k = ![1, 256 * k.val, 0] := by revert k; decide +kernel
theorem k0_off11_at (k : Fin k0_t1_loop.trips) : k0_off11 k = ![256 * k.val, 2, 0] := by revert k; decide +kernel
theorem k0_off12_at (k : Fin k0_t1_loop.trips) : k0_off12 k = ![2 / 2, 256 * k.val, 128 * (2 % 2)] := by revert k; decide +kernel
theorem k0_off13_at (k : Fin k0_t1_loop.trips) : k0_off13 k = ![2, 0, 256 * k.val] := by revert k; decide +kernel
theorem k0_off14_at (k : Fin k0_t1_loop.trips) : k0_off14 k = ![2, 256 * k.val] := by revert k; decide +kernel
theorem k0_off15_at (k : Fin k0_t1_loop.trips) : k0_off15 k = ![2, 256 * k.val, 0] := by revert k; decide +kernel
theorem k0_off16_at (k : Fin k0_t1_loop.trips) : k0_off16 k = ![256 * k.val, 3, 0] := by revert k; decide +kernel
theorem k0_off17_at (k : Fin k0_t1_loop.trips) : k0_off17 k = ![3 / 2, 256 * k.val, 128 * (3 % 2)] := by revert k; decide +kernel
theorem k0_off18_at (k : Fin k0_t1_loop.trips) : k0_off18 k = ![3, 0, 256 * k.val] := by revert k; decide +kernel
theorem k0_off19_at (k : Fin k0_t1_loop.trips) : k0_off19 k = ![3, 256 * k.val] := by revert k; decide +kernel
theorem k0_off20_at (k : Fin k0_t1_loop.trips) : k0_off20 k = ![3, 256 * k.val, 0] := by revert k; decide +kernel
theorem k0_off21_at (k : Fin k0_t1_loop.trips) : k0_off21 k = ![256 * k.val, 4, 0] := by revert k; decide +kernel
theorem k0_off22_at (k : Fin k0_t1_loop.trips) : k0_off22 k = ![4 / 2, 256 * k.val, 128 * (4 % 2)] := by revert k; decide +kernel
theorem k0_off23_at (k : Fin k0_t1_loop.trips) : k0_off23 k = ![4, 0, 256 * k.val] := by revert k; decide +kernel
theorem k0_off24_at (k : Fin k0_t1_loop.trips) : k0_off24 k = ![4, 256 * k.val] := by revert k; decide +kernel
theorem k0_off25_at (k : Fin k0_t1_loop.trips) : k0_off25 k = ![4, 256 * k.val, 0] := by revert k; decide +kernel
theorem k0_off26_at (k : Fin k0_t1_loop.trips) : k0_off26 k = ![256 * k.val, 5, 0] := by revert k; decide +kernel
theorem k0_off27_at (k : Fin k0_t1_loop.trips) : k0_off27 k = ![5 / 2, 256 * k.val, 128 * (5 % 2)] := by revert k; decide +kernel
theorem k0_off28_at (k : Fin k0_t1_loop.trips) : k0_off28 k = ![5, 0, 256 * k.val] := by revert k; decide +kernel
theorem k0_off29_at (k : Fin k0_t1_loop.trips) : k0_off29 k = ![5, 256 * k.val] := by revert k; decide +kernel
theorem k0_off30_at (k : Fin k0_t1_loop.trips) : k0_off30 k = ![5, 256 * k.val, 0] := by revert k; decide +kernel
theorem k0_off31_at (k : Fin k0_t1_loop.trips) : k0_off31 k = ![256 * k.val, 6, 0] := by revert k; decide +kernel
theorem k0_off32_at (k : Fin k0_t1_loop.trips) : k0_off32 k = ![6 / 2, 256 * k.val, 128 * (6 % 2)] := by revert k; decide +kernel
theorem k0_off33_at (k : Fin k0_t1_loop.trips) : k0_off33 k = ![6, 0, 256 * k.val] := by revert k; decide +kernel
theorem k0_off34_at (k : Fin k0_t1_loop.trips) : k0_off34 k = ![6, 256 * k.val] := by revert k; decide +kernel
theorem k0_off35_at (k : Fin k0_t1_loop.trips) : k0_off35 k = ![6, 256 * k.val, 0] := by revert k; decide +kernel
theorem k0_off36_at (k : Fin k0_t1_loop.trips) : k0_off36 k = ![256 * k.val, 7, 0] := by revert k; decide +kernel
theorem k0_off37_at (k : Fin k0_t1_loop.trips) : k0_off37 k = ![7 / 2, 256 * k.val, 128 * (7 % 2)] := by revert k; decide +kernel
theorem k0_off38_at (k : Fin k0_t1_loop.trips) : k0_off38 k = ![7, 0, 256 * k.val] := by revert k; decide +kernel
theorem k0_off39_at (k : Fin k0_t1_loop.trips) : k0_off39 k = ![7, 256 * k.val] := by revert k; decide +kernel
theorem k0_off40_at (k : Fin k0_t1_loop.trips) : k0_off40 k = ![7, 256 * k.val, 0] := by revert k; decide +kernel

/-- Every piece a trip stores is the scratch's contents there. -/
theorem trip_good (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (k : Fin k0_t1_loop.trips) :
    (∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k).1, ∀ x, p.2 x = prepK x1 (p.1.emb x)) ∧
    (∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k).2.1, ∀ x, p.2 x = prepV x2 (p.1.emb x)) ∧
    (∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k).2.2.1, ∀ x, p.2 x = prepS x3 (p.1.emb x)) ∧
    (∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k).2.2.2, ∀ x, p.2 x = prepS x4 (p.1.emb x)) := by
  unfold tripL_k0_t1 trip_k0_t1
  dsimp only
  simp only [List.forall_mem_cons]
  refine ⟨⟨fun x => pieceK arg6 harg6 x1 k.val 7 _ _ (k0_off36_at k) (k0_off37_at k) _ _ x, fun x => pieceK arg6 harg6 x1 k.val 6 _ _ (k0_off31_at k) (k0_off32_at k) _ _ x, fun x => pieceK arg6 harg6 x1 k.val 5 _ _ (k0_off26_at k) (k0_off27_at k) _ _ x, fun x => pieceK arg6 harg6 x1 k.val 4 _ _ (k0_off21_at k) (k0_off22_at k) _ _ x, fun x => pieceK arg6 harg6 x1 k.val 3 _ _ (k0_off16_at k) (k0_off17_at k) _ _ x, fun x => pieceK arg6 harg6 x1 k.val 2 _ _ (k0_off11_at k) (k0_off12_at k) _ _ x, fun x => pieceK arg6 harg6 x1 k.val 1 _ _ (k0_off6_at k) (k0_off7_at k) _ _ x, fun x => pieceK arg6 harg6 x1 k.val 0 _ _ (k0_off1_at k) (k0_off2_at k) _ _ x, List.forall_mem_nil _⟩, ⟨fun x => pieceV arg7 harg7 x2 k.val 7 _ _ (k0_off36_at k) (k0_off38_at k) _ _ x, fun x => pieceV arg7 harg7 x2 k.val 6 _ _ (k0_off31_at k) (k0_off33_at k) _ _ x, fun x => pieceV arg7 harg7 x2 k.val 5 _ _ (k0_off26_at k) (k0_off28_at k) _ _ x, fun x => pieceV arg7 harg7 x2 k.val 4 _ _ (k0_off21_at k) (k0_off23_at k) _ _ x, fun x => pieceV arg7 harg7 x2 k.val 3 _ _ (k0_off16_at k) (k0_off18_at k) _ _ x, fun x => pieceV arg7 harg7 x2 k.val 2 _ _ (k0_off11_at k) (k0_off13_at k) _ _ x, fun x => pieceV arg7 harg7 x2 k.val 1 _ _ (k0_off6_at k) (k0_off8_at k) _ _ x, fun x => pieceV arg7 harg7 x2 k.val 0 _ _ (k0_off1_at k) (k0_off3_at k) _ _ x, List.forall_mem_nil _⟩, ⟨fun x => pieceS arg8 harg8 x3 k.val 7 _ _ (k0_off39_at k) (k0_off40_at k) _ _ x, fun x => pieceS arg8 harg8 x3 k.val 6 _ _ (k0_off34_at k) (k0_off35_at k) _ _ x, fun x => pieceS arg8 harg8 x3 k.val 5 _ _ (k0_off29_at k) (k0_off30_at k) _ _ x, fun x => pieceS arg8 harg8 x3 k.val 4 _ _ (k0_off24_at k) (k0_off25_at k) _ _ x, fun x => pieceS arg8 harg8 x3 k.val 3 _ _ (k0_off19_at k) (k0_off20_at k) _ _ x, fun x => pieceS arg8 harg8 x3 k.val 2 _ _ (k0_off14_at k) (k0_off15_at k) _ _ x, fun x => pieceS arg8 harg8 x3 k.val 1 _ _ (k0_off9_at k) (k0_off10_at k) _ _ x, fun x => pieceS arg8 harg8 x3 k.val 0 _ _ (k0_off4_at k) (k0_off5_at k) _ _ x, List.forall_mem_nil _⟩, ⟨fun x => pieceS arg9 harg9 x4 k.val 7 _ _ (k0_off39_at k) (k0_off40_at k) _ _ x, fun x => pieceS arg9 harg9 x4 k.val 6 _ _ (k0_off34_at k) (k0_off35_at k) _ _ x, fun x => pieceS arg9 harg9 x4 k.val 5 _ _ (k0_off29_at k) (k0_off30_at k) _ _ x, fun x => pieceS arg9 harg9 x4 k.val 4 _ _ (k0_off24_at k) (k0_off25_at k) _ _ x, fun x => pieceS arg9 harg9 x4 k.val 3 _ _ (k0_off19_at k) (k0_off20_at k) _ _ x, fun x => pieceS arg9 harg9 x4 k.val 2 _ _ (k0_off14_at k) (k0_off15_at k) _ _ x, fun x => pieceS arg9 harg9 x4 k.val 1 _ _ (k0_off9_at k) (k0_off10_at k) _ _ x, fun x => pieceS arg9 harg9 x4 k.val 0 _ _ (k0_off4_at k) (k0_off5_at k) _ _ x, List.forall_mem_nil _⟩⟩

/-- Every piece the trips before `n` store is the scratch's contents there. -/
theorem pb_good (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) n).1, ∀ x, p.2 x = prepK x1 (p.1.emb x)) ∧
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) n).2.1, ∀ x, p.2 x = prepV x2 (p.1.emb x)) ∧
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) n).2.2.1, ∀ x, p.2 x = prepS x3 (p.1.emb x)) ∧
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) n).2.2.2, ∀ x, p.2 x = prepS x4 (p.1.emb x)) := by
  induction n with
  | zero => exact ⟨List.forall_mem_nil _, List.forall_mem_nil _, List.forall_mem_nil _, List.forall_mem_nil _⟩
  | succ n ih =>
    obtain ⟨i1, i2, i3, i4⟩ := ih (Nat.le_of_succ_le hn)
    obtain ⟨j1, j2, j3, j4⟩ := trip_good (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 x1 x2 x3 x4 ⟨n, hn⟩
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) ⟨n, hn⟩
    change pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) (n + 1) = _ at e
    rw [e]
    exact ⟨fun p hp => (List.mem_append.1 hp).elim (j1 p) (i1 p), fun p hp => (List.mem_append.1 hp).elim (j2 p) (i2 p),
      fun p hp => (List.mem_append.1 hp).elim (j3 p) (i3 p), fun p hp => (List.mem_append.1 hp).elim (j4 p) (i4 p)⟩

theorem pb_coverK (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (y : S4x2048x256.Idx) :
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k0_t1_loop.trips).1, y ∈ p.1.set :=
  View.cover_of_tiledL (s := S4x2048x256) _ S1x256x128.size (by sl_kernel_rfl) y

theorem pb_coverV (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (y : S8x128x2048.Idx) :
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k0_t1_loop.trips).2.1, y ∈ p.1.set :=
  View.cover_of_tiledL (s := S8x128x2048) _ S1x128x256.size (by sl_kernel_rfl) y

theorem pb_coverS (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (y : S8x2048x128.Idx) :
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k0_t1_loop.trips).2.2.1, y ∈ p.1.set :=
  View.cover_of_tiledL (s := S8x2048x128) _ S1x256x128.size (by sl_kernel_rfl) y

theorem pb_coverT (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (y : S8x2048x128.Idx) :
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k0_t1_loop.trips).2.2.2, y ∈ p.1.set :=
  View.cover_of_tiledL (s := S8x2048x128) _ S1x256x128.size (by sl_kernel_rfl) y

set_option maxHeartbeats 4000000 in set_option sl_exec.squeezeSlice true in
/-- At the first point of a batch row the scratch, whatever it held, is filled from the windows. -/
theorem prep_first (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (x1 : Vec F S1x2048x8x128 .fp8e4m3) (x2 : Vec F S1x2048x8x128 .fp8e4m3) (x3 : Vec F S1x8x2048 .f32) (x4 : Vec F S1x8x2048 .f32) (E : Set ℕ) (h : k0_cond1 i = 1#1) :
    prepGoal (F := F) c i arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 (prepK x1) (prepV x2) (prepS x3) (prepS x4) E
      iprop((∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) := by
  unfold prepGoal prepProg
  rw [dif_pos h]
  unfold owns
  iintro ⟨⟨⟨%d0, %g0, -, HS0⟩, ⟨%d1, %g1, -, HS1⟩, ⟨%d2, %g2, -, HS2⟩, ⟨%d3, %g3, -, HS3⟩⟩, ⟨%f1, %hf1, H1⟩, ⟨%f2, %hf2, H2⟩, ⟨%f3, %hf3, H3⟩, ⟨%f4, %hf4, H4⟩⟩
  obtain rfl := harg6.eq_unread hf1; obtain rfl := harg7.eq_unread hf2; obtain rfl := harg8.eq_unread hf3; obtain rfl := harg9.eq_unread hf4
  have e6 : (arg6.view.loc (c : Thread nD τ) ↦[arg6.view.set]{fullShare} harg6.unread x1 : sProp 𝕄) = (((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view.loc (c : Thread nD τ) ↦[((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view.set]{fullShare} harg6.unread x1) := by
    rw [set_squeeze_full]
  have e7 : (arg7.view.loc (c : Thread nD τ) ↦[arg7.view.set]{fullShare} harg7.unread x2 : sProp 𝕄) = (((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view.loc (c : Thread nD τ) ↦[((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view.set]{fullShare} harg7.unread x2) := by
    rw [set_squeeze_full]
  have e8 : (arg8.view.loc (c : Thread nD τ) ↦[arg8.view.set]{fullShare} harg8.unread x3 : sProp 𝕄) = (((arg8.slice (Rect.unit (s := S1x8x2048) ![0, 0, 0] S1x8x2048.size inb_S1x8x2048_S1x8x2048_0_0_0) (fun _ => rfl)).squeeze S8x2048 squeezes_S1x8x2048_S8x2048).view.loc (c : Thread nD τ) ↦[((arg8.slice (Rect.unit (s := S1x8x2048) ![0, 0, 0] S1x8x2048.size inb_S1x8x2048_S1x8x2048_0_0_0) (fun _ => rfl)).squeeze S8x2048 squeezes_S1x8x2048_S8x2048).view.set]{fullShare} harg8.unread x3) := by
    rw [set_squeeze_full]
  have e9 : (arg9.view.loc (c : Thread nD τ) ↦[arg9.view.set]{fullShare} harg9.unread x4 : sProp 𝕄) = (((arg9.slice (Rect.unit (s := S1x8x2048) ![0, 0, 0] S1x8x2048.size inb_S1x8x2048_S1x8x2048_0_0_0) (fun _ => rfl)).squeeze S8x2048 squeezes_S1x8x2048_S8x2048).view.loc (c : Thread nD τ) ↦[((arg9.slice (Rect.unit (s := S1x8x2048) ![0, 0, 0] S1x8x2048.size inb_S1x8x2048_S1x8x2048_0_0_0) (fun _ => rfl)).squeeze S8x2048 squeezes_S1x8x2048_S8x2048).view.set]{fullShare} harg9.unread x4) := by
    rw [set_squeeze_full]
  ihave H1 := (Entails.of_eq e6) $$ H1
  ihave H2 := (Entails.of_eq e7) $$ H2
  ihave H3 := (Entails.of_eq e8) $$ H3
  ihave H4 := (Entails.of_eq e9) $$ H4
  sl_exec
  sl_step
  ihave H1 := (Entails.of_eq e6.symm) $$ H1
  ihave H2 := (Entails.of_eq e7.symm) $$ H2
  ihave H3 := (Entails.of_eq e8.symm) $$ H3
  ihave H4 := (Entails.of_eq e9.symm) $$ H4
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [HS0]
  · iexists _; isplitr; swap
    · iexact HS0
    ipureintro
    exact funext fun y => View.read_writes_apply_of_pieces _ _ (prepK x1) _ (pb_good (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 _ le_rfl).1 y
      (pb_coverK (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 y)
  isplitl [HS1]
  · iexists _; isplitr; swap
    · iexact HS1
    ipureintro
    exact funext fun y => View.read_writes_apply_of_pieces _ _ (prepV x2) _ (pb_good (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 _ le_rfl).2.1 y
      (pb_coverV (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 y)
  isplitl [HS2]
  · iexists _; isplitr; swap
    · iexact HS2
    ipureintro
    exact funext fun y => View.read_writes_apply_of_pieces _ _ (prepS x3) _ (pb_good (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 _ le_rfl).2.2.1 y
      (pb_coverS (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 y)
  iexists _; isplitr; swap
  · iexact HS3
  ipureintro
  exact funext fun y => View.read_writes_apply_of_pieces _ _ (prepS x4) _ (pb_good (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 _ le_rfl).2.2.2 y
    (pb_coverT (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 y)

/-- At any other point the scratch is as it was. -/
theorem prep_other (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (x1 : Vec F S1x2048x8x128 .fp8e4m3) (x2 : Vec F S1x2048x8x128 .fp8e4m3) (x3 : Vec F S1x8x2048 .f32) (x4 : Vec F S1x8x2048 .f32) (xs0 : Vec F S4x2048x256 .fp8e4m3) (xs1 : Vec F S8x128x2048 .bf16) (xs2 : Vec F S8x2048x128 .f32) (xs3 : Vec F S8x2048x128 .f32) (E : Set ℕ) (h : ¬ k0_cond1 i = 1#1) :
    prepGoal (F := F) c i arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 xs0 xs1 xs2 xs3 E
      iprop(owns (c : Thread nD τ) arg16 fullShare xs0 ∗ owns (c : Thread nD τ) arg17 fullShare xs1 ∗ owns (c : Thread nD τ) arg18 fullShare xs2 ∗ owns (c : Thread nD τ) arg19 fullShare xs3) := by
  unfold prepGoal prepProg
  rw [dif_neg h]
  iintro ⟨⟨HS0, HS1, HS2, HS3⟩, H1, H2, H3, H4⟩
  sl_step
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iexact HS3

end Cert.Kernel.Gen

end
-- ==== Proof.Kernel.Frame.lean ====
/- The pipeline's proof data — what the scratch and the outputs hold after each grid point — the body obligation, the
   run of the whole program, and the frame claim. -/
module

public import proofs.«01_k».proof.Proof.Kernel.Prep
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored into output 7 tile its block. -/
theorem cover0_7 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) (y : S1x128x16x128.Idx) :
    ∃ pc ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).1, y ∈ pc.1.set :=
  View.cover_of_tiledL (s := S1x128x16x128) (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).1 S1x128x2x128.size (by sl_kernel_rfl) y

/-- The pieces stored into output 8 tile its block. -/
theorem cover0_8 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) (y : S1x16x128.Idx) :
    ∃ pc ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.1, y ∈ pc.1.set :=
  View.cover_of_tiledL (s := S1x16x128) (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.1 (![1, 1, 128] : Fin 3 → ℕ) (by sl_kernel_rfl) y

/-- The pieces stored into output 9 tile its block. -/
theorem cover0_9 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) (y : S1x128x16x128.Idx) :
    ∃ pc ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.2.1, y ∈ pc.1.set :=
  View.cover_of_tiledL (s := S1x128x16x128) (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.2.1 S1x128x4x128.size (by sl_kernel_rfl) y

/-- The pieces stored into output 10 tile its block. -/
theorem cover0_10 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) (y : S1x16x128.Idx) :
    ∃ pc ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.2.2.1, y ∈ pc.1.set :=
  View.cover_of_tiledL (s := S1x16x128) (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.2.2.1 (![1, 1, 128] : Fin 3 → ℕ) (by sl_kernel_rfl) y

/-- The first point of `t`'s batch row. -/
def base (hO : Ok m) (t : Fin (cfgM m hO).N) : Fin (cfgM m hO).N :=
  ⟨16 * (t.val / 16), lt_of_le_of_lt (by omega) t.isLt⟩

/-- What the scratch holds after point `t`: prepared from the row's first point's blocks. -/
def scr0 (hO : Ok m) (c : Dev nD) (t : Fin (cfgM m hO).N) : Vec F S4x2048x256 .fp8e4m3 := prepK (iblk m hO c 1 (base m hO t))
def scr1 (hO : Ok m) (c : Dev nD) (t : Fin (cfgM m hO).N) : Vec F S8x128x2048 .bf16 := prepV (iblk m hO c 2 (base m hO t))
def scr2 (hO : Ok m) (c : Dev nD) (t : Fin (cfgM m hO).N) : Vec F S8x2048x128 .f32 := prepS (iblk m hO c 3 (base m hO t))
def scr3 (hO : Ok m) (c : Dev nD) (t : Fin (cfgM m hO).N) : Vec F S8x2048x128 .f32 := prepS (iblk m hO c 4 (base m hO t))

theorem base_first (hO : Ok m) (t : Fin (cfgM m hO).N) (h : t.val % 16 = 0) : base m hO t = t :=
  Fin.ext (show 16 * (t.val / 16) = t.val by omega)

theorem base_pred (hO : Ok m) (t u : Fin (cfgM m hO).N) (h : ¬t.val % 16 = 0) (hu : u.val = t.val - 1) : base m hO u = base m hO t :=
  Fin.ext (show 16 * (u.val / 16) = 16 * (t.val / 16) by rw [hu]; omega)

/-- The body's run at point `t`. -/
abbrev run0 (hO : Ok m) (c : Dev nD) (t : Fin (cfgM m hO).N) :=
  kernelRun0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) (scr0 m hO c t) (scr1 m hO c t) (scr2 m hO c t) (scr3 m hO c t)

/-- What output 7's staging buffer holds after point `t`. -/
def out0_7 (hO : Ok m) (c : Dev nD) (t : Fin (cfgM m hO).N) : Vec F S1x128x16x128 .bf16 :=
  VO0_7.read (Elt F) (VO0_7.writes (Elt F) VO0_7.junk (run0 m hO c t).1)
/-- What output 8's staging buffer holds after point `t`. -/
def out0_8 (hO : Ok m) (c : Dev nD) (t : Fin (cfgM m hO).N) : Vec F S1x16x128 .f32 :=
  VO0_8.read (Elt F) (VO0_8.writes (Elt F) VO0_8.junk (run0 m hO c t).2.1)
/-- What output 9's staging buffer holds after point `t`. -/
def out0_9 (hO : Ok m) (c : Dev nD) (t : Fin (cfgM m hO).N) : Vec F S1x128x16x128 .fp8e4m3 :=
  VO0_9.read (Elt F) (VO0_9.writes (Elt F) VO0_9.junk (run0 m hO c t).2.2.1)
/-- What output 10's staging buffer holds after point `t`. -/
def out0_10 (hO : Ok m) (c : Dev nD) (t : Fin (cfgM m hO).N) : Vec F S1x16x128 .f32 :=
  VO0_10.read (Elt F) (VO0_10.writes (Elt F) VO0_10.junk (run0 m hO c t).2.2.2.1)

/-- The invariant before position `n`: the scratch at anything before the first point, then as the point before left it. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (scr0 m hO c ⟨n, hn⟩) ∗ owns (c : Thread nD τ) scM0_1 fullShare (scr1 m hO c ⟨n, hn⟩) ∗ owns (c : Thread nD τ) scM0_2 fullShare (scr2 m hO c ⟨n, hn⟩) ∗ owns (c : Thread nD τ) scM0_3 fullShare (scr3 m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (scr0 m hO c ⟨n, hn⟩) ∗ owns (c : Thread nD τ) scM0_1 fullShare (scr1 m hO c ⟨n, hn⟩) ∗ owns (c : Thread nD τ) scM0_2 fullShare (scr2 m hO c ⟨n, hn⟩) ∗ owns (c : Thread nD τ) scM0_3 fullShare (scr3 m hO c ⟨n, hn⟩)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare (scr0 m hO c ⟨n - 1, by omega⟩) ∗ owns (c : Thread nD τ) scM0_1 fullShare (scr1 m hO c ⟨n - 1, by omega⟩) ∗ owns (c : Thread nD τ) scM0_2 fullShare (scr2 m hO c ⟨n - 1, by omega⟩) ∗ owns (c : Thread nD τ) scM0_3 fullShare (scr3 m hO c ⟨n - 1, by omega⟩)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `out0_·`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => out0_7 m hO c t
    | ⟨8, _⟩ => out0_8 m hO c t
    | ⟨9, _⟩ => out0_9 m hO c t
    | ⟨10, _⟩ => out0_10 m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = out0_7 m hO c t := by dsimp only [dats]; try rfl
theorem after0_8 (hO : Ok m) (c : Dev nD) (t : Fin (cfgM m hO).N) : (dats m hO 0 c).after 8 t = out0_8 m hO c t := by dsimp only [dats]; try rfl
theorem after0_9 (hO : Ok m) (c : Dev nD) (t : Fin (cfgM m hO).N) : (dats m hO 0 c).after 9 t = out0_9 m hO c t := by dsimp only [dats]; try rfl
theorem after0_10 (hO : Ok m) (c : Dev nD) (t : Fin (cfgM m hO).N) : (dats m hO 0 c).after 10 t = out0_10 m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t))

set_option maxHeartbeats 9600000 in
/-- The body at any point: the inputs' memrefs hold their blocks; the closed form says whether the point prepares the scratch;
    the run applies either way. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6, after0_7, after0_8, after0_9, after0_10]
  rw [show (dats m hO 0 c).Φ t.succ = PhiS m hO c (t.val + 1) t.isLt from rfl, PhiS_succ, PhiT0_eq]
  unfold out0_7 out0_8 out0_9 out0_10
  by_cases h0 : t.val % 16 = 0
  · have hprep := prep_first (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) (iblk m hO c 1 t) (iblk m hO c 2 t) (iblk m hO c 3 t) (iblk m hO c 4 t) Set.univ ((hcond0_0 t).mpr h0)
    have e0 : prepK (iblk m hO c 1 t) = scr0 m hO c t := by unfold scr0; rw [base_first m hO t h0]
    have e1 : prepV (iblk m hO c 2 t) = scr1 m hO c t := by unfold scr1; rw [base_first m hO t h0]
    have e2 : prepS (iblk m hO c 3 t) = scr2 m hO c t := by unfold scr2; rw [base_first m hO t h0]
    have e3 : prepS (iblk m hO c 4 t) = scr3 m hO c t := by unfold scr3; rw [base_first m hO t h0]
    rw [e0, e1, e2, e3] at hprep
    by_cases hz : t.val = 0
    · rw [PhiS_castSucc m hO c t, PhiS_zero m hO c _ _ hz, PhiT0_eq, PhiA0_eq]
      iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((run0 m hO c t).2.2.2.2 Set.univ _ _ hprep)
      isplitl [HS0 HS1 HS2 HS3]
      · isplitl [HS0]; · iexact HS0
        isplitl [HS1]; · iexact HS1
        isplitl [HS2]; · iexact HS2
        iexact HS3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HT0]; · iexact HT0
      isplitl [HT1]; · iexact HT1
      isplitl [HT2]; · iexact HT2
      iintro ⟨H0, H1, H2, H3, H4, H5, H6, ⟨%e7, H7⟩, ⟨%e8, H8⟩, ⟨%e9, H9⟩, ⟨%e10, H10⟩, HS0, HS1, HS2, HS3, HT0, HT1, HT2⟩
      isplitl [HS0 HS1 HS2 HS3 Hg HT0 HT1 HT2]
      · isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_7 _ _ _ _ _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_8 _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_9 _ _ _ _ _ _ _ _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_10 _ _ _ _ _ _ _ _ _ _ _ _ _ _ _ _ _ _ _ _ _ _ _ _ _ _ _ _ _ _ _ _ _ _ _ _ _ _ _ _ _ _ _ _ _ _)
    · rw [PhiS_castSucc m hO c t, PhiS_pos m hO c _ _ hz, PhiT0_eq]
      iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((run0 m hO c t).2.2.2.2 Set.univ _ _ hprep)
      isplitl [HS0 HS1 HS2 HS3]
      · isplitl [HS0]; · iexists _; iexact HS0
        isplitl [HS1]; · iexists _; iexact HS1
        isplitl [HS2]; · iexists _; iexact HS2
        iexists _; iexact HS3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HT0]; · iexact HT0
      isplitl [HT1]; · iexact HT1
      isplitl [HT2]; · iexact HT2
      iintro ⟨H0, H1, H2, H3, H4, H5, H6, ⟨%e7, H7⟩, ⟨%e8, H8⟩, ⟨%e9, H9⟩, ⟨%e10, H10⟩, HS0, HS1, HS2, HS3, HT0, HT1, HT2⟩
      isplitl [HS0 HS1 HS2 HS3 Hg HT0 HT1 HT2]
      · isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_7 _ _ _ _ _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_8 _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_9 _ _ _ _ _ _ _ _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_10 _ _ _ _ _ _ _ _ _ _ _ _ _ _ _ _ _ _ _ _ _ _ _ _ _ _ _ _ _ _ _ _ _ _ _ _ _ _ _ _ _ _ _ _ _ _)
  · have hz : t.val ≠ 0 := fun h => h0 (by rw [h])
    have hprep := prep_other (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) (iblk m hO c 1 t) (iblk m hO c 2 t) (iblk m hO c 3 t) (iblk m hO c 4 t) (scr0 m hO c t) (scr1 m hO c t) (scr2 m hO c t) (scr3 m hO c t) Set.univ (fun h => h0 ((hcond0_0 t).mp h))
    have hb := base_pred m hO t ⟨t.val - 1, lt_of_le_of_lt (Nat.sub_le _ _) t.isLt⟩ h0 rfl
    have e0 : scr0 m hO c ⟨t.val - 1, lt_of_le_of_lt (Nat.sub_le _ _) t.isLt⟩ = scr0 m hO c t := by unfold scr0; rw [hb]
    have e1 : scr1 m hO c ⟨t.val - 1, lt_of_le_of_lt (Nat.sub_le _ _) t.isLt⟩ = scr1 m hO c t := by unfold scr1; rw [hb]
    have e2 : scr2 m hO c ⟨t.val - 1, lt_of_le_of_lt (Nat.sub_le _ _) t.isLt⟩ = scr2 m hO c t := by unfold scr2; rw [hb]
    have e3 : scr3 m hO c ⟨t.val - 1, lt_of_le_of_lt (Nat.sub_le _ _) t.isLt⟩ = scr3 m hO c t := by unfold scr3; rw [hb]
    rw [PhiS_castSucc m hO c t, PhiS_pos m hO c _ _ hz, PhiT0_eq, e0, e1, e2, e3]
    iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run0 m hO c t).2.2.2.2 Set.univ _ _ hprep)
    isplitl [HS0 HS1 HS2 HS3]
    · isplitl [HS0]; · iexact HS0
      isplitl [HS1]; · iexact HS1
      isplitl [HS2]; · iexact HS2
      iexact HS3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HT0]; · iexact HT0
    isplitl [HT1]; · iexact HT1
    isplitl [HT2]; · iexact HT2
    iintro ⟨H0, H1, H2, H3, H4, H5, H6, ⟨%e7, H7⟩, ⟨%e8, H8⟩, ⟨%e9, H9⟩, ⟨%e10, H10⟩, HS0, HS1, HS2, HS3, HT0, HT1, HT2⟩
    isplitl [HS0 HS1 HS2 HS3 Hg HT0 HT1 HT2]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_7 _ _ _ _ _ _ _ _ _ _ _ _ _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_8 _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_9 _ _ _ _ _ _ _ _ _ _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_10 _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3⟩, Hg⟩, -⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 96 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.Kernel.Gen

end
-- ==== Proof.KernelIdeal.Points.lean ====
/- The schedule of the kernel's windows on the grid, and the body as the pipeline calls it at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 4 (%arg4)) is fetched at the points ≡ 0 (mod 16), at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_reads cc0_transform_1 reads0_1 hreads0_1 0 (by decide) (by decide) (Pipeline.Window.sep_of_coord cc0_transform_1 0 0 (fun _ => rfl) (by decide)) (P := 16) (by decide) t : ∀ t : Fin grid0.N, Pipeline.Window.fetchOf grid0 false cc0_transform_1 t = true ↔ t.val % 16 = 0)
/-- Window 2 (operand 5 (%arg6)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 0 (by decide) (by decide) (Pipeline.Window.sep_of_coord cc0_transform_2 0 0 (fun _ => rfl) (by decide)) (P := 16) (by decide) t : ∀ t : Fin grid0.N, Pipeline.Window.fetchOf grid0 false cc0_transform_2 t = true ↔ t.val % 16 = 0)
/-- Window 3 (operand 6 (%arg5)) is fetched at the points ≡ 0 (mod 16), at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_reads cc0_transform_3 reads0_3 hreads0_3 0 (by decide) (by decide) (Pipeline.Window.sep_of_coord cc0_transform_3 0 0 (fun _ => rfl) (by decide)) (P := 16) (by decide) t : ∀ t : Fin grid0.N, Pipeline.Window.fetchOf grid0 false cc0_transform_3 t = true ↔ t.val % 16 = 0)
/-- Window 4 (operand 7 (%arg7)) is fetched at the points ≡ 0 (mod 16), at any contents of the tables (its index map reads none). -/
theorem fetch0_4 (a : (pcfg0 (F := F)).Adm) : ∀ t : Fin (cfg0 a).N, ((cfg0 a).win 4).fetch t = true ↔ t.val % 16 = 0 :=
  (fun t => Pipeline.Window.fetchOf_reads cc0_transform_4 reads0_4 hreads0_4 0 (by decide) (by decide) (Pipeline.Window.sep_of_coord cc0_transform_4 0 0 (fun _ => rfl) (by decide)) (P := 16) (by decide) t : ∀ t : Fin grid0.N, Pipeline.Window.fetchOf grid0 false cc0_transform_4 t = true ↔ t.val % 16 = 0)
/-- Window 5 (operand 8 (%arg8)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 1 (fun _ => rfl) (by decide)) (P := 1) (by decide) t).mpr (Nat.mod_one _) : ∀ t : Fin grid0.N, Pipeline.Window.fetchOf grid0 false cc0_transform_5 t = true)
/-- Window 6 (operand 9 (%arg9)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 2 (fun _ => rfl) (by decide)) (P := 1) (by decide) t).mpr (Nat.mod_one _) : ∀ t : Fin grid0.N, Pipeline.Window.fetchOf grid0 false cc0_transform_6 t = true)
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 2 (fun _ => rfl) (by decide)) (P := 1) (m := 0) (by decide) rfl t).mpr (Nat.mod_one _) : ∀ t : Fin grid0.N, Pipeline.Window.flushOf grid0 true cc0_transform_8 t = true)
/-- Window 9 (result 2 (%0#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 1 (fun _ => rfl) (by decide)) (P := 1) (m := 0) (by decide) rfl t).mpr (Nat.mod_one _) : ∀ t : Fin grid0.N, Pipeline.Window.flushOf grid0 true cc0_transform_9 t = true)
/-- Window 10 (result 3 (%0#3)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 2 (fun _ => rfl) (by decide)) (P := 1) (m := 0) (by decide) rfl t).mpr (Nat.mod_one _) : ∀ t : Fin grid0.N, Pipeline.Window.flushOf grid0 true cc0_transform_10 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ring_window_attention (grid0.coords t) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Gen

end
-- ==== Proof.KernelIdeal.Trip.lean ====
/- One key block of the kernel's inner loop, stated once for all eight pairs of heads: the program a trip of each of the
   eight printed loops is, and what a trip does to the three carried arrays. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loops carry: the running maximum, the running sum, the running weighted sum of values. -/
abbrev Carry (F : FTy → Type) : Type := FVec F S1x256 .f32 × FVec F S1x256 .f32 × FVec F S128x256 .f32

/-- The kernel's test that a block of keys starting at position `k0` meets the window of a block of queries starting at
    `q0`: some key is at or before the last query, and some key is inside the window of the first. -/
abbrev blockLive (w q0 k0 : BitVec 32) : Prop :=
  Scalar.cmpi .ne (Scalar.extui (Scalar.andi (Scalar.cmpi .sle k0 (Scalar.subi (Scalar.addi q0 128#32) 1#32))
    (Scalar.cmpi .sgt (Scalar.subi (Scalar.addi k0 256#32) 1#32) (Scalar.subi q0 w)))) 0#32 = 1#1

/-- The carried arrays after a live block of keys. -/
abbrev liveNext (w q0 : Elt F .i32) (qt : FVec F S128x256 .fp8e4m3) (qs : FVec F S1x256 .f32) (k0 : Elt F .i32)
    (kb : Vec F S1x256x128 .fp8e4m3) (ks vs : Vec F S1x256x128 .f32) (vt : Vec F S1x128x256 .bf16) (acc : Carry F) : Carry F :=
  (k0_pay43 w q0 qt qs acc.1 k0 kb ks, k0_pay46 w q0 qt qs acc.1 acc.2.1 k0 kb ks,
    k0_pay110 acc.2.2 (k0_pay41 vs) (k0_pay44 w q0 qt qs acc.1 k0 kb ks) (k0_pay45 w q0 qt qs acc.1 k0 kb ks) vt)

/-- One trip as a program: read the block's first position, and when the block is live read its codes and scales and
    update the carried arrays. -/
def unitBody (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (o3 : Fin 2 → ℕ) (h3 : ∀ a, o3 a + S1x1.size a ≤ S6x2048.size a) (oK : Fin 3 → ℕ) (hK : ∀ a, oK a + S1x256x128.size a ≤ S4x2048x256.size a)
    (oS : Fin 3 → ℕ) (hS : ∀ a, oS a + S1x256x128.size a ≤ S8x2048x128.size a) (oV : Fin 3 → ℕ) (hV : ∀ a, oV a + S1x128x256.size a ≤ S8x128x2048.size a)
    (w q0 : Elt F .i32) (qt : FVec F S128x256 .fp8e4m3) (qs : FVec F S1x256 .f32) (acc : Carry F) :
    Prog (TpuEff nD τ sig (Elt F) Λ₀ .tc) (Carry F) := do
  let k0 : Elt F .i32 ← smemLoad arg3 (Rect.unit (s := S6x2048) o3 S1x1.size h3) numel1_S1x1 rfl
  if blockLive w q0 k0 then do
    let kb : Vec F S1x256x128 .fp8e4m3 ← Prog.lift (.load arg16 (Rect.unit (s := S4x2048x256) oK S1x256x128.size hK).toLoadRect (View.loadsAt_vmem h_S1x256x128))
    let ks : Vec F S1x256x128 .f32 ← Prog.lift (.load arg18 (Rect.unit (s := S8x2048x128) oS S1x256x128.size hS).toLoadRect (View.loadsAt_vmem h_S1x256x128))
    let vs : Vec F S1x256x128 .f32 ← Prog.lift (.load arg19 (Rect.unit (s := S8x2048x128) oS S1x256x128.size hS).toLoadRect (View.loadsAt_vmem h_S1x256x128))
    let vt : Vec F S1x128x256 .bf16 ← Prog.lift (.load arg17 (Rect.unit (s := S8x128x2048) oV S1x128x256.size hV).toLoadRect (View.loadsAt_vmem h_S1x128x256))
    pure (liveNext w q0 qt qs k0 kb ks vs vt acc)
  else pure acc

/-- The five buffers a trip reads, at their contents. -/
abbrev unitHeld (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty) : sProp 𝕄 :=
  iprop((arg3.view.loc (c : Thread nD τ) ↦{fullShare.right} X3) ∗ (arg16.view.loc (c : Thread nD τ) ↦[arg16.view.set]{fullShare} X16)
    ∗ (arg17.view.loc (c : Thread nD τ) ↦[arg17.view.set]{fullShare} X17) ∗ (arg18.view.loc (c : Thread nD τ) ↦[arg18.view.set]{fullShare} X18)
    ∗ (arg19.view.loc (c : Thread nD τ) ↦[arg19.view.set]{fullShare} X19))

/-- The word of the table `arg3` at `o3`. -/
def tableWord (c : Dev nD) (arg3 : Memref sig .tc .smem S6x2048 .i32) (X3 : Buf (Elt F) (arg3.view.loc (c : Thread nD τ)))
    (o3 : Fin 2 → ℕ) (h3 : ∀ a, o3 a + S1x1.size a ≤ S6x2048.size a) : Elt F .i32 :=
  View.readAt (Elt F) arg3.view (Rect.unit (s := S6x2048) o3 S1x1.size h3).toLoadRect X3 (Shape.Idx.first (numel1_S1x1.symm ▸ Nat.one_pos))

/-- The carried arrays after one trip, off the buffers it reads. -/
def unitNext (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty)
    (o3 : Fin 2 → ℕ) (h3 : ∀ a, o3 a + S1x1.size a ≤ S6x2048.size a) (oK : Fin 3 → ℕ) (hK : ∀ a, oK a + S1x256x128.size a ≤ S4x2048x256.size a)
    (oS : Fin 3 → ℕ) (hS : ∀ a, oS a + S1x256x128.size a ≤ S8x2048x128.size a) (oV : Fin 3 → ℕ) (hV : ∀ a, oV a + S1x128x256.size a ≤ S8x128x2048.size a)
    (w q0 : Elt F .i32) (qt : FVec F S128x256 .fp8e4m3) (qs : FVec F S1x256 .f32) (acc : Carry F) : Carry F :=
  if blockLive w q0 (tableWord c arg3 X3 o3 h3) then
    liveNext w q0 qt qs (tableWord c arg3 X3 o3 h3) (View.readAt (Elt F) arg16.view (Rect.unit (s := S4x2048x256) oK S1x256x128.size hK).toLoadRect X16)
      (View.readAt (Elt F) arg18.view (Rect.unit (s := S8x2048x128) oS S1x256x128.size hS).toLoadRect X18)
      (View.readAt (Elt F) arg19.view (Rect.unit (s := S8x2048x128) oS S1x256x128.size hS).toLoadRect X19)
      (View.readAt (Elt F) arg17.view (Rect.unit (s := S8x128x2048) oV S1x128x256.size hV).toLoadRect X17) acc
  else acc

/-- One trip: it leaves the buffers as they are and yields `unitNext`. -/
theorem unit_trip (𝒱 : Variants) (bd : Option 𝒱.V) (E : Set ℕ) (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty)
    (o3 : Fin 2 → ℕ) (h3 : ∀ a, o3 a + S1x1.size a ≤ S6x2048.size a) (oK : Fin 3 → ℕ) (hK : ∀ a, oK a + S1x256x128.size a ≤ S4x2048x256.size a)
    (oS : Fin 3 → ℕ) (hS : ∀ a, oS a + S1x256x128.size a ≤ S8x2048x128.size a) (oV : Fin 3 → ℕ) (hV : ∀ a, oV a + S1x128x256.size a ≤ S8x128x2048.size a)
    (w q0 : Elt F .i32) (qt : FVec F S128x256 .fp8e4m3) (qs : FVec F S1x256 .f32) (acc : Carry F) :
    unitHeld c arg3 arg16 arg17 arg18 arg19 X3 X16 X17 X18 X19
    ⊢ wp frame (wpE (defs₀ (F := F)) 𝒱 (c : Thread nD τ) bd) E (unitBody arg3 arg16 arg17 arg18 arg19 o3 h3 oK hK oS hS oV hV w q0 qt qs acc)
      (fun y => iprop(⌜y = unitNext c arg3 arg16 arg17 arg18 arg19 X3 X16 X17 X18 X19 o3 h3 oK hK oS hS oV hV w q0 qt qs acc⌝
        ∗ unitHeld c arg3 arg16 arg17 arg18 arg19 X3 X16 X17 X18 X19)) := by
  unfold unitBody
  iintro ⟨H3, H16, H17, H18, H19⟩
  sl_exec
  split_ifs with h
  · sl_exec
    sl_step
    isplitr; · ipureintro; exact (if_pos h).symm
    isplitl [H3]; · iexact H3
    isplitl [H16]; · iexact H16
    isplitl [H17]; · iexact H17
    isplitl [H18]; · iexact H18
    iexact H19
  · sl_exec
    sl_step
    isplitr; · ipureintro; exact (if_neg h).symm
    isplitl [H3]; · iexact H3
    isplitl [H16]; · iexact H16
    isplitl [H17]; · iexact H17
    isplitl [H18]; · iexact H18
    iexact H19

/-- The carried arrays before trip `k` of a loop of `T` trips, each doing `next`. -/
def unitSt {T : ℕ} (next : Fin T → Carry F → Carry F) (init : Carry F) : ℕ → Carry F
  | 0 => init
  | k + 1 => if h : k < T then next ⟨k, h⟩ (unitSt next init k) else unitSt next init k

theorem unitSt_succ {T : ℕ} (next : Fin T → Carry F → Carry F) (init : Carry F) (k : Fin T) :
    unitSt next init (k.val + 1) = next k (unitSt next init k.val) := by
  rw [unitSt]; exact dif_pos k.isLt

/-- The invariant of a loop of such trips: the buffers as they were, the carried arrays those before trip `k`. -/
abbrev unitInv {T : ℕ} (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty) (next : Fin T → Carry F → Carry F) (init : Carry F) (k : ℕ) (acc : Carry F) : sProp 𝕄 :=
  iprop((arg3.view.loc (c : Thread nD τ) ↦{fullShare.right} X3) ∗ (arg16.view.loc (c : Thread nD τ) ↦[arg16.view.set]{fullShare} X16)
    ∗ (arg17.view.loc (c : Thread nD τ) ↦[arg17.view.set]{fullShare} X17) ∗ (arg18.view.loc (c : Thread nD τ) ↦[arg18.view.set]{fullShare} X18)
    ∗ (arg19.view.loc (c : Thread nD τ) ↦[arg19.view.set]{fullShare} X19) ∗ ⌜acc = unitSt next init k⌝)

/-- One step of that invariant, for a loop whose trip `k` is the program `unitBody`. -/
theorem unit_step {T : ℕ} (𝒱 : Variants) (bd : Option 𝒱.V) (E : Set ℕ) (c : Dev nD) (arg3 : Memref sig .tc .smem S6x2048 .i32) (arg16 : Memref sig .tc .vmem S4x2048x256 .fp8e4m3)
    (arg17 : Memref sig .tc .vmem S8x128x2048 .bf16) (arg18 : Memref sig .tc .vmem S8x2048x128 .f32) (arg19 : Memref sig .tc .vmem S8x2048x128 .f32)
    (X3 : Buf (Elt F) (arg3.view.loc (c : Thread nD τ))) (X16 : BufTy.Contents (Elt F) arg16.view.ty) (X17 : BufTy.Contents (Elt F) arg17.view.ty)
    (X18 : BufTy.Contents (Elt F) arg18.view.ty) (X19 : BufTy.Contents (Elt F) arg19.view.ty)
    (o3 : Fin T → Fin 2 → ℕ) (h3 : ∀ k a, o3 k a + S1x1.size a ≤ S6x2048.size a) (oK : Fin T → Fin 3 → ℕ) (hK : ∀ k a, oK k a + S1x256x128.size a ≤ S4x2048x256.size a)
    (oS : Fin T → Fin 3 → ℕ) (hS : ∀ k a, oS k a + S1x256x128.size a ≤ S8x2048x128.size a) (oV : Fin T → Fin 3 → ℕ) (hV : ∀ k a, oV k a + S1x128x256.size a ≤ S8x128x2048.size a)
    (w q0 : Elt F .i32) (qt : FVec F S128x256 .fp8e4m3) (qs : FVec F S1x256 .f32) (init : Carry F) (k : Fin T) (acc : Carry F) :
    unitInv c arg3 arg16 arg17 arg18 arg19 X3 X16 X17 X18 X19 (fun k => unitNext c arg3 arg16 arg17 arg18 arg19 X3 X16 X17 X18 X19 (o3 k) (h3 k) (oK k) (hK k) (oS k) (hS k) (oV k) (hV k) w q0 qt qs) init k.val acc
    ⊢ wp frame (wpE (defs₀ (F := F)) 𝒱 (c : Thread nD τ) bd) E (unitBody arg3 arg16 arg17 arg18 arg19 (o3 k) (h3 k) (oK k) (hK k) (oS k) (hS k) (oV k) (hV k) w q0 qt qs acc)
      (fun y => unitInv c arg3 arg16 arg17 arg18 arg19 X3 X16 X17 X18 X19 (fun k => unitNext c arg3 arg16 arg17 arg18 arg19 X3 X16 X17 X18 X19 (o3 k) (h3 k) (oK k) (hK k) (oS k) (hS k) (oV k) (hV k) w q0 qt qs) init (k.val + 1) y) := by
  iintro ⟨H3, H16, H17, H18, H19, %hacc⟩
  subst hacc
  iapply (wp_wand_r Idealize.ShloMosaic.frame (wpE (defs₀ (F := F)) 𝒱 (c : Thread nD τ) bd) E)
  isplitl [H3 H16 H17 H18 H19]
  · iapply (unit_trip 𝒱 bd E c arg3 arg16 arg17 arg18 arg19 X3 X16 X17 X18 X19 (o3 k) (h3 k) (oK k) (hK k) (oS k) (hS k) (oV k) (hV k) w q0 qt qs)
    isplitl [H3]; · iexact H3
    isplitl [H16]; · iexact H16
    isplitl [H17]; · iexact H17
    isplitl [H18]; · iexact H18
    iexact H19
  · iintro %y ⟨%hy, H3, H16, H17, H18, H19⟩
    isplitl [H3]; · iexact H3
    isplitl [H16]; · iexact H16
    isplitl [H17]; · iexact H17
    isplitl [H18]; · iexact H18
    isplitl [H19]; · iexact H19
    rw [unitSt_succ]
    ipureintro; rw [hy]

end Cert.KernelIdeal.Gen
end
-- ==== Proof.KernelIdeal.Loops.lean ====
/- The eight printed loops over key blocks, one per pair of heads, each by the one trip of `Trip.lean`. -/
module

public import proofs.«01_k».proof.Proof.KernelIdeal.Trip

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- Loop 2 of the printed module, heads 0 and 1. -/
@[sl_loop] def loopInv_k0_t2 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v121 : FVec F S128x256 .fp8e4m3) (v132 : FVec F S1x256 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.KernelIdeal.Gen.LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v121 v132 init where
  inv := unitInv c arg3 arg16 arg17 arg18 arg19 X3 X16 X17 X18 X19 (fun k => unitNext c arg3 arg16 arg17 arg18 arg19 X3 X16 X17 X18 X19 (k0_off43 i k) (k0_off43_inb i k) (k0_off44 k) (k0_off44_inb k) (k0_off45 k) (k0_off45_inb k) (k0_off46 k) (k0_off46_inb k) v4 v8 v121 v132) init
  step k acc := by
    rw [show k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v121 v132 k acc
      = unitBody arg3 arg16 arg17 arg18 arg19 (k0_off43 i k) (k0_off43_inb i k) (k0_off44 k) (k0_off44_inb k) (k0_off45 k) (k0_off45_inb k) (k0_off46 k) (k0_off46_inb k) v4 v8 v121 v132 acc from by
        simp only [k0_t2_body, k0_part12_eq_skeleton]; unfold k0_part12_skel unitBody; rfl]
    exact unit_step 𝒱 bd E c arg3 arg16 arg17 arg18 arg19 X3 X16 X17 X18 X19 (k0_off43 i) (k0_off43_inb i) k0_off44 k0_off44_inb k0_off45 k0_off45_inb k0_off46 k0_off46_inb v4 v8 v121 v132 init k acc

set_option warn.classDefReducibility false in
/-- Loop 3 of the printed module, heads 2 and 3. -/
@[sl_loop] def loopInv_k0_t3 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v210 : FVec F S128x256 .fp8e4m3) (v221 : FVec F S1x256 .f32) (v230 : FVec F S1x256 .f32) (v231 : FVec F S1x256 .f32) (v232 : FVec F S1x256 .f32) (v233 : FVec F S128x256 .f32) (c0_i32_160 : BitVec 32) (c1_i32_162 : BitVec 32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.KernelIdeal.Gen.LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v210 v221 v230 v231 v232 v233 c0_i32_160 c1_i32_162 init where
  inv := unitInv c arg3 arg16 arg17 arg18 arg19 X3 X16 X17 X18 X19 (fun k => unitNext c arg3 arg16 arg17 arg18 arg19 X3 X16 X17 X18 X19 (k0_off47 i k) (k0_off47_inb i k) (k0_off48 k) (k0_off48_inb k) (k0_off49 k) (k0_off49_inb k) (k0_off50 k) (k0_off50_inb k) v4 v8 v210 v221) init
  step k acc := by
    rw [show k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v210 v221 v230 v231 v232 v233 c0_i32_160 c1_i32_162 k acc
      = unitBody arg3 arg16 arg17 arg18 arg19 (k0_off47 i k) (k0_off47_inb i k) (k0_off48 k) (k0_off48_inb k) (k0_off49 k) (k0_off49_inb k) (k0_off50 k) (k0_off50_inb k) v4 v8 v210 v221 acc from by
        simp only [k0_t3_body, k0_part13_eq_skeleton]; unfold k0_part13_skel unitBody; rfl]
    exact unit_step 𝒱 bd E c arg3 arg16 arg17 arg18 arg19 X3 X16 X17 X18 X19 (k0_off47 i) (k0_off47_inb i) k0_off48 k0_off48_inb k0_off49 k0_off49_inb k0_off50 k0_off50_inb v4 v8 v210 v221 init k acc

set_option warn.classDefReducibility false in
/-- Loop 4 of the printed module, heads 4 and 5. -/
@[sl_loop] def loopInv_k0_t4 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v411 : FVec F S128x256 .fp8e4m3) (v414 : Vec F S1x128 .f32) (v418 : Vec F S1x128 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.KernelIdeal.Gen.LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v411 v414 v418 init where
  inv := unitInv c arg3 arg16 arg17 arg18 arg19 X3 X16 X17 X18 X19 (fun k => unitNext c arg3 arg16 arg17 arg18 arg19 X3 X16 X17 X18 X19 (k0_off51 i k) (k0_off51_inb i k) (k0_off52 k) (k0_off52_inb k) (k0_off53 k) (k0_off53_inb k) (k0_off54 k) (k0_off54_inb k) v4 v8 v411 (k0_pay145 v414 v418)) init
  step k acc := by
    rw [show k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v411 v414 v418 k acc
      = unitBody arg3 arg16 arg17 arg18 arg19 (k0_off51 i k) (k0_off51_inb i k) (k0_off52 k) (k0_off52_inb k) (k0_off53 k) (k0_off53_inb k) (k0_off54 k) (k0_off54_inb k) v4 v8 v411 (k0_pay145 v414 v418) acc from by
        simp only [k0_t4_body, k0_part14_eq_skeleton]; unfold k0_part14_skel unitBody; rfl]
    exact unit_step 𝒱 bd E c arg3 arg16 arg17 arg18 arg19 X3 X16 X17 X18 X19 (k0_off51 i) (k0_off51_inb i) k0_off52 k0_off52_inb k0_off53 k0_off53_inb k0_off54 k0_off54_inb v4 v8 v411 (k0_pay145 v414 v418) init k acc

set_option warn.classDefReducibility false in
/-- Loop 5 of the printed module, heads 6 and 7. -/
@[sl_loop] def loopInv_k0_t5 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v500 : FVec F S128x256 .fp8e4m3) (v511 : FVec F S1x256 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.KernelIdeal.Gen.LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v500 v511 init where
  inv := unitInv c arg3 arg16 arg17 arg18 arg19 X3 X16 X17 X18 X19 (fun k => unitNext c arg3 arg16 arg17 arg18 arg19 X3 X16 X17 X18 X19 (k0_off55 i k) (k0_off55_inb i k) (k0_off56 k) (k0_off56_inb k) (k0_off57 k) (k0_off57_inb k) (k0_off58 k) (k0_off58_inb k) v4 v8 v500 v511) init
  step k acc := by
    rw [show k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v500 v511 k acc
      = unitBody arg3 arg16 arg17 arg18 arg19 (k0_off55 i k) (k0_off55_inb i k) (k0_off56 k) (k0_off56_inb k) (k0_off57 k) (k0_off57_inb k) (k0_off58 k) (k0_off58_inb k) v4 v8 v500 v511 acc from by
        simp only [k0_t5_body, k0_part15_eq_skeleton]; unfold k0_part15_skel unitBody; rfl]
    exact unit_step 𝒱 bd E c arg3 arg16 arg17 arg18 arg19 X3 X16 X17 X18 X19 (k0_off55 i) (k0_off55_inb i) k0_off56 k0_off56_inb k0_off57 k0_off57_inb k0_off58 k0_off58_inb v4 v8 v500 v511 init k acc

set_option warn.classDefReducibility false in
/-- Loop 6 of the printed module, heads 8 and 9. -/
@[sl_loop] def loopInv_k0_t6 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v701 : FVec F S128x256 .fp8e4m3) (v712 : FVec F S1x256 .f32) (v716 : FVec F S1x128 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.KernelIdeal.Gen.LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v701 v712 v716 init where
  inv := unitInv c arg3 arg16 arg17 arg18 arg19 X3 X16 X17 X18 X19 (fun k => unitNext c arg3 arg16 arg17 arg18 arg19 X3 X16 X17 X18 X19 (k0_off59 i k) (k0_off59_inb i k) (k0_off60 k) (k0_off60_inb k) (k0_off61 k) (k0_off61_inb k) (k0_off62 k) (k0_off62_inb k) v4 v8 v701 v712) init
  step k acc := by
    rw [show k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v701 v712 v716 k acc
      = unitBody arg3 arg16 arg17 arg18 arg19 (k0_off59 i k) (k0_off59_inb i k) (k0_off60 k) (k0_off60_inb k) (k0_off61 k) (k0_off61_inb k) (k0_off62 k) (k0_off62_inb k) v4 v8 v701 v712 acc from by
        simp only [k0_t6_body, k0_part16_eq_skeleton]; unfold k0_part16_skel unitBody; rfl]
    exact unit_step 𝒱 bd E c arg3 arg16 arg17 arg18 arg19 X3 X16 X17 X18 X19 (k0_off59 i) (k0_off59_inb i) k0_off60 k0_off60_inb k0_off61 k0_off61_inb k0_off62 k0_off62_inb v4 v8 v701 v712 init k acc

set_option warn.classDefReducibility false in
/-- Loop 7 of the printed module, heads 10 and 11. -/
@[sl_loop] def loopInv_k0_t7 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v790 : FVec F S128x256 .fp8e4m3) (v793 : Vec F S1x128 .f32) (v797 : Vec F S1x128 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.KernelIdeal.Gen.LoopInvTy_k0_t7 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v790 v793 v797 init where
  inv := unitInv c arg3 arg16 arg17 arg18 arg19 X3 X16 X17 X18 X19 (fun k => unitNext c arg3 arg16 arg17 arg18 arg19 X3 X16 X17 X18 X19 (k0_off63 i k) (k0_off63_inb i k) (k0_off64 k) (k0_off64_inb k) (k0_off65 k) (k0_off65_inb k) (k0_off66 k) (k0_off66_inb k) v4 v8 v790 (k0_pay207 v793 v797)) init
  step k acc := by
    rw [show k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v790 v793 v797 k acc
      = unitBody arg3 arg16 arg17 arg18 arg19 (k0_off63 i k) (k0_off63_inb i k) (k0_off64 k) (k0_off64_inb k) (k0_off65 k) (k0_off65_inb k) (k0_off66 k) (k0_off66_inb k) v4 v8 v790 (k0_pay207 v793 v797) acc from by
        simp only [k0_t7_body, k0_part17_eq_skeleton]; unfold k0_part17_skel unitBody; rfl]
    exact unit_step 𝒱 bd E c arg3 arg16 arg17 arg18 arg19 X3 X16 X17 X18 X19 (k0_off63 i) (k0_off63_inb i) k0_off64 k0_off64_inb k0_off65 k0_off65_inb k0_off66 k0_off66_inb v4 v8 v790 (k0_pay207 v793 v797) init k acc

set_option warn.classDefReducibility false in
/-- Loop 8 of the printed module, heads 12 and 13. -/
@[sl_loop] def loopInv_k0_t8 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v991 : FVec F S128x256 .fp8e4m3) (v995 : FVec F S1x128 .f32) (v998 : Vec F S1x128 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.KernelIdeal.Gen.LoopInvTy_k0_t8 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v991 v995 v998 init where
  inv := unitInv c arg3 arg16 arg17 arg18 arg19 X3 X16 X17 X18 X19 (fun k => unitNext c arg3 arg16 arg17 arg18 arg19 X3 X16 X17 X18 X19 (k0_off67 i k) (k0_off67_inb i k) (k0_off68 k) (k0_off68_inb k) (k0_off69 k) (k0_off69_inb k) (k0_off70 k) (k0_off70_inb k) v4 v8 v991 (k0_pay237 v995 v998)) init
  step k acc := by
    rw [show k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v991 v995 v998 k acc
      = unitBody arg3 arg16 arg17 arg18 arg19 (k0_off67 i k) (k0_off67_inb i k) (k0_off68 k) (k0_off68_inb k) (k0_off69 k) (k0_off69_inb k) (k0_off70 k) (k0_off70_inb k) v4 v8 v991 (k0_pay237 v995 v998) acc from by
        simp only [k0_t8_body, k0_part18_eq_skeleton]; unfold k0_part18_skel unitBody; rfl]
    exact unit_step 𝒱 bd E c arg3 arg16 arg17 arg18 arg19 X3 X16 X17 X18 X19 (k0_off67 i) (k0_off67_inb i) k0_off68 k0_off68_inb k0_off69 k0_off69_inb k0_off70 k0_off70_inb v4 v8 v991 (k0_pay237 v995 v998) init k acc

set_option warn.classDefReducibility false in
/-- Loop 9 of the printed module, heads 14 and 15. -/
@[sl_loop] def loopInv_k0_t9 (𝒱 : Variants) (c : Dev nD) (bd : Option 𝒱.V) (E : Set ℕ) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (arg0 : BitVec 32) (v4 : Elt F .i32) (v8 : Elt F .i32) (v1080 : FVec F S128x256 .fp8e4m3) (v1091 : FVec F S1x256 .f32) (v1100 : FVec F S1x256 .f32)
    (X3 : Buf (Elt F) (arg3.view.loc (c : Thread nD τ))) (X16 : BufTy.Contents (Elt F) arg16.view.ty) (X17 : BufTy.Contents (Elt F) arg17.view.ty) (X18 : BufTy.Contents (Elt F) arg18.view.ty) (X19 : BufTy.Contents (Elt F) arg19.view.ty) (init : FVec F S1x256 .f32 × FVec F S1x256 .f32 × FVec F S128x256 .f32) :
    Cert.KernelIdeal.Gen.LoopInvTy_k0_t9 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v1080 v1091 v1100 init where
  inv := unitInv c arg3 arg16 arg17 arg18 arg19 X3 X16 X17 X18 X19 (fun k => unitNext c arg3 arg16 arg17 arg18 arg19 X3 X16 X17 X18 X19 (k0_off71 i k) (k0_off71_inb i k) (k0_off72 k) (k0_off72_inb k) (k0_off73 k) (k0_off73_inb k) (k0_off74 k) (k0_off74_inb k) v4 v8 v1080 v1091) init
  step k acc := by
    rw [show k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v8 v1080 v1091 v1100 k acc
      = unitBody arg3 arg16 arg17 arg18 arg19 (k0_off71 i k) (k0_off71_inb i k) (k0_off72 k) (k0_off72_inb k) (k0_off73 k) (k0_off73_inb k) (k0_off74 k) (k0_off74_inb k) v4 v8 v1080 v1091 acc from by
        simp only [k0_t9_body, k0_part19_eq_skeleton]; unfold k0_part19_skel unitBody; rfl]
    exact unit_step 𝒱 bd E c arg3 arg16 arg17 arg18 arg19 X3 X16 X17 X18 X19 (k0_off71 i) (k0_off71_inb i) k0_off72 k0_off72_inb k0_off73 k0_off73_inb k0_off74 k0_off74_inb v4 v8 v1080 v1091 init k acc

end Cert.KernelIdeal.Gen
end
-- ==== Proof.KernelIdeal.Runs.lean ====
/- What the frame certificate is stated over: the host prefix, the tables, the windows' blocks, the staging memrefs. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.KernelIdeal.Loops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch memory after the three host transposes. -/
def V (c : Dev nD) (b : Ref sig .tc) : Buf (Elt F) ((c : Thread nD τ).loc b) :=
  StableHlo.after hostOps0 (fun b => m (c, b)) b

/-- No host operation names a fresh buffer. -/
theorem hostOps0_fresh : (hostOps0 : List (HloOp τ sig (Elt F))).Forall fun op => op.fresh = ∅ := ⟨rfl, rfl, rfl⟩

/-- @main up to the region: the host transposes, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_v0 (c : Dev nD) : V m c main_v0
    = (transpose S6x8x2048 [0, 2, 1] (m ((c : Thread nD τ).loc main_arg5) : (⟨S6x2048x8, .f32⟩ : BufTy).Contents (Elt F)) transposes_S6x2048x8_S6x8x2048_0_2_1 : (⟨S6x8x2048, .f32⟩ : BufTy).Contents (Elt F)) := rfl
theorem V_main_v1 (c : Dev nD) : V m c main_v1
    = (transpose S6x8x2048 [0, 2, 1] (m ((c : Thread nD τ).loc main_arg7) : (⟨S6x2048x8, .f32⟩ : BufTy).Contents (Elt F)) transposes_S6x2048x8_S6x8x2048_0_2_1 : (⟨S6x8x2048, .f32⟩ : BufTy).Contents (Elt F)) := rfl
theorem V_main_v2 (c : Dev nD) : V m c main_v2
    = (transpose S6x16x2048 [0, 2, 1] (m ((c : Thread nD τ).loc main_arg9) : (⟨S6x2048x16, .f32⟩ : BufTy).Contents (Elt F)) transposes_S6x2048x16_S6x16x2048_0_2_1 : (⟨S6x16x2048, .f32⟩ : BufTy).Contents (Elt F)) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6x2048 .i32 := Memref.whole main_arg1
abbrev htbM0_0 : tbM0_0.IsWhole := Memref.isWhole_whole _
abbrev tbM0_1 : Memref sig .tc .smem S6x2048 .i32 := Memref.whole main_arg2
abbrev htbM0_1 : tbM0_1.IsWhole := Memref.isWhole_whole _
abbrev tbM0_2 : Memref sig .tc .smem S6 .i32 := Memref.whole main_arg3
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 1).trans (((dats 0 c).arrAt_in 1 rfl _).trans ((hA c 1).trans (V_main_arg4 m c))),
      ((h c).2 main_arg5 (by decide : main_arg5 ∈ Pipeline.restRefs sig spec0)).trans (V_main_arg5 m c),
      ((h c).1 2).trans (((dats 0 c).arrAt_in 2 rfl _).trans ((hA c 2).trans (V_main_arg6 m c))),
      ((h c).2 main_arg7 (by decide : main_arg7 ∈ Pipeline.restRefs sig spec0)).trans (V_main_arg7 m c),
      ((h c).1 5).trans (((dats 0 c).arrAt_in 5 rfl _).trans ((hA c 5).trans (V_main_arg8 m c))),
      ((h c).2 main_arg9 (by decide : main_arg9 ∈ Pipeline.restRefs sig spec0)).trans (V_main_arg9 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin grid0.N, cond0_0 (grid0.coords t) ↔ t.val % 16 = 0 :=
  (fun t => by
    have ht : t.val < 96 := Nat.lt_of_lt_of_eq t.isLt N_0
    have e0 : (grid0.coords t 0).val = t.val / 16 % 6 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- One staging buffer of output window 7, through which its contents are stated (`View.read_writes_of_cover`: the
    choice does not matter). -/
abbrev VO0_7 : View sig .tc .vmem S1x128x16x128 .bf16 := (Memref.whole cc0_stg7_0 : Memref sig .tc .vmem S1x128x16x128 .bf16).view
/-- One staging buffer of output window 8, through which its contents are stated (`View.read_writes_of_cover`: the
    choice does not matter). -/
abbrev VO0_8 : View sig .tc .vmem S1x16x128 .f32 := (Memref.whole cc0_stg8_0 : Memref sig .tc .vmem S1x16x128 .f32).view
/-- One staging buffer of output window 9, through which its contents are stated (`View.read_writes_of_cover`: the
    choice does not matter). -/
abbrev VO0_9 : View sig .tc .vmem S1x128x16x128 .fp8e4m3 := (Memref.whole cc0_stg9_0 : Memref sig .tc .vmem S1x128x16x128 .fp8e4m3).view
/-- One staging buffer of output window 10, through which its contents are stated (`View.read_writes_of_cover`: the
    choice does not matter). -/
abbrev VO0_10 : View sig .tc .vmem S1x16x128 .f32 := (Memref.whole cc0_stg10_0 : Memref sig .tc .vmem S1x16x128 .f32).view
/-- Each window's current staging memref at point `t`, spelled as the pipeline passes it (`bodyAt0`), and its wholeness. -/
abbrev ms0_0 (hO : Ok m) (t : Fin (cfgM m hO).N) : Memref sig .tc .vmem S1x128x16x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x8x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x8x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x2048 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x16x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x16x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x16x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x16x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x128x16x128 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x16x128 .f32 := spec0_10.stage ((cfgM m hO).slots t 10)
abbrev hs0_10 (hO : Ok m) (t : Fin (cfgM m hO).N) : (ms0_10 m hO t).IsWhole := hstage0_10 (((cfgM m hO).slots t 10).cast nbuf0_10)
/-- The scratch operands: whole scoped buffers of the kernel's own, passed beside the windows. -/
abbrev scM0_0 : Memref sig .tc .vmem S4x2048x256 .fp8e4m3 := Memref.whole cc0_scratch0
abbrev scM0_1 : Memref sig .tc .vmem S8x128x2048 .bf16 := Memref.whole cc0_scratch1
abbrev scM0_2 : Memref sig .tc .vmem S8x2048x128 .f32 := Memref.whole cc0_scratch2
abbrev scM0_3 : Memref sig .tc .vmem S8x2048x128 .f32 := Memref.whole cc0_scratch3
/-- The scratch `arg16` the kernel carries between points, as a view: what it holds is stated through it. -/
abbrev VS0_0 : View sig .tc .vmem S4x2048x256 .fp8e4m3 := scM0_0.view
/-- The scratch `arg17` the kernel carries between points, as a view: what it holds is stated through it. -/
abbrev VS0_1 : View sig .tc .vmem S8x128x2048 .bf16 := scM0_1.view
/-- The scratch `arg18` the kernel carries between points, as a view: what it holds is stated through it. -/
abbrev VS0_2 : View sig .tc .vmem S8x2048x128 .f32 := scM0_2.view
/-- The scratch `arg19` the kernel carries between points, as a view: what it holds is stated through it. -/
abbrev VS0_3 : View sig .tc .vmem S8x2048x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KernelIdeal.Body.lean ====
/- The kernel body run once, over any contents of the scratch: a first point of a row of blocks fills the scratch, any
   other finds it as the point before left it; which of the two is the caller's (`prepGoal`). -/
module

public import proofs.«01_k».proof.Proof.KernelIdeal.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conditional followed by the same continuation in both branches is the conditional, then the continuation. -/
theorem dite_join.{v} {Ef : Type → Type v} {β : Type} {C : Prop} [Decidable C] (p : C → Prog Ef PUnit) (r : Prog Ef β) :
    (if h : C then p h >>= fun _ => r else r)
      = ((if h : C then (p h >>= fun _ => (pure PUnit.unit : Prog Ef PUnit)) else (pure PUnit.unit : Prog Ef PUnit)) >>= fun _ => r) := by
  by_cases h : C
  · rw [dif_pos h, dif_pos h, bind_assoc]; rfl
  · rw [dif_neg h, dif_neg h]; rfl

/-- The body's first statement: at the first block of a batch row the keys and values are prepared in the scratch. -/
def prepProg (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) : Prog (TpuEff nD τ sig (Elt F) Λ₀ .tc) PUnit :=
  if k0_h1 : k0_cond1 i = 1#1 then
    (Scf.Loop.for k0_t1_loop (k0_t1_ok i k0_h1) ⟨⟩ (k0_t1_body i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1) >>= fun _ => pure ⟨⟩)
  else pure ⟨⟩

/-- What the body's run asks of that statement: from `P` and the windows it reads, it leaves them and the scratch at `xs·`. -/
def prepGoal (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x1 : Vec F S1x2048x8x128 .fp8e4m3) (x2 : Vec F S1x2048x8x128 .fp8e4m3) (x3 : Vec F S1x8x2048 .f32) (x4 : Vec F S1x8x2048 .f32)
    (xs0 : Vec F S4x2048x256 .fp8e4m3) (xs1 : Vec F S8x128x2048 .bf16) (xs2 : Vec F S8x2048x128 .f32) (xs3 : Vec F S8x2048x128 .f32) (E : Set ℕ) (P : sProp 𝕄) : Prop :=
  iprop(P ∗ owns (c : Thread nD τ) arg6 fullShare x1 ∗ owns (c : Thread nD τ) arg7 fullShare x2 ∗ owns (c : Thread nD τ) arg8 fullShare x3 ∗ owns (c : Thread nD τ) arg9 fullShare x4)
    ⊢ wp frame (wpE (defs₀ (F := F)) Variants.none c none) E (prepProg i arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop(owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg16 fullShare xs0 ∗ owns (c : Thread nD τ) arg17 fullShare xs1 ∗ owns (c : Thread nD τ) arg18 fullShare xs2 ∗ owns (c : Thread nD τ) arg19 fullShare xs3))

set_option maxHeartbeats 4000000 in set_option sl_exec.squeezeSlice true in
/-- The whole body: the pieces it writes into each output's memref, with the proof that it runs. -/
def kernelRun0 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) :
    Σ' (L7 : List (View.Piece (Elt F) S1x128x16x128 .bf16)), Σ' (L8 : List (View.Piece (Elt F) S1x16x128 .f32)), Σ' (L9 : List (View.Piece (Elt F) S1x128x16x128 .fp8e4m3)), { L10 : List (View.Piece (Elt F) S1x16x128 .f32) //
      ∀ (E : Set ℕ) (K : PUnit → sProp 𝕄) (P : sProp 𝕄) (hprep : prepGoal c i arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 xs0 xs1 xs2 xs3 E P),
        iprop(P ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ (∃ f, arg12.view.loc (c : Thread nD τ) ↦[arg12.view.set]{fullShare} arg12.view.writes (Elt F) f L7) ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ owns (c : Thread nD τ) arg16 fullShare xs0 ∗ owns (c : Thread nD τ) arg17 fullShare xs1 ∗ owns (c : Thread nD τ) arg18 fullShare xs2 ∗ owns (c : Thread nD τ) arg19 fullShare xs3 ∗ tbPt0 c tbM0_0 xt0 ∗ tbPt0 c tbM0_1 xt1 ∗ tbPt0 c tbM0_2 xt2) -∗ K ⟨⟩))
          ⊢ wp frame (wpE (defs₀ (F := F)) Variants.none c none) E (cc0_ring_window_attention i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K P hprep => ?run⟩
  case run =>
    simp only [cc0_ring_window_attention_eq_skeleton]; unfold cc0_ring_window_attention_skel
    simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    iintro ⟨HP, H0, H1, H2, H3, H4, H5, H6, H7, H8, H9, H10, HT0, HT1, HT2, Hk⟩
    set_option sl_exec.stopBefore "k0_cond1" in sl_exec
    rw [dite_join, wp_bind]
    iapply (wp_wand_r Idealize.ShloMosaic.frame (wpE (defs₀ (F := F)) Variants.none (c : Thread nD τ) none) E)
    isplitl [HP H1 H2 H3 H4]
    · unfold prepGoal prepProg at hprep
      iapply hprep
      isplitl [HP]; · iexact HP
      isplitl [H1]; · iexact H1
      isplitl [H2]; · iexact H2
      isplitl [H3]; · iexact H3
      iexact H4
    iintro %_ ⟨H1, H2, H3, H4, HS0, HS1, HS2, HS3⟩
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%d7, %f7, -, H7⟩
    icases H8 with ⟨%d8, %f8, -, H8⟩
    icases H9 with ⟨%d9, %f9, -, H9⟩
    icases H10 with ⟨%d10, %f10, -, H10⟩
    icases HS0 with ⟨%fs0, %hfs0, HS0⟩
    icases HS1 with ⟨%fs1, %hfs1, HS1⟩
    icases HS2 with ⟨%fs2, %hfs2, HS2⟩
    icases HS3 with ⟨%fs3, %hfs3, HS3⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6
    obtain rfl := harg16.eq_unread hfs0; obtain rfl := harg17.eq_unread hfs1; obtain rfl := harg18.eq_unread hfs2; obtain rfl := harg19.eq_unread hfs3
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg16.read_unread _
      iexact HS0
    isplitl [HS1]
    · iexists _; isplitr; · ipureintro; exact harg17.read_unread _
      iexact HS1
    isplitl [HS2]
    · iexists _; isplitr; · ipureintro; exact harg18.read_unread _
      iexact HS2
    isplitl [HS3]
    · iexists _; isplitr; · ipureintro; exact harg19.read_unread _
      iexact HS3
    isplitl [HT0]; · iexact HT0
    isplitl [HT1]; · iexact HT1
    iexact HT2

end Cert.KernelIdeal.Gen

end
-- ==== Proof.KernelIdeal.Prep.lean ====
/- What the first point of a batch row leaves in the scratch: the keys of a group side by side, the values transposed,
   and the two rows of scales repeated along the lanes. -/
module

public import proofs.«01_k».proof.Proof.KernelIdeal.Body
public import Idealize.ShloMosaic.Lib.Pointwise
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The keys' scratch: group `g`'s two heads side by side. -/
def prepK (x1 : Vec F S1x2048x8x128 .fp8e4m3) : Vec F S4x2048x256 .fp8e4m3 := fun y =>
  x1 (ix4 0 (y 1) ⟨2 * (y 0).val + (y 2).val / 128, by have h0 := (y 0).isLt; have h2 := (y 2).isLt; simp only [Shape.size] at h0 h2; exact by first | omega | (simp at h0 h2; omega)⟩ ⟨(y 2).val % 128, Nat.mod_lt _ (by decide)⟩)

/-- The values' scratch: each head's rows transposed, at the wider type. -/
def prepV (x2 : Vec F S1x2048x8x128 .fp8e4m3) : Vec F S8x128x2048 .bf16 := fun y =>
  FloatOps.extf .bf16 bitsLt_fp8e4m3_bf16 (x2 (ix4 0 (y 2) (y 0) (y 1)))

/-- A scales' scratch: each row repeated along the lanes. -/
def prepS (x3 : Vec F S1x8x2048 .f32) : Vec F S8x2048x128 .f32 := fun y => x3 (ix3 0 (y 0) (y 1))

theorem set_squeeze_full {sig : RefSig} {κ : Kind} {sp : Space} {s : Shape} {e : EltTy} (m : Memref sig κ sp s e) {off : Fin s.rank → ℕ}
    (inb : ∀ a, off a + s.size a ≤ s.size a) {s' : Shape} (hq : (Rect.unit off s.size inb).shape.Squeezes s') :
    ((m.slice (Rect.unit off s.size inb) (fun _ => rfl)).squeeze s' hq).view.set = m.view.set := by
  refine (View.set_reshape (v := (m.slice (Rect.unit off s.size inb) (fun _ => rfl)).view) hq.numel_eq).trans ?_
  refine (View.set_slice _ _).trans ?_
  have h : (Rect.unit off s.size inb).set = Finset.univ := by
    refine Finset.eq_univ_iff_forall.2 fun y => ?_
    rw [← Rect.map_emb_univ]
    exact Finset.mem_map.2 ⟨y, Finset.mem_univ _, Rect.emb_unit_full inb y⟩
  rw [h]; rfl

theorem readRows (arg6 : Memref sig .tc .vmem S1x2048x8x128 .fp8e4m3) (harg6 : arg6.IsWhole) (x1 : Vec F S1x2048x8x128 .fp8e4m3) (o : Fin 3 → ℕ)
    (inb : ∀ a, o a + S256x1x128.size a ≤ S2048x8x128.size a) (x : S256x1x128.Idx) (z : S1x2048x8x128.Idx)
    (h1 : (z 1).val = o 0 + (x 0).val) (h2 : (z 2).val = o 1 + (x 1).val) (h3 : (z 3).val = o 2 + (x 2).val) :
    View.readAt (Elt F) ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view (Rect.unit (s := S2048x8x128) o S256x1x128.size inb).toLoadRect (harg6.unread x1) x = x1 z := by
  refine (harg6.readAt_slice_reshape_unread x1 _ _ (Rect.unit (s := S2048x8x128) o S256x1x128.size inb).toLoadRect x).trans (congrArg x1 ?_)
  simp only [reshapeIdx]
  have hz : (z 0).val = 0 := by have := (z 0).isLt; change (z 0).val < 1 at this; omega
  refine funext fun a => Fin.ext ?_
  match a with
  | ⟨0, _⟩ => exact hz.symm
  | ⟨1, _⟩ => refine Eq.trans ?_ h1.symm; show 0 + 1 * (o 0 + 1 * (x 0).val) = _; omega
  | ⟨2, _⟩ => refine Eq.trans ?_ h2.symm; show 0 + 1 * (o 1 + 1 * (x 1).val) = _; omega
  | ⟨3, _⟩ => refine Eq.trans ?_ h3.symm; show 0 + 1 * (o 2 + 1 * (x 2).val) = _; omega

theorem readScale (arg8 : Memref sig .tc .vmem S1x8x2048 .f32) (harg8 : arg8.IsWhole) (x3 : Vec F S1x8x2048 .f32) (o : Fin 2 → ℕ)
    (inb : ∀ a, o a + S1x256.size a ≤ S8x2048.size a) (x : S1x256.Idx) (z : S1x8x2048.Idx)
    (h1 : (z 1).val = o 0 + (x 0).val) (h2 : (z 2).val = o 1 + (x 1).val) :
    View.readAt (Elt F) ((arg8.slice (Rect.unit (s := S1x8x2048) ![0, 0, 0] S1x8x2048.size inb_S1x8x2048_S1x8x2048_0_0_0) (fun _ => rfl)).squeeze S8x2048 squeezes_S1x8x2048_S8x2048).view (Rect.unit (s := S8x2048) o S1x256.size inb).toLoadRect (harg8.unread x3) x = x3 z := by
  refine (harg8.readAt_slice_reshape_unread x3 _ _ (Rect.unit (s := S8x2048) o S1x256.size inb).toLoadRect x).trans (congrArg x3 ?_)
  simp only [reshapeIdx]
  have hz : (z 0).val = 0 := by have := (z 0).isLt; change (z 0).val < 1 at this; omega
  refine funext fun a => Fin.ext ?_
  match a with
  | ⟨0, _⟩ => exact hz.symm
  | ⟨1, _⟩ => refine Eq.trans ?_ h1.symm; show 0 + 1 * (o 0 + 1 * (x 0).val) = _; omega
  | ⟨2, _⟩ => refine Eq.trans ?_ h2.symm; show 0 + 1 * (o 1 + 1 * (x 1).val) = _; omega

theorem pieceK (arg6 : Memref sig .tc .vmem S1x2048x8x128 .fp8e4m3) (harg6 : arg6.IsWhole) (x1 : Vec F S1x2048x8x128 .fp8e4m3) (kb n : ℕ) (o o' : Fin 3 → ℕ)
    (ho : o = ![256 * kb, n, 0]) (ho' : o' = ![n / 2, 256 * kb, 128 * (n % 2)]) (inb : ∀ a, o a + S256x1x128.size a ≤ S2048x8x128.size a)
    (inb' : ∀ a, o' a + S1x256x128.size a ≤ S4x2048x256.size a) (x : S1x256x128.Idx) :
    k0_pay2 (View.readAt (Elt F) ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view (Rect.unit (s := S2048x8x128) o S256x1x128.size inb).toLoadRect (harg6.unread x1)) x
      = prepK x1 ((Rect.unit (s := S4x2048x256) o' S1x256x128.size inb').emb x) := by
  subst ho ho'
  unfold k0_pay2
  pointwise
  have hx0 := (x 0).isLt; change (x 0).val < 1 at hx0
  have hx2 := (x 2).isLt; change (x 2).val < 128 at hx2
  unfold prepK
  refine readRows arg6 harg6 x1 _ inb _ _ ?_ ?_ ?_
  · show 256 * kb + 1 * (x 1).val = 256 * kb + (x 1).val; omega
  · show 2 * (n / 2 + 1 * (x 0).val) + (128 * (n % 2) + 1 * (x 2).val) / 128 = n + 0; omega
  · show (128 * (n % 2) + 1 * (x 2).val) % 128 = 0 + (x 2).val; omega

theorem pieceV (arg7 : Memref sig .tc .vmem S1x2048x8x128 .fp8e4m3) (harg7 : arg7.IsWhole) (x2 : Vec F S1x2048x8x128 .fp8e4m3) (kb n : ℕ) (o o' : Fin 3 → ℕ)
    (ho : o = ![256 * kb, n, 0]) (ho' : o' = ![n, 0, 256 * kb]) (inb : ∀ a, o a + S256x1x128.size a ≤ S2048x8x128.size a)
    (inb' : ∀ a, o' a + S1x128x256.size a ≤ S8x128x2048.size a) (x : S1x128x256.Idx) :
    k0_pay3 (View.readAt (Elt F) ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view (Rect.unit (s := S2048x8x128) o S256x1x128.size inb).toLoadRect (harg7.unread x2)) x
      = prepV x2 ((Rect.unit (s := S8x128x2048) o' S1x128x256.size inb').emb x) := by
  subst ho ho'
  unfold k0_pay3
  pointwise
  have hx0 := (x 0).isLt; change (x 0).val < 1 at hx0
  unfold prepV
  refine congrArg (FloatOps.extf .bf16 bitsLt_fp8e4m3_bf16) ?_
  refine readRows arg7 harg7 x2 _ inb _ _ ?_ ?_ ?_
  · show 256 * kb + 1 * (x 2).val = 256 * kb + (x 2).val; omega
  · show n + 1 * (x 0).val = n + 0; omega
  · show 0 + 1 * (x 1).val = 0 + (x 1).val; omega

theorem pieceS (arg8 : Memref sig .tc .vmem S1x8x2048 .f32) (harg8 : arg8.IsWhole) (x3 : Vec F S1x8x2048 .f32) (kb n : ℕ) (o : Fin 2 → ℕ) (o' : Fin 3 → ℕ)
    (ho : o = ![n, 256 * kb]) (ho' : o' = ![n, 256 * kb, 0]) (inb : ∀ a, o a + S1x256.size a ≤ S8x2048.size a)
    (inb' : ∀ a, o' a + S1x256x128.size a ≤ S8x2048x128.size a) (x : S1x256x128.Idx) :
    k0_pay6 (View.readAt (Elt F) ((arg8.slice (Rect.unit (s := S1x8x2048) ![0, 0, 0] S1x8x2048.size inb_S1x8x2048_S1x8x2048_0_0_0) (fun _ => rfl)).squeeze S8x2048 squeezes_S1x8x2048_S8x2048).view (Rect.unit (s := S8x2048) o S1x256.size inb).toLoadRect (harg8.unread x3)) x
      = prepS x3 ((Rect.unit (s := S8x2048x128) o' S1x256x128.size inb').emb x) := by
  subst ho ho'
  unfold k0_pay6
  pointwise
  have hx0 := (x 0).isLt; change (x 0).val < 1 at hx0
  unfold prepS
  split
  · refine readScale arg8 harg8 x3 _ inb _ _ ?_ ?_
    · show n + 1 * (x 0).val = n + 0; omega
    · show 256 * kb + 1 * (x 1).val = 256 * kb + (x 1).val; omega
  · refine readScale arg8 harg8 x3 _ inb _ _ ?_ ?_
    · show n + 1 * (x 0).val = n + 0; omega
    · show 256 * kb + 1 * (x 1).val = 256 * kb + (128 + ((x 1).val - 128)); omega
theorem k0_off1_at (k : Fin k0_t1_loop.trips) : k0_off1 k = ![256 * k.val, 0, 0] := by revert k; decide +kernel
theorem k0_off2_at (k : Fin k0_t1_loop.trips) : k0_off2 k = ![0 / 2, 256 * k.val, 128 * (0 % 2)] := by revert k; decide +kernel
theorem k0_off3_at (k : Fin k0_t1_loop.trips) : k0_off3 k = ![0, 0, 256 * k.val] := by revert k; decide +kernel
theorem k0_off4_at (k : Fin k0_t1_loop.trips) : k0_off4 k = ![0, 256 * k.val] := by revert k; decide +kernel
theorem k0_off5_at (k : Fin k0_t1_loop.trips) : k0_off5 k = ![0, 256 * k.val, 0] := by revert k; decide +kernel
theorem k0_off6_at (k : Fin k0_t1_loop.trips) : k0_off6 k = ![256 * k.val, 1, 0] := by revert k; decide +kernel
theorem k0_off7_at (k : Fin k0_t1_loop.trips) : k0_off7 k = ![1 / 2, 256 * k.val, 128 * (1 % 2)] := by revert k; decide +kernel
theorem k0_off8_at (k : Fin k0_t1_loop.trips) : k0_off8 k = ![1, 0, 256 * k.val] := by revert k; decide +kernel
theorem k0_off9_at (k : Fin k0_t1_loop.trips) : k0_off9 k = ![1, 256 * k.val] := by revert k; decide +kernel
theorem k0_off10_at (k : Fin k0_t1_loop.trips) : k0_off10 k = ![1, 256 * k.val, 0] := by revert k; decide +kernel
theorem k0_off11_at (k : Fin k0_t1_loop.trips) : k0_off11 k = ![256 * k.val, 2, 0] := by revert k; decide +kernel
theorem k0_off12_at (k : Fin k0_t1_loop.trips) : k0_off12 k = ![2 / 2, 256 * k.val, 128 * (2 % 2)] := by revert k; decide +kernel
theorem k0_off13_at (k : Fin k0_t1_loop.trips) : k0_off13 k = ![2, 0, 256 * k.val] := by revert k; decide +kernel
theorem k0_off14_at (k : Fin k0_t1_loop.trips) : k0_off14 k = ![2, 256 * k.val] := by revert k; decide +kernel
theorem k0_off15_at (k : Fin k0_t1_loop.trips) : k0_off15 k = ![2, 256 * k.val, 0] := by revert k; decide +kernel
theorem k0_off16_at (k : Fin k0_t1_loop.trips) : k0_off16 k = ![256 * k.val, 3, 0] := by revert k; decide +kernel
theorem k0_off17_at (k : Fin k0_t1_loop.trips) : k0_off17 k = ![3 / 2, 256 * k.val, 128 * (3 % 2)] := by revert k; decide +kernel
theorem k0_off18_at (k : Fin k0_t1_loop.trips) : k0_off18 k = ![3, 0, 256 * k.val] := by revert k; decide +kernel
theorem k0_off19_at (k : Fin k0_t1_loop.trips) : k0_off19 k = ![3, 256 * k.val] := by revert k; decide +kernel
theorem k0_off20_at (k : Fin k0_t1_loop.trips) : k0_off20 k = ![3, 256 * k.val, 0] := by revert k; decide +kernel
theorem k0_off21_at (k : Fin k0_t1_loop.trips) : k0_off21 k = ![256 * k.val, 4, 0] := by revert k; decide +kernel
theorem k0_off22_at (k : Fin k0_t1_loop.trips) : k0_off22 k = ![4 / 2, 256 * k.val, 128 * (4 % 2)] := by revert k; decide +kernel
theorem k0_off23_at (k : Fin k0_t1_loop.trips) : k0_off23 k = ![4, 0, 256 * k.val] := by revert k; decide +kernel
theorem k0_off24_at (k : Fin k0_t1_loop.trips) : k0_off24 k = ![4, 256 * k.val] := by revert k; decide +kernel
theorem k0_off25_at (k : Fin k0_t1_loop.trips) : k0_off25 k = ![4, 256 * k.val, 0] := by revert k; decide +kernel
theorem k0_off26_at (k : Fin k0_t1_loop.trips) : k0_off26 k = ![256 * k.val, 5, 0] := by revert k; decide +kernel
theorem k0_off27_at (k : Fin k0_t1_loop.trips) : k0_off27 k = ![5 / 2, 256 * k.val, 128 * (5 % 2)] := by revert k; decide +kernel
theorem k0_off28_at (k : Fin k0_t1_loop.trips) : k0_off28 k = ![5, 0, 256 * k.val] := by revert k; decide +kernel
theorem k0_off29_at (k : Fin k0_t1_loop.trips) : k0_off29 k = ![5, 256 * k.val] := by revert k; decide +kernel
theorem k0_off30_at (k : Fin k0_t1_loop.trips) : k0_off30 k = ![5, 256 * k.val, 0] := by revert k; decide +kernel
theorem k0_off31_at (k : Fin k0_t1_loop.trips) : k0_off31 k = ![256 * k.val, 6, 0] := by revert k; decide +kernel
theorem k0_off32_at (k : Fin k0_t1_loop.trips) : k0_off32 k = ![6 / 2, 256 * k.val, 128 * (6 % 2)] := by revert k; decide +kernel
theorem k0_off33_at (k : Fin k0_t1_loop.trips) : k0_off33 k = ![6, 0, 256 * k.val] := by revert k; decide +kernel
theorem k0_off34_at (k : Fin k0_t1_loop.trips) : k0_off34 k = ![6, 256 * k.val] := by revert k; decide +kernel
theorem k0_off35_at (k : Fin k0_t1_loop.trips) : k0_off35 k = ![6, 256 * k.val, 0] := by revert k; decide +kernel
theorem k0_off36_at (k : Fin k0_t1_loop.trips) : k0_off36 k = ![256 * k.val, 7, 0] := by revert k; decide +kernel
theorem k0_off37_at (k : Fin k0_t1_loop.trips) : k0_off37 k = ![7 / 2, 256 * k.val, 128 * (7 % 2)] := by revert k; decide +kernel
theorem k0_off38_at (k : Fin k0_t1_loop.trips) : k0_off38 k = ![7, 0, 256 * k.val] := by revert k; decide +kernel
theorem k0_off39_at (k : Fin k0_t1_loop.trips) : k0_off39 k = ![7, 256 * k.val] := by revert k; decide +kernel
theorem k0_off40_at (k : Fin k0_t1_loop.trips) : k0_off40 k = ![7, 256 * k.val, 0] := by revert k; decide +kernel

/-- Every piece a trip stores is the scratch's contents there. -/
theorem trip_good (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (k : Fin k0_t1_loop.trips) :
    (∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k).1, ∀ x, p.2 x = prepK x1 (p.1.emb x)) ∧
    (∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k).2.1, ∀ x, p.2 x = prepV x2 (p.1.emb x)) ∧
    (∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k).2.2.1, ∀ x, p.2 x = prepS x3 (p.1.emb x)) ∧
    (∀ p ∈ (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k).2.2.2, ∀ x, p.2 x = prepS x4 (p.1.emb x)) := by
  unfold tripL_k0_t1 trip_k0_t1
  dsimp only
  simp only [List.forall_mem_cons]
  refine ⟨⟨fun x => pieceK arg6 harg6 x1 k.val 7 _ _ (k0_off36_at k) (k0_off37_at k) _ _ x, fun x => pieceK arg6 harg6 x1 k.val 6 _ _ (k0_off31_at k) (k0_off32_at k) _ _ x, fun x => pieceK arg6 harg6 x1 k.val 5 _ _ (k0_off26_at k) (k0_off27_at k) _ _ x, fun x => pieceK arg6 harg6 x1 k.val 4 _ _ (k0_off21_at k) (k0_off22_at k) _ _ x, fun x => pieceK arg6 harg6 x1 k.val 3 _ _ (k0_off16_at k) (k0_off17_at k) _ _ x, fun x => pieceK arg6 harg6 x1 k.val 2 _ _ (k0_off11_at k) (k0_off12_at k) _ _ x, fun x => pieceK arg6 harg6 x1 k.val 1 _ _ (k0_off6_at k) (k0_off7_at k) _ _ x, fun x => pieceK arg6 harg6 x1 k.val 0 _ _ (k0_off1_at k) (k0_off2_at k) _ _ x, List.forall_mem_nil _⟩, ⟨fun x => pieceV arg7 harg7 x2 k.val 7 _ _ (k0_off36_at k) (k0_off38_at k) _ _ x, fun x => pieceV arg7 harg7 x2 k.val 6 _ _ (k0_off31_at k) (k0_off33_at k) _ _ x, fun x => pieceV arg7 harg7 x2 k.val 5 _ _ (k0_off26_at k) (k0_off28_at k) _ _ x, fun x => pieceV arg7 harg7 x2 k.val 4 _ _ (k0_off21_at k) (k0_off23_at k) _ _ x, fun x => pieceV arg7 harg7 x2 k.val 3 _ _ (k0_off16_at k) (k0_off18_at k) _ _ x, fun x => pieceV arg7 harg7 x2 k.val 2 _ _ (k0_off11_at k) (k0_off13_at k) _ _ x, fun x => pieceV arg7 harg7 x2 k.val 1 _ _ (k0_off6_at k) (k0_off8_at k) _ _ x, fun x => pieceV arg7 harg7 x2 k.val 0 _ _ (k0_off1_at k) (k0_off3_at k) _ _ x, List.forall_mem_nil _⟩, ⟨fun x => pieceS arg8 harg8 x3 k.val 7 _ _ (k0_off39_at k) (k0_off40_at k) _ _ x, fun x => pieceS arg8 harg8 x3 k.val 6 _ _ (k0_off34_at k) (k0_off35_at k) _ _ x, fun x => pieceS arg8 harg8 x3 k.val 5 _ _ (k0_off29_at k) (k0_off30_at k) _ _ x, fun x => pieceS arg8 harg8 x3 k.val 4 _ _ (k0_off24_at k) (k0_off25_at k) _ _ x, fun x => pieceS arg8 harg8 x3 k.val 3 _ _ (k0_off19_at k) (k0_off20_at k) _ _ x, fun x => pieceS arg8 harg8 x3 k.val 2 _ _ (k0_off14_at k) (k0_off15_at k) _ _ x, fun x => pieceS arg8 harg8 x3 k.val 1 _ _ (k0_off9_at k) (k0_off10_at k) _ _ x, fun x => pieceS arg8 harg8 x3 k.val 0 _ _ (k0_off4_at k) (k0_off5_at k) _ _ x, List.forall_mem_nil _⟩, ⟨fun x => pieceS arg9 harg9 x4 k.val 7 _ _ (k0_off39_at k) (k0_off40_at k) _ _ x, fun x => pieceS arg9 harg9 x4 k.val 6 _ _ (k0_off34_at k) (k0_off35_at k) _ _ x, fun x => pieceS arg9 harg9 x4 k.val 5 _ _ (k0_off29_at k) (k0_off30_at k) _ _ x, fun x => pieceS arg9 harg9 x4 k.val 4 _ _ (k0_off24_at k) (k0_off25_at k) _ _ x, fun x => pieceS arg9 harg9 x4 k.val 3 _ _ (k0_off19_at k) (k0_off20_at k) _ _ x, fun x => pieceS arg9 harg9 x4 k.val 2 _ _ (k0_off14_at k) (k0_off15_at k) _ _ x, fun x => pieceS arg9 harg9 x4 k.val 1 _ _ (k0_off9_at k) (k0_off10_at k) _ _ x, fun x => pieceS arg9 harg9 x4 k.val 0 _ _ (k0_off4_at k) (k0_off5_at k) _ _ x, List.forall_mem_nil _⟩⟩

/-- Every piece the trips before `n` store is the scratch's contents there. -/
theorem pb_good (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) n).1, ∀ x, p.2 x = prepK x1 (p.1.emb x)) ∧
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) n).2.1, ∀ x, p.2 x = prepV x2 (p.1.emb x)) ∧
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) n).2.2.1, ∀ x, p.2 x = prepS x3 (p.1.emb x)) ∧
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) n).2.2.2, ∀ x, p.2 x = prepS x4 (p.1.emb x)) := by
  induction n with
  | zero => exact ⟨List.forall_mem_nil _, List.forall_mem_nil _, List.forall_mem_nil _, List.forall_mem_nil _⟩
  | succ n ih =>
    obtain ⟨i1, i2, i3, i4⟩ := ih (Nat.le_of_succ_le hn)
    obtain ⟨j1, j2, j3, j4⟩ := trip_good (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 x1 x2 x3 x4 ⟨n, hn⟩
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) ⟨n, hn⟩
    change pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) (n + 1) = _ at e
    rw [e]
    exact ⟨fun p hp => (List.mem_append.1 hp).elim (j1 p) (i1 p), fun p hp => (List.mem_append.1 hp).elim (j2 p) (i2 p),
      fun p hp => (List.mem_append.1 hp).elim (j3 p) (i3 p), fun p hp => (List.mem_append.1 hp).elim (j4 p) (i4 p)⟩

theorem pb_coverK (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (y : S4x2048x256.Idx) :
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k0_t1_loop.trips).1, y ∈ p.1.set :=
  View.cover_of_tiledL (s := S4x2048x256) _ S1x256x128.size (by sl_kernel_rfl) y

theorem pb_coverV (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (y : S8x128x2048.Idx) :
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k0_t1_loop.trips).2.1, y ∈ p.1.set :=
  View.cover_of_tiledL (s := S8x128x2048) _ S1x128x256.size (by sl_kernel_rfl) y

theorem pb_coverS (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (y : S8x2048x128.Idx) :
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k0_t1_loop.trips).2.2.1, y ∈ p.1.set :=
  View.cover_of_tiledL (s := S8x2048x128) _ S1x256x128.size (by sl_kernel_rfl) y

theorem pb_coverT (𝒱 : Variants) (c : Dev nD) (bd : Option 𝒱.V) (i : grid0.Coords) (arg2 : Memref sig .tc .smem S6x2048 .i32) (harg2 : arg2.IsWhole) (arg3 : Memref sig .tc .smem S6x2048 .i32) (harg3 : arg3.IsWhole) (arg4 : Memref sig .tc .smem S6 .i32) (harg4 : arg4.IsWhole) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (k0_h1 : k0_cond1 i = 1#1) (x1 : Vec F S1x2048x8x128 .fp8e4m3) (x2 : Vec F S1x2048x8x128 .fp8e4m3) (x3 : Vec F S1x8x2048 .f32) (x4 : Vec F S1x8x2048 .f32) (y : S8x2048x128.Idx) :
    ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 ((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128) rfl ((arg8.slice (Rect.unit (s := S1x8x2048) ![0, 0, 0] S1x8x2048.size inb_S1x8x2048_S1x8x2048_0_0_0) (fun _ => rfl)).squeeze S8x2048 squeezes_S1x8x2048_S8x2048) rfl ((arg9.slice (Rect.unit (s := S1x8x2048) ![0, 0, 0] S1x8x2048.size inb_S1x8x2048_S1x8x2048_0_0_0) (fun _ => rfl)).squeeze S8x2048 squeezes_S1x8x2048_S8x2048) rfl (harg6.unread x1) (harg7.unread x2) (harg8.unread x3) (harg9.unread x4) k0_t1_loop.trips).2.2.2, y ∈ p.1.set :=
  View.cover_of_tiledL (s := S8x2048x128) _ S1x256x128.size (by sl_kernel_rfl) y

set_option maxHeartbeats 4000000 in set_option sl_exec.squeezeSlice true in
/-- At the first point of a batch row the scratch, whatever it held, is filled from the windows. -/
theorem prep_first (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (x1 : Vec F S1x2048x8x128 .fp8e4m3) (x2 : Vec F S1x2048x8x128 .fp8e4m3) (x3 : Vec F S1x8x2048 .f32) (x4 : Vec F S1x8x2048 .f32) (E : Set ℕ) (h : k0_cond1 i = 1#1) :
    prepGoal (F := F) c i arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 (prepK x1) (prepV x2) (prepS x3) (prepS x4) E
      iprop((∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) := by
  unfold prepGoal prepProg
  rw [dif_pos h]
  unfold owns
  iintro ⟨⟨⟨%d0, %g0, -, HS0⟩, ⟨%d1, %g1, -, HS1⟩, ⟨%d2, %g2, -, HS2⟩, ⟨%d3, %g3, -, HS3⟩⟩, ⟨%f1, %hf1, H1⟩, ⟨%f2, %hf2, H2⟩, ⟨%f3, %hf3, H3⟩, ⟨%f4, %hf4, H4⟩⟩
  obtain rfl := harg6.eq_unread hf1; obtain rfl := harg7.eq_unread hf2; obtain rfl := harg8.eq_unread hf3; obtain rfl := harg9.eq_unread hf4
  have e6 : (arg6.view.loc (c : Thread nD τ) ↦[arg6.view.set]{fullShare} harg6.unread x1 : sProp 𝕄) = (((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view.loc (c : Thread nD τ) ↦[((arg6.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view.set]{fullShare} harg6.unread x1) := by
    rw [set_squeeze_full]
  have e7 : (arg7.view.loc (c : Thread nD τ) ↦[arg7.view.set]{fullShare} harg7.unread x2 : sProp 𝕄) = (((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view.loc (c : Thread nD τ) ↦[((arg7.slice (Rect.unit (s := S1x2048x8x128) ![0, 0, 0, 0] S1x2048x8x128.size inb_S1x2048x8x128_S1x2048x8x128_0_0_0_0) (fun _ => rfl)).squeeze S2048x8x128 squeezes_S1x2048x8x128_S2048x8x128).view.set]{fullShare} harg7.unread x2) := by
    rw [set_squeeze_full]
  have e8 : (arg8.view.loc (c : Thread nD τ) ↦[arg8.view.set]{fullShare} harg8.unread x3 : sProp 𝕄) = (((arg8.slice (Rect.unit (s := S1x8x2048) ![0, 0, 0] S1x8x2048.size inb_S1x8x2048_S1x8x2048_0_0_0) (fun _ => rfl)).squeeze S8x2048 squeezes_S1x8x2048_S8x2048).view.loc (c : Thread nD τ) ↦[((arg8.slice (Rect.unit (s := S1x8x2048) ![0, 0, 0] S1x8x2048.size inb_S1x8x2048_S1x8x2048_0_0_0) (fun _ => rfl)).squeeze S8x2048 squeezes_S1x8x2048_S8x2048).view.set]{fullShare} harg8.unread x3) := by
    rw [set_squeeze_full]
  have e9 : (arg9.view.loc (c : Thread nD τ) ↦[arg9.view.set]{fullShare} harg9.unread x4 : sProp 𝕄) = (((arg9.slice (Rect.unit (s := S1x8x2048) ![0, 0, 0] S1x8x2048.size inb_S1x8x2048_S1x8x2048_0_0_0) (fun _ => rfl)).squeeze S8x2048 squeezes_S1x8x2048_S8x2048).view.loc (c : Thread nD τ) ↦[((arg9.slice (Rect.unit (s := S1x8x2048) ![0, 0, 0] S1x8x2048.size inb_S1x8x2048_S1x8x2048_0_0_0) (fun _ => rfl)).squeeze S8x2048 squeezes_S1x8x2048_S8x2048).view.set]{fullShare} harg9.unread x4) := by
    rw [set_squeeze_full]
  ihave H1 := (Entails.of_eq e6) $$ H1
  ihave H2 := (Entails.of_eq e7) $$ H2
  ihave H3 := (Entails.of_eq e8) $$ H3
  ihave H4 := (Entails.of_eq e9) $$ H4
  sl_exec
  sl_step
  ihave H1 := (Entails.of_eq e6.symm) $$ H1
  ihave H2 := (Entails.of_eq e7.symm) $$ H2
  ihave H3 := (Entails.of_eq e8.symm) $$ H3
  ihave H4 := (Entails.of_eq e9.symm) $$ H4
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [HS0]
  · iexists _; isplitr; swap
    · iexact HS0
    ipureintro
    exact funext fun y => View.read_writes_apply_of_pieces _ _ (prepK x1) _ (pb_good (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 _ le_rfl).1 y
      (pb_coverK (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 y)
  isplitl [HS1]
  · iexists _; isplitr; swap
    · iexact HS1
    ipureintro
    exact funext fun y => View.read_writes_apply_of_pieces _ _ (prepV x2) _ (pb_good (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 _ le_rfl).2.1 y
      (pb_coverV (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 y)
  isplitl [HS2]
  · iexists _; isplitr; swap
    · iexact HS2
    ipureintro
    exact funext fun y => View.read_writes_apply_of_pieces _ _ (prepS x3) _ (pb_good (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 _ le_rfl).2.2.1 y
      (pb_coverS (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 y)
  iexists _; isplitr; swap
  · iexact HS3
  ipureintro
  exact funext fun y => View.read_writes_apply_of_pieces _ _ (prepS x4) _ (pb_good (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 _ le_rfl).2.2.2 y
    (pb_coverT (F := F) Variants.none c none i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 h x1 x2 x3 x4 y)

/-- At any other point the scratch is as it was. -/
theorem prep_other (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole) (x1 : Vec F S1x2048x8x128 .fp8e4m3) (x2 : Vec F S1x2048x8x128 .fp8e4m3) (x3 : Vec F S1x8x2048 .f32) (x4 : Vec F S1x8x2048 .f32) (xs0 : Vec F S4x2048x256 .fp8e4m3) (xs1 : Vec F S8x128x2048 .bf16) (xs2 : Vec F S8x2048x128 .f32) (xs3 : Vec F S8x2048x128 .f32) (E : Set ℕ) (h : ¬ k0_cond1 i = 1#1) :
    prepGoal (F := F) c i arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 xs0 xs1 xs2 xs3 E
      iprop(owns (c : Thread nD τ) arg16 fullShare xs0 ∗ owns (c : Thread nD τ) arg17 fullShare xs1 ∗ owns (c : Thread nD τ) arg18 fullShare xs2 ∗ owns (c : Thread nD τ) arg19 fullShare xs3) := by
  unfold prepGoal prepProg
  rw [dif_neg h]
  iintro ⟨⟨HS0, HS1, HS2, HS3⟩, H1, H2, H3, H4⟩
  sl_step
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iexact HS3

end Cert.KernelIdeal.Gen

end
-- ==== Proof.KernelIdeal.Frame.lean ====
/- The pipeline's proof data — what the scratch and the outputs hold after each grid point — the body obligation, the
   run of the whole program, and the frame claim. -/
module

public import proofs.«01_k».proof.Proof.KernelIdeal.Prep
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored into output 7 tile its block. -/
theorem cover0_7 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) (y : S1x128x16x128.Idx) :
    ∃ pc ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).1, y ∈ pc.1.set :=
  View.cover_of_tiledL (s := S1x128x16x128) (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).1 S1x128x2x128.size (by sl_kernel_rfl) y

/-- The pieces stored into output 8 tile its block. -/
theorem cover0_8 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) (y : S1x16x128.Idx) :
    ∃ pc ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.1, y ∈ pc.1.set :=
  View.cover_of_tiledL (s := S1x16x128) (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.1 (![1, 1, 128] : Fin 3 → ℕ) (by sl_kernel_rfl) y

/-- The pieces stored into output 9 tile its block. -/
theorem cover0_9 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) (y : S1x128x16x128.Idx) :
    ∃ pc ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.2.1, y ∈ pc.1.set :=
  View.cover_of_tiledL (s := S1x128x16x128) (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.2.1 S1x128x4x128.size (by sl_kernel_rfl) y

/-- The pieces stored into output 10 tile its block. -/
theorem cover0_10 (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) (y : S1x16x128.Idx) :
    ∃ pc ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.2.2.1, y ∈ pc.1.set :=
  View.cover_of_tiledL (s := S1x16x128) (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.2.2.1 (![1, 1, 128] : Fin 3 → ℕ) (by sl_kernel_rfl) y

/-- The first point of `t`'s batch row. -/
def base (hO : Ok m) (t : Fin (cfgM m hO).N) : Fin (cfgM m hO).N :=
  ⟨16 * (t.val / 16), lt_of_le_of_lt (by omega) t.isLt⟩

/-- What the scratch holds after point `t`: prepared from the row's first point's blocks. -/
def scr0 (hO : Ok m) (c : Dev nD) (t : Fin (cfgM m hO).N) : Vec F S4x2048x256 .fp8e4m3 := prepK (iblk m hO c 1 (base m hO t))
def scr1 (hO : Ok m) (c : Dev nD) (t : Fin (cfgM m hO).N) : Vec F S8x128x2048 .bf16 := prepV (iblk m hO c 2 (base m hO t))
def scr2 (hO : Ok m) (c : Dev nD) (t : Fin (cfgM m hO).N) : Vec F S8x2048x128 .f32 := prepS (iblk m hO c 3 (base m hO t))
def scr3 (hO : Ok m) (c : Dev nD) (t : Fin (cfgM m hO).N) : Vec F S8x2048x128 .f32 := prepS (iblk m hO c 4 (base m hO t))

theorem base_first (hO : Ok m) (t : Fin (cfgM m hO).N) (h : t.val % 16 = 0) : base m hO t = t :=
  Fin.ext (show 16 * (t.val / 16) = t.val by omega)

theorem base_pred (hO : Ok m) (t u : Fin (cfgM m hO).N) (h : ¬t.val % 16 = 0) (hu : u.val = t.val - 1) : base m hO u = base m hO t :=
  Fin.ext (show 16 * (u.val / 16) = 16 * (t.val / 16) by rw [hu]; omega)

/-- The body's run at point `t`. -/
abbrev run0 (hO : Ok m) (c : Dev nD) (t : Fin (cfgM m hO).N) :=
  kernelRun0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (tbl m 0) (tbl m 1) (tbl m 2) (scr0 m hO c t) (scr1 m hO c t) (scr2 m hO c t) (scr3 m hO c t)

/-- What output 7's staging buffer holds after point `t`. -/
def out0_7 (hO : Ok m) (c : Dev nD) (t : Fin (cfgM m hO).N) : Vec F S1x128x16x128 .bf16 :=
  VO0_7.read (Elt F) (VO0_7.writes (Elt F) VO0_7.junk (run0 m hO c t).1)
/-- What output 8's staging buffer holds after point `t`. -/
def out0_8 (hO : Ok m) (c : Dev nD) (t : Fin (cfgM m hO).N) : Vec F S1x16x128 .f32 :=
  VO0_8.read (Elt F) (VO0_8.writes (Elt F) VO0_8.junk (run0 m hO c t).2.1)
/-- What output 9's staging buffer holds after point `t`. -/
def out0_9 (hO : Ok m) (c : Dev nD) (t : Fin (cfgM m hO).N) : Vec F S1x128x16x128 .fp8e4m3 :=
  VO0_9.read (Elt F) (VO0_9.writes (Elt F) VO0_9.junk (run0 m hO c t).2.2.1)
/-- What output 10's staging buffer holds after point `t`. -/
def out0_10 (hO : Ok m) (c : Dev nD) (t : Fin (cfgM m hO).N) : Vec F S1x16x128 .f32 :=
  VO0_10.read (Elt F) (VO0_10.writes (Elt F) VO0_10.junk (run0 m hO c t).2.2.2.1)

/-- The invariant before position `n`: the scratch at anything before the first point, then as the point before left it. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (scr0 m hO c ⟨n, hn⟩) ∗ owns (c : Thread nD τ) scM0_1 fullShare (scr1 m hO c ⟨n, hn⟩) ∗ owns (c : Thread nD τ) scM0_2 fullShare (scr2 m hO c ⟨n, hn⟩) ∗ owns (c : Thread nD τ) scM0_3 fullShare (scr3 m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (scr0 m hO c ⟨n, hn⟩) ∗ owns (c : Thread nD τ) scM0_1 fullShare (scr1 m hO c ⟨n, hn⟩) ∗ owns (c : Thread nD τ) scM0_2 fullShare (scr2 m hO c ⟨n, hn⟩) ∗ owns (c : Thread nD τ) scM0_3 fullShare (scr3 m hO c ⟨n, hn⟩)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare (scr0 m hO c ⟨n - 1, by omega⟩) ∗ owns (c : Thread nD τ) scM0_1 fullShare (scr1 m hO c ⟨n - 1, by omega⟩) ∗ owns (c : Thread nD τ) scM0_2 fullShare (scr2 m hO c ⟨n - 1, by omega⟩) ∗ owns (c : Thread nD τ) scM0_3 fullShare (scr3 m hO c ⟨n - 1, by omega⟩)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `out0_·`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => out0_7 m hO c t
    | ⟨8, _⟩ => out0_8 m hO c t
    | ⟨9, _⟩ => out0_9 m hO c t
    | ⟨10, _⟩ => out0_10 m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = out0_7 m hO c t := by dsimp only [dats]; try rfl
theorem after0_8 (hO : Ok m) (c : Dev nD) (t : Fin (cfgM m hO).N) : (dats m hO 0 c).after 8 t = out0_8 m hO c t := by dsimp only [dats]; try rfl
theorem after0_9 (hO : Ok m) (c : Dev nD) (t : Fin (cfgM m hO).N) : (dats m hO 0 c).after 9 t = out0_9 m hO c t := by dsimp only [dats]; try rfl
theorem after0_10 (hO : Ok m) (c : Dev nD) (t : Fin (cfgM m hO).N) : (dats m hO 0 c).after 10 t = out0_10 m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t))

set_option maxHeartbeats 9600000 in
/-- The body at any point: the inputs' memrefs hold their blocks; the closed form says whether the point prepares the scratch;
    the run applies either way. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6, after0_7, after0_8, after0_9, after0_10]
  rw [show (dats m hO 0 c).Φ t.succ = PhiS m hO c (t.val + 1) t.isLt from rfl, PhiS_succ, PhiT0_eq]
  unfold out0_7 out0_8 out0_9 out0_10
  by_cases h0 : t.val % 16 = 0
  · have hprep := prep_first (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) (iblk m hO c 1 t) (iblk m hO c 2 t) (iblk m hO c 3 t) (iblk m hO c 4 t) Set.univ ((hcond0_0 t).mpr h0)
    have e0 : prepK (iblk m hO c 1 t) = scr0 m hO c t := by unfold scr0; rw [base_first m hO t h0]
    have e1 : prepV (iblk m hO c 2 t) = scr1 m hO c t := by unfold scr1; rw [base_first m hO t h0]
    have e2 : prepS (iblk m hO c 3 t) = scr2 m hO c t := by unfold scr2; rw [base_first m hO t h0]
    have e3 : prepS (iblk m hO c 4 t) = scr3 m hO c t := by unfold scr3; rw [base_first m hO t h0]
    rw [e0, e1, e2, e3] at hprep
    by_cases hz : t.val = 0
    · rw [PhiS_castSucc m hO c t, PhiS_zero m hO c _ _ hz, PhiT0_eq, PhiA0_eq]
      iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((run0 m hO c t).2.2.2.2 Set.univ _ _ hprep)
      isplitl [HS0 HS1 HS2 HS3]
      · isplitl [HS0]; · iexact HS0
        isplitl [HS1]; · iexact HS1
        isplitl [HS2]; · iexact HS2
        iexact HS3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HT0]; · iexact HT0
      isplitl [HT1]; · iexact HT1
      isplitl [HT2]; · iexact HT2
      iintro ⟨H0, H1, H2, H3, H4, H5, H6, ⟨%e7, H7⟩, ⟨%e8, H8⟩, ⟨%e9, H9⟩, ⟨%e10, H10⟩, HS0, HS1, HS2, HS3, HT0, HT1, HT2⟩
      isplitl [HS0 HS1 HS2 HS3 Hg HT0 HT1 HT2]
      · isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_7 _ _ _ _ _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_8 _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_9 _ _ _ _ _ _ _ _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_10 _ _ _ _ _ _ _ _ _ _ _ _ _ _ _ _ _ _ _ _ _ _ _ _ _ _ _ _ _ _ _ _ _ _ _ _ _ _ _ _ _ _ _ _ _ _)
    · rw [PhiS_castSucc m hO c t, PhiS_pos m hO c _ _ hz, PhiT0_eq]
      iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((run0 m hO c t).2.2.2.2 Set.univ _ _ hprep)
      isplitl [HS0 HS1 HS2 HS3]
      · isplitl [HS0]; · iexists _; iexact HS0
        isplitl [HS1]; · iexists _; iexact HS1
        isplitl [HS2]; · iexists _; iexact HS2
        iexists _; iexact HS3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HT0]; · iexact HT0
      isplitl [HT1]; · iexact HT1
      isplitl [HT2]; · iexact HT2
      iintro ⟨H0, H1, H2, H3, H4, H5, H6, ⟨%e7, H7⟩, ⟨%e8, H8⟩, ⟨%e9, H9⟩, ⟨%e10, H10⟩, HS0, HS1, HS2, HS3, HT0, HT1, HT2⟩
      isplitl [HS0 HS1 HS2 HS3 Hg HT0 HT1 HT2]
      · isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_7 _ _ _ _ _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_8 _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_9 _ _ _ _ _ _ _ _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_10 _ _ _ _ _ _ _ _ _ _ _ _ _ _ _ _ _ _ _ _ _ _ _ _ _ _ _ _ _ _ _ _ _ _ _ _ _ _ _ _ _ _ _ _ _ _)
  · have hz : t.val ≠ 0 := fun h => h0 (by rw [h])
    have hprep := prep_other (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) (iblk m hO c 1 t) (iblk m hO c 2 t) (iblk m hO c 3 t) (iblk m hO c 4 t) (scr0 m hO c t) (scr1 m hO c t) (scr2 m hO c t) (scr3 m hO c t) Set.univ (fun h => h0 ((hcond0_0 t).mp h))
    have hb := base_pred m hO t ⟨t.val - 1, lt_of_le_of_lt (Nat.sub_le _ _) t.isLt⟩ h0 rfl
    have e0 : scr0 m hO c ⟨t.val - 1, lt_of_le_of_lt (Nat.sub_le _ _) t.isLt⟩ = scr0 m hO c t := by unfold scr0; rw [hb]
    have e1 : scr1 m hO c ⟨t.val - 1, lt_of_le_of_lt (Nat.sub_le _ _) t.isLt⟩ = scr1 m hO c t := by unfold scr1; rw [hb]
    have e2 : scr2 m hO c ⟨t.val - 1, lt_of_le_of_lt (Nat.sub_le _ _) t.isLt⟩ = scr2 m hO c t := by unfold scr2; rw [hb]
    have e3 : scr3 m hO c ⟨t.val - 1, lt_of_le_of_lt (Nat.sub_le _ _) t.isLt⟩ = scr3 m hO c t := by unfold scr3; rw [hb]
    rw [PhiS_castSucc m hO c t, PhiS_pos m hO c _ _ hz, PhiT0_eq, e0, e1, e2, e3]
    iintro ⟨⟨⟨⟨HS0, HS1, HS2, HS3⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run0 m hO c t).2.2.2.2 Set.univ _ _ hprep)
    isplitl [HS0 HS1 HS2 HS3]
    · isplitl [HS0]; · iexact HS0
      isplitl [HS1]; · iexact HS1
      isplitl [HS2]; · iexact HS2
      iexact HS3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HT0]; · iexact HT0
    isplitl [HT1]; · iexact HT1
    isplitl [HT2]; · iexact HT2
    iintro ⟨H0, H1, H2, H3, H4, H5, H6, ⟨%e7, H7⟩, ⟨%e8, H8⟩, ⟨%e9, H9⟩, ⟨%e10, H10⟩, HS0, HS1, HS2, HS3, HT0, HT1, HT2⟩
    isplitl [HS0 HS1 HS2 HS3 Hg HT0 HT1 HT2]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_7 _ _ _ _ _ _ _ _ _ _ _ _ _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_8 _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_9 _ _ _ _ _ _ _ _ _ _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_10 _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3⟩, Hg⟩, -⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 96 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.KernelIdeal.Gen

end
-- ==== Proof.KernelIdeal.Loads.lean ====
/- What a grid point stores, as functions of the blocks it reads: the query codes and the query scales. -/
module

public import proofs.«01_k».proof.Proof.KernelIdeal.Frame
public import Idealize.ShloMosaic.Lib.Pointwise
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Head `h`'s rows of a block of queries. -/
def qh (x0 : Vec F S1x128x16x128 .bf16) (h : ℕ) : Vec F S128x1x128 .bf16 := fun y =>
  x0 (ix4 0 (y 0) ⟨h % 16, Nat.mod_lt _ (by decide)⟩ (y 2))

/-- Head `h`'s row of a block of one float a head and query. -/
def rowOf (x6 : Vec F S1x16x128 .f32) (h : ℕ) : Vec F S1x128 .f32 := fun y =>
  x6 (ix3 0 ⟨h % 16, Nat.mod_lt _ (by decide)⟩ (y 1))

/-- Head `h`'s rows of a block of running outputs. -/
def oh (x5 : Vec F S1x128x16x128 .f32) (h : ℕ) : Vec F S128x128 .f32 := fun y =>
  x5 (ix4 0 (y 0) ⟨h % 16, Nat.mod_lt _ (by decide)⟩ (y 1))

theorem readQ_eq (arg5 : Memref sig .tc .vmem S1x128x16x128 .bf16) (harg5 : arg5.IsWhole) (x0 : Vec F S1x128x16x128 .bf16) (h : ℕ) (inb0)
    (inb : ∀ a, (![0, h, 0] : Fin 3 → ℕ) a + S128x1x128.size a ≤ S128x16x128.size a) (p q w hR) :
    (LoadRect.valAlong (lr := (Rect.unit (s := S128x16x128) ![0, h, 0] S128x1x128.size inb).toLoadRect) hR (View.readAt (Elt F) arg5.view ((Rect.unit (s := S1x128x16x128) ![0, 0, 0, 0] S1x128x16x128.size inb0).withinL
      ((Rect.unit (s := S128x16x128) ![0, h, 0] S128x1x128.size inb).toLoadRect.consLift ![1, 128, 16, 128] p q) w) (harg5.unread x0))
      : Vec F S128x1x128 .bf16) = qh x0 h := by
  have hh : h + 1 ≤ 16 := inb 1
  funext y
  show View.readAt (Elt F) arg5.view _ (harg5.unread x0) _ = _
  refine (harg5.readAt_unread x0 _ _).trans (congrArg x0 ?_)
  have hl := LoadRect.liftsTo_consLift (Rect.unit (s := S128x16x128) ![0, h, 0] S128x1x128.size inb).toLoadRect ![1, 128, 16, 128] p q y
  refine ((Rect.idx_withinL _ _ w _).trans (congrArg _ hl.symm)).trans ?_
  simp only [reshapeIdx]
  refine funext fun a => Fin.ext ?_
  match a with
  | ⟨0, _⟩ => rfl
  | ⟨1, _⟩ => show 0 + 1 * (0 + 1 * (y 0).val) = (y 0).val; omega
  | ⟨2, _⟩ => show 0 + 1 * (h + 1 * (y 1).val) = h % 16; have := (y 1).isLt; change (y 1).val < 1 at this; omega
  | ⟨3, _⟩ => show 0 + 1 * (0 + 1 * (y 2).val) = (y 2).val; omega

theorem readL_eq (arg11 : Memref sig .tc .vmem S1x16x128 .f32) (harg11 : arg11.IsWhole) (x6 : Vec F S1x16x128 .f32) (h : ℕ) (inb0)
    (inb : ∀ a, (![h, 0] : Fin 2 → ℕ) a + S1x128.size a ≤ S16x128.size a) (p q w hR) :
    (LoadRect.valAlong (lr := (Rect.unit (s := S16x128) ![h, 0] S1x128.size inb).toLoadRect) hR (View.readAt (Elt F) arg11.view ((Rect.unit (s := S1x16x128) ![0, 0, 0] S1x16x128.size inb0).withinL
      ((Rect.unit (s := S16x128) ![h, 0] S1x128.size inb).toLoadRect.consLift ![1, 16, 128] p q) w) (harg11.unread x6))
      : Vec F S1x128 .f32) = rowOf x6 h := by
  have hh : h + 1 ≤ 16 := inb 0
  funext y
  show View.readAt (Elt F) arg11.view _ (harg11.unread x6) _ = _
  refine (harg11.readAt_unread x6 _ _).trans (congrArg x6 ?_)
  have hl := LoadRect.liftsTo_consLift (Rect.unit (s := S16x128) ![h, 0] S1x128.size inb).toLoadRect ![1, 16, 128] p q y
  refine ((Rect.idx_withinL _ _ w _).trans (congrArg _ hl.symm)).trans ?_
  simp only [reshapeIdx]
  refine funext fun a => Fin.ext ?_
  match a with
  | ⟨0, _⟩ => rfl
  | ⟨1, _⟩ => show 0 + 1 * (h + 1 * (y 0).val) = h % 16; have := (y 0).isLt; change (y 0).val < 1 at this; omega
  | ⟨2, _⟩ => show 0 + 1 * (0 + 1 * (y 1).val) = (y 1).val; omega

theorem readO_eq (arg10 : Memref sig .tc .vmem S1x128x16x128 .f32) (harg10 : arg10.IsWhole) (x5 : Vec F S1x128x16x128 .f32) (h : ℕ) (inb0)
    (w) (sq) (n1 : S2048x128.numel = S128x16x128.numel) (n2) (n3) (inb) (hh : h < 16) :
    (View.readAt (Elt F) (((arg10.slice (Rect.unit (s := S1x128x16x128) ![0, 0, 0, 0] S1x128x16x128.size inb0) w).squeeze S128x16x128 sq).reshape S2048x128 n1 n2 n3).view
      { off := ![h, 0], size := S128x128.size, stride := ![16, 1], inb := inb } (harg10.unread x5) : Vec F S128x128 .f32) = oh x5 h := by
  refine funext fun (y : S128x128.Idx) => ?_
  refine (congrFun (harg10.read_unread x5) _).trans (congrArg x5 ?_)
  have h0 : (y 0).val < 128 := (y 0).isLt
  have h1 : (y 1).val < 128 := (y 1).isLt
  have hi : (LoadRect.idx { off := ![h, 0], size := S128x128.size, stride := ![16, 1], inb := inb } y : S2048x128.Idx) = ix2 ⟨h + 16 * (y 0).val, by omega⟩ ⟨(y 1).val, h1⟩ := by
    refine funext fun a => Fin.ext ?_
    match a with
    | ⟨0, _⟩ => rfl
    | ⟨1, _⟩ => show 0 + 1 * (y 1).val = (y 1).val; omega
  show (Rect.unit (s := S1x128x16x128) ![0, 0, 0, 0] S1x128x16x128.size inb0).emb (Shape.reshapeEquiv sq.numel_eq (Shape.reshapeEquiv n1 (LoadRect.idx { off := ![h, 0], size := S128x128.size, stride := ![16, 1], inb := inb } y))) = _
  rw [hi]
  simp only [reshapeIdx]
  refine funext fun a => Fin.ext ?_
  match a with
  | ⟨0, _⟩ => rfl
  | ⟨1, _⟩ => show 0 + 1 * ((h + 16 * (y 0).val) / 16) = (y 0).val; omega
  | ⟨2, _⟩ => show 0 + 1 * ((h + 16 * (y 0).val) % 16) = h % 16; omega
  | ⟨3, _⟩ => show 0 + 1 * (y 1).val = (y 1).val; omega

/-- The rectangle of a row of one float a query. -/
abbrev rowRect (h : ℕ) (inb0 : ∀ a, (![0, 0, 0] : Fin 3 → ℕ) a + S1x16x128.size a ≤ S1x16x128.size a) (inb : ∀ a, (![h, 0] : Fin 2 → ℕ) a + S1x128.size a ≤ S16x128.size a) (p : (![1, 16, 128] : Fin 3 → ℕ) 0 = 1) (q : ∀ i : Fin 2, (![1, 16, 128] : Fin 3 → ℕ) i.succ = (![16, 128] : Fin 2 → ℕ) i) (w : ∀ a, (Rect.unit (s := S1x16x128) ![0, 0, 0] S1x16x128.size inb0).stride a = 1) : Rect S1x16x128 :=
  (Rect.unit (s := S1x16x128) ![0, 0, 0] S1x16x128.size inb0).within ((Rect.unit (s := S16x128) ![h, 0] S1x128.size inb).consLift ![1, 16, 128] p q) w

/-- The load box of such a row. -/
abbrev rowBox (h : ℕ) (inb0 : ∀ a, (![0, 0, 0] : Fin 3 → ℕ) a + S1x16x128.size a ≤ S1x16x128.size a) (inb : ∀ a, (![h, 0] : Fin 2 → ℕ) a + S1x128.size a ≤ S16x128.size a) (p : (![1, 16, 128] : Fin 3 → ℕ) 0 = 1) (q : ∀ i : Fin 2, (![1, 16, 128] : Fin 3 → ℕ) i.succ = (![16, 128] : Fin 2 → ℕ) i) (w : ∀ a, (Rect.unit (s := S1x16x128) ![0, 0, 0] S1x16x128.size inb0).stride a = 1) : LoadRect S1x16x128 :=
  (Rect.unit (s := S1x16x128) ![0, 0, 0] S1x16x128.size inb0).withinL ((Rect.unit (s := S16x128) ![h, 0] S1x128.size inb).toLoadRect.consLift ![1, 16, 128] p q) w

theorem rowRect_emb (h : ℕ) (inb0 : ∀ a, (![0, 0, 0] : Fin 3 → ℕ) a + S1x16x128.size a ≤ S1x16x128.size a) (inb : ∀ a, (![h, 0] : Fin 2 → ℕ) a + S1x128.size a ≤ S16x128.size a) (p : (![1, 16, 128] : Fin 3 → ℕ) 0 = 1) (q : ∀ i : Fin 2, (![1, 16, 128] : Fin 3 → ℕ) i.succ = (![16, 128] : Fin 2 → ℕ) i) (w : ∀ a, (Rect.unit (s := S1x16x128) ![0, 0, 0] S1x16x128.size inb0).stride a = 1) (y : (rowRect h inb0 inb p q w).shape.Idx) :
    (rowRect h inb0 inb p q w).emb y = ix3 0 ⟨h, by have h0 : h + 1 ≤ 16 := inb 0; exact h0⟩ (y 2) := by
  refine funext fun a => Fin.ext ?_
  match a with
  | ⟨0, _⟩ => show 0 + 0 + 1 * (y 0).val = 0; have := (y 0).isLt; change (y 0).val < 1 at this; omega
  | ⟨1, _⟩ => show 0 + h + 1 * (y 1).val = h; have := (y 1).isLt; change (y 1).val < 1 at this; omega
  | ⟨2, _⟩ => show 0 + 0 + 1 * (y 2).val = (y 2).val; omega

theorem rowPiece (h : ℕ) (inb0 : ∀ a, (![0, 0, 0] : Fin 3 → ℕ) a + S1x16x128.size a ≤ S1x16x128.size a) (inb : ∀ a, (![h, 0] : Fin 2 → ℕ) a + S1x128.size a ≤ S16x128.size a) (p : (![1, 16, 128] : Fin 3 → ℕ) 0 = 1) (q : ∀ i : Fin 2, (![1, 16, 128] : Fin 3 → ℕ) i.succ = (![16, 128] : Fin 2 → ℕ) i) (w : ∀ a, (Rect.unit (s := S1x16x128) ![0, 0, 0] S1x16x128.size inb0).stride a = 1) (hR) (row : Vec F S1x128 .f32) (G : Vec F S1x16x128 .f32)
    (hG : ∀ l : Fin 128, row (ix2 0 l) = G (ix3 0 ⟨h, by have h0 : h + 1 ≤ 16 := inb 0; exact h0⟩ l)) (y : (rowRect h inb0 inb p q w).shape.Idx) :
    Rect.payAlong (r := Rect.unit (s := S16x128) ![h, 0] S1x128.size inb) hR row y = G ((rowRect h inb0 inb p q w).emb y) := by
  refine Eq.trans ?_ ((hG (y 2)).trans (congrArg G (rowRect_emb h inb0 inb p q w y).symm))
  refine Rect.payAlong_consLift (r := Rect.unit (s := S16x128) ![h, 0] S1x128.size inb) ![1, 16, 128] p q row hR y _ fun i => ?_
  match i with
  | ⟨0, _⟩ => show 0 = (y 1).val; have := (y 1).isLt; change (y 1).val < 1 at this; omega
  | ⟨1, _⟩ => rfl

theorem rowMem (h : ℕ) (inb0 : ∀ a, (![0, 0, 0] : Fin 3 → ℕ) a + S1x16x128.size a ≤ S1x16x128.size a) (inb : ∀ a, (![h, 0] : Fin 2 → ℕ) a + S1x128.size a ≤ S16x128.size a) (p : (![1, 16, 128] : Fin 3 → ℕ) 0 = 1) (q : ∀ i : Fin 2, (![1, 16, 128] : Fin 3 → ℕ) i.succ = (![16, 128] : Fin 2 → ℕ) i) (w : ∀ a, (Rect.unit (s := S1x16x128) ![0, 0, 0] S1x16x128.size inb0).stride a = 1) (y : S1x16x128.Idx) (hy : (y 1).val = h) :
    y ∈ (rowRect h inb0 inb p q w).set := by
  have hz : (y 0).val = 0 := by have := (y 0).isLt; change (y 0).val < 1 at this; omega
  rw [← Rect.map_emb_univ]
  refine Finset.mem_map.mpr ⟨(ix3 (0 : Fin 1) (0 : Fin 1) (y 2 : Fin 128) : (⟨3, ![1, 1, 128]⟩ : Shape).Idx), Finset.mem_univ _, ?_⟩
  refine (rowRect_emb h inb0 inb p q w _).trans ?_
  refine funext fun a => Fin.ext ?_
  match a with
  | ⟨0, _⟩ => exact hz.symm
  | ⟨1, _⟩ => exact hy.symm
  | ⟨2, _⟩ => rfl

/-- A row read back from rows stored before. -/
theorem readS_eq (arg15 : Memref sig .tc .vmem S1x16x128 .f32) (L : List (View.Piece (Elt F) S1x16x128 .f32)) (G : Vec F S1x16x128 .f32)
    (hL : ∀ p ∈ L, ∀ x, p.2 x = G (p.1.emb x)) (h : ℕ) (inb0 : ∀ a, (![0, 0, 0] : Fin 3 → ℕ) a + S1x16x128.size a ≤ S1x16x128.size a) (inb : ∀ a, (![h, 0] : Fin 2 → ℕ) a + S1x128.size a ≤ S16x128.size a) (p : (![1, 16, 128] : Fin 3 → ℕ) 0 = 1) (q : ∀ i : Fin 2, (![1, 16, 128] : Fin 3 → ℕ) i.succ = (![16, 128] : Fin 2 → ℕ) i) (w : ∀ a, (Rect.unit (s := S1x16x128) ![0, 0, 0] S1x16x128.size inb0).stride a = 1) (hR)
    (hc : ∀ y : S1x16x128.Idx, (y 1).val = h → ∃ p ∈ L, y ∈ p.1.set) :
    (LoadRect.valAlong (lr := (Rect.unit (s := S16x128) ![h, 0] S1x128.size inb).toLoadRect) hR (arg15.view.readCov L (rowBox h inb0 inb p q w)) : Vec F S1x128 .f32) = rowOf G h := by
  have hh : h + 1 ≤ 16 := inb 0
  refine funext fun (y : S1x128.Idx) => ?_
  have hl := LoadRect.liftsTo_consLift (Rect.unit (s := S16x128) ![h, 0] S1x128.size inb).toLoadRect ![1, 16, 128] p q y
  have he : (rowBox h inb0 inb p q w).idx (Shape.reshapeEquiv hR y) = ix3 0 ⟨h % 16, Nat.mod_lt _ (by decide)⟩ (y 1) := by
    refine ((Rect.idx_withinL _ _ w _).trans (congrArg _ hl.symm)).trans ?_
    simp only [reshapeIdx]
    refine funext fun a => Fin.ext ?_
    match a with
    | ⟨0, _⟩ => rfl
    | ⟨1, _⟩ => show 0 + 1 * (h + 1 * (y 0).val) = h % 16; have := (y 0).isLt; change (y 0).val < 1 at this; omega
    | ⟨2, _⟩ => show 0 + 1 * (0 + 1 * (y 1).val) = (y 1).val; omega
  show arg15.view.read (Elt F) (arg15.view.writes (Elt F) arg15.view.junk L) ((rowBox h inb0 inb p q w).idx (Shape.reshapeEquiv hR y)) = _
  exact (congrArg _ he).trans ((View.read_writes_apply_of_pieces _ _ G L hL _ (hc _ (Nat.mod_eq_of_lt (by omega)))).trans rfl)
end Cert.KernelIdeal.Gen

end
-- ==== Proof.KernelIdeal.Heads.lean ====
module

public import proofs.«01_k».proof.Proof.KernelIdeal.Loads
public import Idealize.ShloMosaic.Lib.Pointwise
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Head `h`'s scales. -/
def hSc (x0 : Vec F S1x128x16x128 .bf16) (h : ℕ) : Vec F S1x128 .f32 := k0_pay91 (qh x0 h)

/-- Head `h`'s codes, a column for each query. -/
def hCode (x0 : Vec F S1x128x16x128 .bf16) (h : ℕ) : Vec F S128x128 .fp8e4m3 := k0_pay96 (qh x0 h)

/-- The scales of a block of queries. -/
def blockSc (x0 : Vec F S1x128x16x128 .bf16) : Vec F S1x16x128 .f32 := fun y => hSc x0 (y 1).val (ix2 0 (y 2))

/-- The codes of a block of queries. -/
def blockCode (x0 : Vec F S1x128x16x128 .bf16) : Vec F S1x128x16x128 .fp8e4m3 := fun y => hCode x0 (y 2).val (ix2 (y 3) (y 1))

/-- Every head's scales are one function of its loaded rows, however the program splits them. -/
theorem sc_same (v : Vec F S128x1x128 .bf16) :
    k0_pay91 v = k0_pay91 v ∧
    k0_pay95 v = k0_pay91 v ∧
    k0_pay98 (k0_pay97 v) = k0_pay91 v ∧
    k0_pay101 v = k0_pay91 v ∧
    k0_pay132 (k0_pay131 v) (FloatOps.ofBits .f32 0x00000000#32) = k0_pay91 v ∧
    k0_pay135 v = k0_pay91 v ∧
    k0_pay138 v = k0_pay91 v ∧
    k0_pay141 v = k0_pay91 v ∧
    k0_pay176 v = k0_pay91 v ∧
    k0_pay180 (k0_pay178 v) = k0_pay91 v ∧
    k0_pay183 v = k0_pay91 v ∧
    k0_pay186 v = k0_pay91 v ∧
    k0_pay221 v = k0_pay91 v ∧
    k0_pay224 v = k0_pay91 v ∧
    k0_pay227 v = k0_pay91 v ∧
    k0_pay232 (k0_pay230 v) (k0_pay231 v) = k0_pay91 v := by
  simp only [k0_pay90, k0_pay91, k0_pay92, k0_pay93, k0_pay94, k0_pay95, k0_pay96, k0_pay97, k0_pay98, k0_pay99, k0_pay100, k0_pay101, k0_pay102, k0_pay130, k0_pay131, k0_pay132, k0_pay133, k0_pay134, k0_pay135, k0_pay136, k0_pay137, k0_pay138, k0_pay139, k0_pay140, k0_pay141, k0_pay142, k0_pay175, k0_pay176, k0_pay177, k0_pay178, k0_pay179, k0_pay180, k0_pay181, k0_pay182, k0_pay183, k0_pay184, k0_pay185, k0_pay186, k0_pay187, k0_pay188, k0_pay220, k0_pay221, k0_pay222, k0_pay223, k0_pay224, k0_pay225, k0_pay226, k0_pay227, k0_pay228, k0_pay229, k0_pay230, k0_pay231, k0_pay232, k0_pay233, and_self]

/-- And so are its codes. -/
theorem code_same (v : Vec F S128x1x128 .bf16) :
    k0_pay93 (FloatOps.ofBits .f32 0x43E00000#32) (k0_pay92 v) = k0_pay96 v ∧
    k0_pay96 v = k0_pay96 v ∧
    k0_pay99 (k0_pay97 v) = k0_pay96 v ∧
    k0_pay102 (k0_pay100 v) (k0_pay101 v) = k0_pay96 v ∧
    k0_pay133 (k0_pay130 v) (k0_pay131 v) (FloatOps.ofBits .f32 0x00000000#32) = k0_pay96 v ∧
    k0_pay136 (k0_pay134 v) (k0_pay135 v) = k0_pay96 v ∧
    k0_pay139 v = k0_pay96 v ∧
    k0_pay142 v = k0_pay96 v ∧
    k0_pay177 v = k0_pay96 v ∧
    k0_pay181 (k0_pay178 v) = k0_pay96 v ∧
    k0_pay184 (k0_pay182 v) (k0_pay183 v) = k0_pay96 v ∧
    k0_pay188 (k0_pay187 v) = k0_pay96 v ∧
    k0_pay222 (k0_pay220 v) (k0_pay221 v) = k0_pay96 v ∧
    k0_pay225 v = k0_pay96 v ∧
    k0_pay228 v = k0_pay96 v ∧
    k0_pay233 (k0_pay229 v) (k0_pay230 v) (k0_pay231 v) = k0_pay96 v := by
  simp only [k0_pay90, k0_pay91, k0_pay92, k0_pay93, k0_pay94, k0_pay95, k0_pay96, k0_pay97, k0_pay98, k0_pay99, k0_pay100, k0_pay101, k0_pay102, k0_pay130, k0_pay131, k0_pay132, k0_pay133, k0_pay134, k0_pay135, k0_pay136, k0_pay137, k0_pay138, k0_pay139, k0_pay140, k0_pay141, k0_pay142, k0_pay175, k0_pay176, k0_pay177, k0_pay178, k0_pay179, k0_pay180, k0_pay181, k0_pay182, k0_pay183, k0_pay184, k0_pay185, k0_pay186, k0_pay187, k0_pay188, k0_pay220, k0_pay221, k0_pay222, k0_pay223, k0_pay224, k0_pay225, k0_pay226, k0_pay227, k0_pay228, k0_pay229, k0_pay230, k0_pay231, k0_pay232, k0_pay233, and_self]

theorem scPiece (x0 : Vec F S1x128x16x128 .bf16) (h : ℕ) (inb0 : ∀ a, (![0, 0, 0] : Fin 3 → ℕ) a + S1x16x128.size a ≤ S1x16x128.size a) (inb : ∀ a, (![h, 0] : Fin 2 → ℕ) a + S1x128.size a ≤ S16x128.size a) (p : (![1, 16, 128] : Fin 3 → ℕ) 0 = 1) (q : ∀ i : Fin 2, (![1, 16, 128] : Fin 3 → ℕ) i.succ = (![16, 128] : Fin 2 → ℕ) i) (w : ∀ a, (Rect.unit (s := S1x16x128) ![0, 0, 0] S1x16x128.size inb0).stride a = 1) (hR) (row : Vec F S1x128 .f32) (hr : row = hSc x0 h) :
    ∀ y, (⟨rowRect h inb0 inb p q w, Rect.payAlong (r := Rect.unit (s := S16x128) ![h, 0] S1x128.size inb) hR row⟩ : View.Piece (Elt F) S1x16x128 .f32).2 y
      = blockSc x0 ((⟨rowRect h inb0 inb p q w, Rect.payAlong (r := Rect.unit (s := S16x128) ![h, 0] S1x128.size inb) hR row⟩ : View.Piece (Elt F) S1x16x128 .f32).1.emb y) := fun y =>
  rowPiece h inb0 inb p q w hR row (blockSc x0) (fun l => congrFun hr (ix2 0 l)) y

theorem piecesS4 (c : Dev nD) (arg5 : Memref sig .tc .vmem S1x128x16x128 .bf16) (harg5 : arg5.IsWhole) (x0 : Vec F S1x128x16x128 .bf16) :
    ∀ p ∈ kernelRun0.sl.H10_4 c arg5 harg5 x0, ∀ x, p.2 x = blockSc x0 (p.1.emb x) := by
  unfold kernelRun0.sl.H10_4
  refine List.forall_mem_cons.mpr ⟨scPiece x0 3 _ _ _ _ _ _ _ ?_, List.forall_mem_cons.mpr ⟨scPiece x0 2 _ _ _ _ _ _ _ ?_, List.forall_mem_cons.mpr ⟨scPiece x0 1 _ _ _ _ _ _ _ ?_, List.forall_mem_cons.mpr ⟨scPiece x0 0 _ _ _ _ _ _ _ ?_, fun p hp => absurd hp List.not_mem_nil⟩⟩⟩⟩
  · exact (congrArg (fun v => k0_pay101 v) (readQ_eq arg5 harg5 x0 3 _ _ _ _ _ _)).trans (sc_same (qh x0 3)).2.2.2.1
  · exact (congrArg (fun v => k0_pay98 (k0_pay97 v)) (readQ_eq arg5 harg5 x0 2 _ _ _ _ _ _)).trans (sc_same (qh x0 2)).2.2.1
  · exact (congrArg (fun v => k0_pay95 v) (readQ_eq arg5 harg5 x0 1 _ _ _ _ _ _)).trans (sc_same (qh x0 1)).2.1
  · exact (congrArg (fun v => k0_pay91 v) (readQ_eq arg5 harg5 x0 0 _ _ _ _ _ _)).trans (sc_same (qh x0 0)).1

theorem piecesS8 (c : Dev nD) (arg5 : Memref sig .tc .vmem S1x128x16x128 .bf16) (harg5 : arg5.IsWhole) (x0 : Vec F S1x128x16x128 .bf16) :
    ∀ p ∈ kernelRun0.sl.H10_8 c arg5 harg5 x0, ∀ x, p.2 x = blockSc x0 (p.1.emb x) := by
  unfold kernelRun0.sl.H10_8
  refine List.forall_mem_cons.mpr ⟨scPiece x0 7 _ _ _ _ _ _ _ ?_, List.forall_mem_cons.mpr ⟨scPiece x0 6 _ _ _ _ _ _ _ ?_, List.forall_mem_cons.mpr ⟨scPiece x0 5 _ _ _ _ _ _ _ ?_, List.forall_mem_cons.mpr ⟨scPiece x0 4 _ _ _ _ _ _ _ ?_, piecesS4 c arg5 harg5 x0⟩⟩⟩⟩
  · exact (congrArg (fun v => k0_pay141 v) (readQ_eq arg5 harg5 x0 7 _ _ _ _ _ _)).trans (sc_same (qh x0 7)).2.2.2.2.2.2.2.1
  · exact (congrArg (fun v => k0_pay138 v) (readQ_eq arg5 harg5 x0 6 _ _ _ _ _ _)).trans (sc_same (qh x0 6)).2.2.2.2.2.2.1
  · exact (congrArg (fun v => k0_pay135 v) (readQ_eq arg5 harg5 x0 5 _ _ _ _ _ _)).trans (sc_same (qh x0 5)).2.2.2.2.2.1
  · exact (congrArg (fun v => k0_pay132 (k0_pay131 v) (FloatOps.ofBits .f32 0x00000000#32)) (readQ_eq arg5 harg5 x0 4 _ _ _ _ _ _)).trans (sc_same (qh x0 4)).2.2.2.2.1

theorem piecesS12 (c : Dev nD) (arg5 : Memref sig .tc .vmem S1x128x16x128 .bf16) (harg5 : arg5.IsWhole) (x0 : Vec F S1x128x16x128 .bf16) :
    ∀ p ∈ kernelRun0.sl.H10_12 c arg5 harg5 x0, ∀ x, p.2 x = blockSc x0 (p.1.emb x) := by
  unfold kernelRun0.sl.H10_12
  refine List.forall_mem_cons.mpr ⟨scPiece x0 11 _ _ _ _ _ _ _ ?_, List.forall_mem_cons.mpr ⟨scPiece x0 10 _ _ _ _ _ _ _ ?_, List.forall_mem_cons.mpr ⟨scPiece x0 9 _ _ _ _ _ _ _ ?_, List.forall_mem_cons.mpr ⟨scPiece x0 8 _ _ _ _ _ _ _ ?_, piecesS8 c arg5 harg5 x0⟩⟩⟩⟩
  · exact (congrArg (fun v => k0_pay186 v) (readQ_eq arg5 harg5 x0 11 _ _ _ _ _ _)).trans (sc_same (qh x0 11)).2.2.2.2.2.2.2.2.2.2.2.1
  · exact (congrArg (fun v => k0_pay183 v) (readQ_eq arg5 harg5 x0 10 _ _ _ _ _ _)).trans (sc_same (qh x0 10)).2.2.2.2.2.2.2.2.2.2.1
  · exact (congrArg (fun v => k0_pay180 (k0_pay178 v)) (readQ_eq arg5 harg5 x0 9 _ _ _ _ _ _)).trans (sc_same (qh x0 9)).2.2.2.2.2.2.2.2.2.1
  · exact (congrArg (fun v => k0_pay176 v) (readQ_eq arg5 harg5 x0 8 _ _ _ _ _ _)).trans (sc_same (qh x0 8)).2.2.2.2.2.2.2.2.1

theorem piecesS16 (c : Dev nD) (arg5 : Memref sig .tc .vmem S1x128x16x128 .bf16) (harg5 : arg5.IsWhole) (x0 : Vec F S1x128x16x128 .bf16) :
    ∀ p ∈ kernelRun0.sl.H10_16 c arg5 harg5 x0, ∀ x, p.2 x = blockSc x0 (p.1.emb x) := by
  unfold kernelRun0.sl.H10_16
  refine List.forall_mem_cons.mpr ⟨scPiece x0 15 _ _ _ _ _ _ _ ?_, List.forall_mem_cons.mpr ⟨scPiece x0 14 _ _ _ _ _ _ _ ?_, List.forall_mem_cons.mpr ⟨scPiece x0 13 _ _ _ _ _ _ _ ?_, List.forall_mem_cons.mpr ⟨scPiece x0 12 _ _ _ _ _ _ _ ?_, piecesS12 c arg5 harg5 x0⟩⟩⟩⟩
  · exact (congrArg (fun v => k0_pay232 (k0_pay230 v) (k0_pay231 v)) (readQ_eq arg5 harg5 x0 15 _ _ _ _ _ _)).trans (sc_same (qh x0 15)).2.2.2.2.2.2.2.2.2.2.2.2.2.2.2
  · exact (congrArg (fun v => k0_pay227 v) (readQ_eq arg5 harg5 x0 14 _ _ _ _ _ _)).trans (sc_same (qh x0 14)).2.2.2.2.2.2.2.2.2.2.2.2.2.2.1
  · exact (congrArg (fun v => k0_pay224 v) (readQ_eq arg5 harg5 x0 13 _ _ _ _ _ _)).trans (sc_same (qh x0 13)).2.2.2.2.2.2.2.2.2.2.2.2.2.1
  · exact (congrArg (fun v => k0_pay221 v) (readQ_eq arg5 harg5 x0 12 _ _ _ _ _ _)).trans (sc_same (qh x0 12)).2.2.2.2.2.2.2.2.2.2.2.2.1

/-- Four heads' codes side by side, a row for each query. -/
def stack4 (c0 c1 c2 c3 : FVec F S128x128 .fp8e4m3) : Vec F S1x128x4x128 .fp8e4m3 :=
  shapeCast S1x128x4x128 (concatenate S128x4x128 1
    [⟨S128x1x128, shapeCast S128x1x128 (transpose S128x128 [1, 0] c0 transposes_S128x128_p1_0_S128x128) shapeCasts_S128x128_S128x1x128⟩,
     ⟨S128x1x128, shapeCast S128x1x128 (transpose S128x128 [1, 0] c1 transposes_S128x128_p1_0_S128x128) shapeCasts_S128x128_S128x1x128⟩,
     ⟨S128x1x128, shapeCast S128x1x128 (transpose S128x128 [1, 0] c2 transposes_S128x128_p1_0_S128x128) shapeCasts_S128x128_S128x1x128⟩,
     ⟨S128x1x128, shapeCast S128x1x128 (transpose S128x128 [1, 0] c3 transposes_S128x128_p1_0_S128x128) shapeCasts_S128x128_S128x1x128⟩]
    concatenates_S128x1x128_S128x1x128_S128x1x128_S128x1x128_S128x4x128_d1) shapeCasts_S128x4x128_S1x128x4x128

theorem stack4_apply (C : ℕ → FVec F S128x128 .fp8e4m3) (n : ℕ) (y : S1x128x4x128.Idx) :
    stack4 (C n) (C (n + 1)) (C (n + 2)) (C (n + 3)) y = C (n + (y 2).val) (ix2 (y 3) (y 1)) := by
  unfold stack4
  pointwise
  have h2 : (y 2).val < 4 := (y 2).isLt
  have hc : (y 2).val = 0 ∨ (y 2).val = 1 ∨ (y 2).val = 2 ∨ (y 2).val = 3 := by omega
  rcases hc with h | h | h | h <;> simp [h]

theorem codePiece (x0 : Vec F S1x128x16x128 .bf16) (n : ℕ) (inb : ∀ a, (![0, 0, n, 0] : Fin 4 → ℕ) a + S1x128x4x128.size a ≤ S1x128x16x128.size a)
    (pay : Vec F S1x128x4x128 .fp8e4m3) (hp : pay = stack4 (hCode x0 n) (hCode x0 (n + 1)) (hCode x0 (n + 2)) (hCode x0 (n + 3))) :
    ∀ y, (⟨Rect.unit (s := S1x128x16x128) ![0, 0, n, 0] S1x128x4x128.size inb, pay⟩ : View.Piece (Elt F) S1x128x16x128 .fp8e4m3).2 y
      = blockCode x0 ((⟨Rect.unit (s := S1x128x16x128) ![0, 0, n, 0] S1x128x4x128.size inb, pay⟩ : View.Piece (Elt F) S1x128x16x128 .fp8e4m3).1.emb y) := fun (y : S1x128x4x128.Idx) => by
  refine (congrFun hp y).trans ((stack4_apply (hCode x0) n y).trans ?_)
  have h2 : n + 1 * (y 2).val = n + (y 2).val := by omega
  have h1 : 0 + 1 * (y 1).val = (y 1).val := by omega
  have h3 : 0 + 1 * (y 3).val = (y 3).val := by omega
  show _ = hCode x0 (n + 1 * (y 2).val) (ix2 ⟨0 + 1 * (y 3).val, _⟩ ⟨0 + 1 * (y 1).val, _⟩)
  rw [h2]
  exact congrArg (hCode x0 _) (congrArg₂ ix2 (Fin.ext h3.symm) (Fin.ext h1.symm))

end Cert.KernelIdeal.Gen

end
-- ==== Proof.KernelIdeal.Units.lean ====
module

public import proofs.«01_k».proof.Proof.KernelIdeal.Heads
public import Idealize.ShloMosaic.Lib.Pointwise
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A block's keys of one head, of the keys' scratch. -/
def keysAt (xs0 : Vec F S4x2048x256 .fp8e4m3) (n k : ℕ) : Vec F S1x256x128 .fp8e4m3 := fun y =>
  xs0 (ix3 ⟨n / 2 % 4, Nat.mod_lt _ (by decide)⟩ ⟨(256 * k + (y 1).val) % 2048, Nat.mod_lt _ (by decide)⟩ ⟨(n % 2 * 128 + (y 2).val) % 256, Nat.mod_lt _ (by decide)⟩)

/-- A block's repeated scales of one head. -/
def rowsAt (xs2 : Vec F S8x2048x128 .f32) (n k : ℕ) : Vec F S1x256x128 .f32 := fun y =>
  xs2 (ix3 ⟨n % 8, Nat.mod_lt _ (by decide)⟩ ⟨(256 * k + (y 1).val) % 2048, Nat.mod_lt _ (by decide)⟩ (y 2))

/-- A block's transposed values of one head. -/
def valsAt (xs1 : Vec F S8x128x2048 .bf16) (n k : ℕ) : Vec F S1x128x256 .bf16 := fun y =>
  xs1 (ix3 ⟨n % 8, Nat.mod_lt _ (by decide)⟩ (y 1) ⟨(256 * k + (y 2).val) % 2048, Nat.mod_lt _ (by decide)⟩)

/-- Word `(b, j)` of a table of positions. -/
def posWord (X : Vec F S6x2048 .i32) (b j : ℕ) : Elt F .i32 := X (ix2 ⟨b % 6, Nat.mod_lt _ (by decide)⟩ ⟨j % 2048, Nat.mod_lt _ (by decide)⟩)

/-- One trip of head `n`'s loop, off the blocks' contents. -/
def nextAt (X3 : Vec F S6x2048 .i32) (b : ℕ) (xs0 : Vec F S4x2048x256 .fp8e4m3) (xs1 : Vec F S8x128x2048 .bf16) (xs2 xs3 : Vec F S8x2048x128 .f32)
    (n : ℕ) (w q0 : Elt F .i32) (qt : FVec F S128x256 .fp8e4m3) (qs : FVec F S1x256 .f32) (k : ℕ) (acc : Carry F) : Carry F :=
  if blockLive w q0 (posWord X3 b (256 * k)) then
    liveNext w q0 qt qs (posWord X3 b (256 * k)) (keysAt xs0 n k) (rowsAt xs2 n k) (rowsAt xs3 n k) (valsAt xs1 n k) acc
  else acc

/-- The carried arrays after `k` trips. -/
def runTo (next : ℕ → Carry F → Carry F) (init : Carry F) : ℕ → Carry F
  | 0 => init
  | k + 1 => next k (runTo next init k)

theorem unitSt_runTo {T : ℕ} (next : Fin T → Carry F → Carry F) (next' : ℕ → Carry F → Carry F) (init : Carry F) (h : ∀ k, next k = next' k.val) :
    ∀ n, n ≤ T → unitSt next init n = runTo next' init n
  | 0, _ => rfl
  | n + 1, hn => by
    rw [unitSt_succ next init ⟨n, hn⟩, unitSt_runTo next next' init h n (by omega), h]
    rfl

theorem keys_eq (arg16 : Memref sig .tc .vmem S4x2048x256 .fp8e4m3) (harg16 : arg16.IsWhole) (xs0 : Vec F S4x2048x256 .fp8e4m3) (n k : ℕ) (o : Fin 3 → ℕ) (h)
    (ho : o = ![n / 2, 256 * k, n % 2 * 128]) :
    (View.readAt (Elt F) arg16.view (Rect.unit (s := S4x2048x256) o S1x256x128.size h).toLoadRect (harg16.unread xs0) : Vec F S1x256x128 .fp8e4m3) = keysAt xs0 n k := by
  subst ho
  have h0 : n / 2 + 1 ≤ 4 := h 0
  have h1 : 256 * k + 256 ≤ 2048 := h 1
  have h2 : n % 2 * 128 + 128 ≤ 256 := h 2
  refine funext fun (y : S1x256x128.Idx) => ?_
  refine (harg16.readAt_unread xs0 _ _).trans (congrArg xs0 ?_)
  have y0 : (y 0).val < 1 := (y 0).isLt
  have y1 : (y 1).val < 256 := (y 1).isLt
  have y2 : (y 2).val < 128 := (y 2).isLt
  refine funext fun a => Fin.ext ?_
  match a with
  | ⟨0, _⟩ => show n / 2 + 1 * (y 0).val = n / 2 % 4; omega
  | ⟨1, _⟩ => show 256 * k + 1 * (y 1).val = (256 * k + (y 1).val) % 2048; omega
  | ⟨2, _⟩ => show n % 2 * 128 + 1 * (y 2).val = (n % 2 * 128 + (y 2).val) % 256; omega

theorem rows_eq (arg18 : Memref sig .tc .vmem S8x2048x128 .f32) (harg18 : arg18.IsWhole) (xs2 : Vec F S8x2048x128 .f32) (n k : ℕ) (o : Fin 3 → ℕ) (h)
    (ho : o = ![n, 256 * k, 0]) :
    (View.readAt (Elt F) arg18.view (Rect.unit (s := S8x2048x128) o S1x256x128.size h).toLoadRect (harg18.unread xs2) : Vec F S1x256x128 .f32) = rowsAt xs2 n k := by
  subst ho
  have h0 : n + 1 ≤ 8 := h 0
  have h1 : 256 * k + 256 ≤ 2048 := h 1
  refine funext fun (y : S1x256x128.Idx) => ?_
  refine (harg18.readAt_unread xs2 _ _).trans (congrArg xs2 ?_)
  have y0 : (y 0).val < 1 := (y 0).isLt
  have y1 : (y 1).val < 256 := (y 1).isLt
  refine funext fun a => Fin.ext ?_
  match a with
  | ⟨0, _⟩ => show n + 1 * (y 0).val = n % 8; omega
  | ⟨1, _⟩ => show 256 * k + 1 * (y 1).val = (256 * k + (y 1).val) % 2048; omega
  | ⟨2, _⟩ => show 0 + 1 * (y 2).val = (y 2).val; omega

theorem vals_eq (arg17 : Memref sig .tc .vmem S8x128x2048 .bf16) (harg17 : arg17.IsWhole) (xs1 : Vec F S8x128x2048 .bf16) (n k : ℕ) (o : Fin 3 → ℕ) (h)
    (ho : o = ![n, 0, 256 * k]) :
    (View.readAt (Elt F) arg17.view (Rect.unit (s := S8x128x2048) o S1x128x256.size h).toLoadRect (harg17.unread xs1) : Vec F S1x128x256 .bf16) = valsAt xs1 n k := by
  subst ho
  have h0 : n + 1 ≤ 8 := h 0
  have h1 : 256 * k + 256 ≤ 2048 := h 2
  refine funext fun (y : S1x128x256.Idx) => ?_
  refine (harg17.readAt_unread xs1 _ _).trans (congrArg xs1 ?_)
  have y0 : (y 0).val < 1 := (y 0).isLt
  have y1 : (y 2).val < 256 := (y 2).isLt
  refine funext fun a => Fin.ext ?_
  match a with
  | ⟨0, _⟩ => show n + 1 * (y 0).val = n % 8; omega
  | ⟨1, _⟩ => show 0 + 1 * (y 1).val = (y 1).val; omega
  | ⟨2, _⟩ => show 256 * k + 1 * (y 2).val = (256 * k + (y 2).val) % 2048; omega

theorem word_eq (c : Dev nD) (xt1 : TbBuf0 (F := F) c tbM0_1) (b k : ℕ) (o : Fin 2 → ℕ) (h) (ho : o = ![b, 256 * k]) :
    tableWord c tbM0_1 xt1 o h = posWord (F := F) (xt1 : Vec F S6x2048 .i32) b (256 * k) := by
  subst ho
  have h0 : b + 1 ≤ 6 := h 0
  have h1 : 256 * k + 1 ≤ 2048 := h 1
  refine congrArg (xt1 : Vec F S6x2048 .i32) (funext fun a => Fin.ext ?_)
  match a with
  | ⟨0, _⟩ => show b + 1 * 0 = b % 6; omega
  | ⟨1, _⟩ => show 256 * k + 1 * 0 = 256 * k % 2048; omega

/-- A loop of head `n`, as trips over the blocks' contents. -/
theorem loop_eq {T : ℕ} (hT : T = 8) (c : Dev nD) (arg16 : Memref sig .tc .vmem S4x2048x256 .fp8e4m3) (harg16 : arg16.IsWhole) (arg17 : Memref sig .tc .vmem S8x128x2048 .bf16) (harg17 : arg17.IsWhole)
    (arg18 : Memref sig .tc .vmem S8x2048x128 .f32) (harg18 : arg18.IsWhole) (arg19 : Memref sig .tc .vmem S8x2048x128 .f32) (harg19 : arg19.IsWhole)
    (xt1 : TbBuf0 (F := F) c tbM0_1) (xs0 : Vec F S4x2048x256 .fp8e4m3) (xs1 : Vec F S8x128x2048 .bf16) (xs2 : Vec F S8x2048x128 .f32) (xs3 : Vec F S8x2048x128 .f32)
    (n b : ℕ) (o3 : Fin T → Fin 2 → ℕ) (h3 : ∀ k a, o3 k a + S1x1.size a ≤ S6x2048.size a) (oK : Fin T → Fin 3 → ℕ) (hK : ∀ k a, oK k a + S1x256x128.size a ≤ S4x2048x256.size a)
    (oS : Fin T → Fin 3 → ℕ) (hS : ∀ k a, oS k a + S1x256x128.size a ≤ S8x2048x128.size a) (oV : Fin T → Fin 3 → ℕ) (hV : ∀ k a, oV k a + S1x128x256.size a ≤ S8x128x2048.size a)
    (e3 : ∀ k, o3 k = ![b, 256 * k.val]) (eK : ∀ k, oK k = ![n / 2, 256 * k.val, n % 2 * 128]) (eS : ∀ k, oS k = ![n, 256 * k.val, 0]) (eV : ∀ k, oV k = ![n, 0, 256 * k.val])
    (w q0 : Elt F .i32) {qt qt' : FVec F S128x256 .fp8e4m3} {qs qs' : FVec F S1x256 .f32} {init init' : Carry F} (hq : qt = qt') (hs : qs = qs') (hi : init = init') :
    unitSt (fun k : Fin T => unitNext c tbM0_1 arg16 arg17 arg18 arg19 xt1 (harg16.unread xs0) (harg17.unread xs1) (harg18.unread xs2) (harg19.unread xs3)
      (o3 k) (h3 k) (oK k) (hK k) (oS k) (hS k) (oV k) (hV k) w q0 qt qs) init T
      = runTo (nextAt (xt1 : Vec F S6x2048 .i32) b xs0 xs1 xs2 xs3 n w q0 qt' qs') init' 8 := by
  subst hT hq hs hi
  refine unitSt_runTo _ _ _ (fun k => funext fun acc => ?_) 8 le_rfl
  unfold unitNext nextAt
  rw [word_eq c xt1 b k.val _ _ (e3 k), keys_eq arg16 harg16 xs0 n k.val _ _ (eK k), rows_eq arg18 harg18 xs2 n k.val _ _ (eS k),
    rows_eq arg19 harg19 xs3 n k.val _ _ (eS k), vals_eq arg17 harg17 xs1 n k.val _ _ (eV k)]

/-! The offsets the eight loops load at. -/

theorem at0_pos (i : grid0.Coords) (k : Fin k0_t2_loop.trips) : k0_off43 i k = ![(i 0).val, 256 * k.val] := by
  revert i k; decide +kernel
theorem at0_keys (k : Fin k0_t2_loop.trips) : k0_off44 k = ![0 / 2, 256 * k.val, 0 % 2 * 128] := by
  revert k; decide +kernel
theorem at0_rows (k : Fin k0_t2_loop.trips) : k0_off45 k = ![0, 256 * k.val, 0] := by
  revert k; decide +kernel
theorem at0_vals (k : Fin k0_t2_loop.trips) : k0_off46 k = ![0, 0, 256 * k.val] := by
  revert k; decide +kernel

theorem at1_pos (i : grid0.Coords) (k : Fin k0_t3_loop.trips) : k0_off47 i k = ![(i 0).val, 256 * k.val] := by
  revert i k; decide +kernel
theorem at1_keys (k : Fin k0_t3_loop.trips) : k0_off48 k = ![1 / 2, 256 * k.val, 1 % 2 * 128] := by
  revert k; decide +kernel
theorem at1_rows (k : Fin k0_t3_loop.trips) : k0_off49 k = ![1, 256 * k.val, 0] := by
  revert k; decide +kernel
theorem at1_vals (k : Fin k0_t3_loop.trips) : k0_off50 k = ![1, 0, 256 * k.val] := by
  revert k; decide +kernel

theorem at2_pos (i : grid0.Coords) (k : Fin k0_t4_loop.trips) : k0_off51 i k = ![(i 0).val, 256 * k.val] := by
  revert i k; decide +kernel
theorem at2_keys (k : Fin k0_t4_loop.trips) : k0_off52 k = ![2 / 2, 256 * k.val, 2 % 2 * 128] := by
  revert k; decide +kernel
theorem at2_rows (k : Fin k0_t4_loop.trips) : k0_off53 k = ![2, 256 * k.val, 0] := by
  revert k; decide +kernel
theorem at2_vals (k : Fin k0_t4_loop.trips) : k0_off54 k = ![2, 0, 256 * k.val] := by
  revert k; decide +kernel

theorem at3_pos (i : grid0.Coords) (k : Fin k0_t5_loop.trips) : k0_off55 i k = ![(i 0).val, 256 * k.val] := by
  revert i k; decide +kernel
theorem at3_keys (k : Fin k0_t5_loop.trips) : k0_off56 k = ![3 / 2, 256 * k.val, 3 % 2 * 128] := by
  revert k; decide +kernel
theorem at3_rows (k : Fin k0_t5_loop.trips) : k0_off57 k = ![3, 256 * k.val, 0] := by
  revert k; decide +kernel
theorem at3_vals (k : Fin k0_t5_loop.trips) : k0_off58 k = ![3, 0, 256 * k.val] := by
  revert k; decide +kernel

theorem at4_pos (i : grid0.Coords) (k : Fin k0_t6_loop.trips) : k0_off59 i k = ![(i 0).val, 256 * k.val] := by
  revert i k; decide +kernel
theorem at4_keys (k : Fin k0_t6_loop.trips) : k0_off60 k = ![4 / 2, 256 * k.val, 4 % 2 * 128] := by
  revert k; decide +kernel
theorem at4_rows (k : Fin k0_t6_loop.trips) : k0_off61 k = ![4, 256 * k.val, 0] := by
  revert k; decide +kernel
theorem at4_vals (k : Fin k0_t6_loop.trips) : k0_off62 k = ![4, 0, 256 * k.val] := by
  revert k; decide +kernel

theorem at5_pos (i : grid0.Coords) (k : Fin k0_t7_loop.trips) : k0_off63 i k = ![(i 0).val, 256 * k.val] := by
  revert i k; decide +kernel
theorem at5_keys (k : Fin k0_t7_loop.trips) : k0_off64 k = ![5 / 2, 256 * k.val, 5 % 2 * 128] := by
  revert k; decide +kernel
theorem at5_rows (k : Fin k0_t7_loop.trips) : k0_off65 k = ![5, 256 * k.val, 0] := by
  revert k; decide +kernel
theorem at5_vals (k : Fin k0_t7_loop.trips) : k0_off66 k = ![5, 0, 256 * k.val] := by
  revert k; decide +kernel

theorem at6_pos (i : grid0.Coords) (k : Fin k0_t8_loop.trips) : k0_off67 i k = ![(i 0).val, 256 * k.val] := by
  revert i k; decide +kernel
theorem at6_keys (k : Fin k0_t8_loop.trips) : k0_off68 k = ![6 / 2, 256 * k.val, 6 % 2 * 128] := by
  revert k; decide +kernel
theorem at6_rows (k : Fin k0_t8_loop.trips) : k0_off69 k = ![6, 256 * k.val, 0] := by
  revert k; decide +kernel
theorem at6_vals (k : Fin k0_t8_loop.trips) : k0_off70 k = ![6, 0, 256 * k.val] := by
  revert k; decide +kernel

theorem at7_pos (i : grid0.Coords) (k : Fin k0_t9_loop.trips) : k0_off71 i k = ![(i 0).val, 256 * k.val] := by
  revert i k; decide +kernel
theorem at7_keys (k : Fin k0_t9_loop.trips) : k0_off72 k = ![7 / 2, 256 * k.val, 7 % 2 * 128] := by
  revert k; decide +kernel
theorem at7_rows (k : Fin k0_t9_loop.trips) : k0_off73 k = ![7, 256 * k.val, 0] := by
  revert k; decide +kernel
theorem at7_vals (k : Fin k0_t9_loop.trips) : k0_off74 k = ![7, 0, 256 * k.val] := by
  revert k; decide +kernel

end Cert.KernelIdeal.Gen

end
-- ==== Proof.KernelIdeal.Blocks.lean ====
module

public import proofs.«01_k».proof.Proof.KernelIdeal.Units
public import Idealize.ShloMosaic.Lib.Pointwise
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A block of outputs of one key head, off its carried arrays at the end. -/
def outBlk (l0 l1 : Vec F S1x128 .f32) (o0 o1 : Vec F S128x128 .f32) (st : Carry F) : Vec F S1x128x2x128 .bf16 :=
  k0_pay116 (k0_pay115 st.2.2 (k0_pay111 l0 l1 st.1) (k0_pay112 l0 l1 st.1 st.2.1) o0 o1)

/-- The first and the second query head's row of log sums. -/
def lseLo (l0 l1 : Vec F S1x128 .f32) (st : Carry F) : Vec F S1x128 .f32 := k0_pay113 l0 l1 st.1 st.2.1
def lseHi (l0 l1 : Vec F S1x128 .f32) (st : Carry F) : Vec F S1x128 .f32 := k0_pay114 st.1 (k0_pay112 l0 l1 st.1 st.2.1)

/-- Every key head's outputs are the one function, however the program splits them. -/
theorem out_same (l0 l1 : Vec F S1x128 .f32) (o0 o1 : Vec F S128x128 .f32) (st : Carry F) :
    k0_pay116 (k0_pay115 st.2.2 (k0_pay111 l0 l1 st.1) (k0_pay112 l0 l1 st.1 st.2.1) o0 o1) = outBlk l0 l1 o0 o1 st ∧
    k0_pay129 st.2.2 (k0_pay124 (k0_pay119 l0 l1) st.1) (k0_pay125 (k0_pay119 l0 l1) st.1 st.2.1) (k0_pay127 (k0_pay119 l0 l1) st.1 st.2.1 st.2.2 o0) o1 = outBlk l0 l1 o0 o1 st ∧
    k0_pay159 st.2.2 (k0_pay151 l0 l1 st.1) (k0_pay152 l0 l1 st.1 st.2.1) (k0_pay157 st.2.2 (k0_pay151 l0 l1 st.1) (k0_pay152 l0 l1 st.1 st.2.1) o0) o1 = outBlk l0 l1 o0 o1 st ∧
    k0_pay174 (k0_pay173 st.2.2 (k0_pay167 l0 l1 st.1) (k0_pay168 l0 l1 st.1 st.2.1) (k0_pay170 o0) (k0_pay171 l0 l1 st.1) o1) = outBlk l0 l1 o0 o1 st ∧
    k0_pay205 st.2.2 (k0_pay198 (k0_pay192 l0) l1 st.1) (k0_pay199 (k0_pay192 l0) l1 st.1 st.2.1) (k0_pay201 (k0_pay192 l0) l1 st.1 st.2.1 st.2.2 o0) o1 = outBlk l0 l1 o0 o1 st ∧
    k0_pay219 st.2.2 (k0_pay213 l0 l1 st.1) (k0_pay214 l0 l1 st.1 st.2.1) (k0_pay217 st.2.2 (k0_pay213 l0 l1 st.1) (k0_pay214 l0 l1 st.1 st.2.1) o0) o1 = outBlk l0 l1 o0 o1 st ∧
    k0_pay249 (k0_pay247 st.2.2 (k0_pay243 l0 l1 st.1) (k0_pay244 l0 l1 st.1 st.2.1) o1) (k0_pay248 st.2.2 (k0_pay243 l0 l1 st.1) (k0_pay244 l0 l1 st.1 st.2.1) o0) = outBlk l0 l1 o0 o1 st ∧
    k0_pay1 st.2.2 (k0_pay258 (k0_pay252 l0 l1) st.1 st.2.1) (k0_pay260 (k0_pay252 l0 l1) st.1 st.2.1 st.2.2 o0) (k0_pay264 (k0_pay257 (k0_pay252 l0 l1) st.1) o1) = outBlk l0 l1 o0 o1 st := by
  simp only [outBlk, k0_pay1, k0_pay104, k0_pay105, k0_pay106, k0_pay107, k0_pay108, k0_pay109, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, and_self]

theorem lo_same (l0 l1 : Vec F S1x128 .f32) (st : Carry F) :
    k0_pay113 l0 l1 st.1 st.2.1 = lseLo l0 l1 st ∧
    k0_pay126 (k0_pay119 l0 l1) st.1 st.2.1 = lseLo l0 l1 st ∧
    k0_pay156 (k0_pay153 st.1) (k0_pay154 l0 l1 st.1 st.2.1) k0_pay155 = lseLo l0 l1 st ∧
    k0_pay169 l0 l1 st.1 st.2.1 = lseLo l0 l1 st ∧
    k0_pay200 (k0_pay192 l0) l1 st.1 st.2.1 = lseLo l0 l1 st ∧
    k0_pay216 (k0_pay215 l0 l1 st.1 st.2.1) (FloatOps.ofBits .f32 1093664768#32) = lseLo l0 l1 st ∧
    k0_pay245 l0 l1 st.1 st.2.1 = lseLo l0 l1 st ∧
    k0_pay259 (k0_pay252 l0 l1) st.1 st.2.1 = lseLo l0 l1 st := by
  simp only [lseLo, k0_pay1, k0_pay104, k0_pay105, k0_pay106, k0_pay107, k0_pay108, k0_pay109, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, and_self]

theorem hi_same (l0 l1 : Vec F S1x128 .f32) (st : Carry F) :
    k0_pay114 st.1 (k0_pay112 l0 l1 st.1 st.2.1) = lseHi l0 l1 st ∧
    k0_pay128 (k0_pay119 l0 l1) st.1 st.2.1 = lseHi l0 l1 st ∧
    k0_pay158 st.1 (k0_pay152 l0 l1 st.1 st.2.1) = lseHi l0 l1 st ∧
    k0_pay172 st.1 (k0_pay168 l0 l1 st.1 st.2.1) = lseHi l0 l1 st ∧
    k0_pay204 (k0_pay202 st.1) (k0_pay203 (k0_pay192 l0) l1 st.1 st.2.1) = lseHi l0 l1 st ∧
    k0_pay218 st.1 (k0_pay214 l0 l1 st.1 st.2.1) = lseHi l0 l1 st ∧
    k0_pay246 st.1 (k0_pay244 l0 l1 st.1 st.2.1) = lseHi l0 l1 st ∧
    k0_pay263 (k0_pay261 st.1) (k0_pay262 (k0_pay252 l0 l1) st.1 st.2.1) = lseHi l0 l1 st := by
  simp only [lseHi, k0_pay1, k0_pay104, k0_pay105, k0_pay106, k0_pay107, k0_pay108, k0_pay109, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, and_self]

theorem qt_same (c0 c1 : FVec F S128x128 .fp8e4m3) :
    k0_pay104 c0 c1 = k0_pay104 c0 c1 ∧
    k0_pay117 c0 c1 = k0_pay104 c0 c1 ∧
    k0_pay144 c0 c1 = k0_pay104 c0 c1 ∧
    k0_pay160 c0 c1 = k0_pay104 c0 c1 ∧
    k0_pay190 c0 c1 = k0_pay104 c0 c1 ∧
    k0_pay206 c0 c1 = k0_pay104 c0 c1 ∧
    k0_pay235 c0 c1 = k0_pay104 c0 c1 ∧
    k0_pay250 c0 c1 = k0_pay104 c0 c1 := by
  simp only [k0_pay1, k0_pay104, k0_pay105, k0_pay106, k0_pay107, k0_pay108, k0_pay109, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, and_self]

theorem qs_same (s0 s1 : Vec F S1x128 .f32) :
    k0_pay105 s0 s1 = k0_pay105 s0 s1 ∧
    k0_pay118 s0 s1 = k0_pay105 s0 s1 ∧
    k0_pay145 s0 s1 = k0_pay105 s0 s1 ∧
    k0_pay161 s0 s1 = k0_pay105 s0 s1 ∧
    k0_pay191 s0 s1 = k0_pay105 s0 s1 ∧
    k0_pay207 s0 s1 = k0_pay105 s0 s1 ∧
    k0_pay237 (k0_pay236 s0) s1 = k0_pay105 s0 s1 ∧
    k0_pay251 s0 s1 = k0_pay105 s0 s1 := by
  simp only [k0_pay1, k0_pay104, k0_pay105, k0_pay106, k0_pay107, k0_pay108, k0_pay109, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, and_self]

/-- What every loop starts from. -/
def unitInit (l0 l1 : Vec F S1x128 .f32) : Carry F := (k0_pay107 l0 l1, k0_pay108, k0_pay109)

theorem init_same (l0 l1 : Vec F S1x128 .f32) :
    ((k0_pay107 l0 l1, k0_pay108, k0_pay109) : Carry F) = unitInit l0 l1 ∧
    (((k0_pay120 l0 l1), k0_pay121, k0_pay122) : Carry F) = unitInit l0 l1 ∧
    ((k0_pay147 l0 l1, k0_pay148, k0_pay149) : Carry F) = unitInit l0 l1 ∧
    ((k0_pay163 l0 l1, k0_pay164, k0_pay165) : Carry F) = unitInit l0 l1 ∧
    ((k0_pay194 (k0_pay192 l0) l1, k0_pay195, k0_pay196) : Carry F) = unitInit l0 l1 ∧
    ((k0_pay209 l0 l1, k0_pay210, k0_pay211) : Carry F) = unitInit l0 l1 ∧
    ((k0_pay239 l0 l1, k0_pay240, k0_pay241) : Carry F) = unitInit l0 l1 ∧
    ((k0_pay253 (k0_pay252 l0 l1), k0_pay254, k0_pay255) : Carry F) = unitInit l0 l1 := by
  simp only [unitInit, k0_pay1, k0_pay104, k0_pay105, k0_pay106, k0_pay107, k0_pay108, k0_pay109, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, and_self]

theorem outBlk_congr {l0 l1 l0' l1' : Vec F S1x128 .f32} {o0 o1 o0' o1' : Vec F S128x128 .f32} {st st' : Carry F} (h0 : l0 = l0') (h1 : l1 = l1') (h2 : o0 = o0') (h3 : o1 = o1') (h4 : st = st') :
    outBlk l0 l1 o0 o1 st = outBlk l0' l1' o0' o1' st' := by rw [h0, h1, h2, h3, h4]

theorem lse_congr (f : Vec F S1x128 .f32 → Vec F S1x128 .f32 → Carry F → Vec F S1x128 .f32) {l0 l1 l0' l1' : Vec F S1x128 .f32} {st st' : Carry F} (h0 : l0 = l0') (h1 : l1 = l1') (h4 : st = st') :
    f l0 l1 st = f l0' l1' st' := by rw [h0, h1, h4]

theorem coverS4 (c : Dev nD) (arg5 : Memref sig .tc .vmem S1x128x16x128 .bf16) (harg5 : arg5.IsWhole) (x0 : Vec F S1x128x16x128 .bf16) (y : S1x16x128.Idx) (hy : (y 1).val < 4) :
    ∃ p ∈ kernelRun0.sl.H10_4 c arg5 harg5 x0, y ∈ p.1.set := by
  unfold kernelRun0.sl.H10_4
  have hc : (y 1).val = 0 ∨ (y 1).val = 1 ∨ (y 1).val = 2 ∨ (y 1).val = 3 := by omega
  rcases hc with h | h | h | h
  · exact ⟨_, (List.mem_cons_of_mem _ (List.mem_cons_of_mem _ (List.mem_cons_of_mem _ List.mem_cons_self))), rowMem 0 _ _ _ _ (fun _ => rfl) y h⟩
  · exact ⟨_, (List.mem_cons_of_mem _ (List.mem_cons_of_mem _ List.mem_cons_self)), rowMem 1 _ _ _ _ (fun _ => rfl) y h⟩
  · exact ⟨_, (List.mem_cons_of_mem _ List.mem_cons_self), rowMem 2 _ _ _ _ (fun _ => rfl) y h⟩
  · exact ⟨_, List.mem_cons_self, rowMem 3 _ _ _ _ (fun _ => rfl) y h⟩

theorem coverS8 (c : Dev nD) (arg5 : Memref sig .tc .vmem S1x128x16x128 .bf16) (harg5 : arg5.IsWhole) (x0 : Vec F S1x128x16x128 .bf16) (y : S1x16x128.Idx) (hy : (y 1).val < 8) :
    ∃ p ∈ kernelRun0.sl.H10_8 c arg5 harg5 x0, y ∈ p.1.set := by
  unfold kernelRun0.sl.H10_8
  by_cases hlt : (y 1).val < 4
  · obtain ⟨p, hp, h⟩ := coverS4 c arg5 harg5 x0 y hlt
    exact ⟨p, List.mem_cons_of_mem _ (List.mem_cons_of_mem _ (List.mem_cons_of_mem _ (List.mem_cons_of_mem _ hp))), h⟩
  have hc : (y 1).val = 4 ∨ (y 1).val = 5 ∨ (y 1).val = 6 ∨ (y 1).val = 7 := by omega
  rcases hc with h | h | h | h
  · exact ⟨_, (List.mem_cons_of_mem _ (List.mem_cons_of_mem _ (List.mem_cons_of_mem _ List.mem_cons_self))), rowMem 4 _ _ _ _ (fun _ => rfl) y h⟩
  · exact ⟨_, (List.mem_cons_of_mem _ (List.mem_cons_of_mem _ List.mem_cons_self)), rowMem 5 _ _ _ _ (fun _ => rfl) y h⟩
  · exact ⟨_, (List.mem_cons_of_mem _ List.mem_cons_self), rowMem 6 _ _ _ _ (fun _ => rfl) y h⟩
  · exact ⟨_, List.mem_cons_self, rowMem 7 _ _ _ _ (fun _ => rfl) y h⟩

theorem coverS12 (c : Dev nD) (arg5 : Memref sig .tc .vmem S1x128x16x128 .bf16) (harg5 : arg5.IsWhole) (x0 : Vec F S1x128x16x128 .bf16) (y : S1x16x128.Idx) (hy : (y 1).val < 12) :
    ∃ p ∈ kernelRun0.sl.H10_12 c arg5 harg5 x0, y ∈ p.1.set := by
  unfold kernelRun0.sl.H10_12
  by_cases hlt : (y 1).val < 8
  · obtain ⟨p, hp, h⟩ := coverS8 c arg5 harg5 x0 y hlt
    exact ⟨p, List.mem_cons_of_mem _ (List.mem_cons_of_mem _ (List.mem_cons_of_mem _ (List.mem_cons_of_mem _ hp))), h⟩
  have hc : (y 1).val = 8 ∨ (y 1).val = 9 ∨ (y 1).val = 10 ∨ (y 1).val = 11 := by omega
  rcases hc with h | h | h | h
  · exact ⟨_, (List.mem_cons_of_mem _ (List.mem_cons_of_mem _ (List.mem_cons_of_mem _ List.mem_cons_self))), rowMem 8 _ _ _ _ (fun _ => rfl) y h⟩
  · exact ⟨_, (List.mem_cons_of_mem _ (List.mem_cons_of_mem _ List.mem_cons_self)), rowMem 9 _ _ _ _ (fun _ => rfl) y h⟩
  · exact ⟨_, (List.mem_cons_of_mem _ List.mem_cons_self), rowMem 10 _ _ _ _ (fun _ => rfl) y h⟩
  · exact ⟨_, List.mem_cons_self, rowMem 11 _ _ _ _ (fun _ => rfl) y h⟩

theorem coverS16 (c : Dev nD) (arg5 : Memref sig .tc .vmem S1x128x16x128 .bf16) (harg5 : arg5.IsWhole) (x0 : Vec F S1x128x16x128 .bf16) (y : S1x16x128.Idx) (hy : (y 1).val < 16) :
    ∃ p ∈ kernelRun0.sl.H10_16 c arg5 harg5 x0, y ∈ p.1.set := by
  unfold kernelRun0.sl.H10_16
  by_cases hlt : (y 1).val < 12
  · obtain ⟨p, hp, h⟩ := coverS12 c arg5 harg5 x0 y hlt
    exact ⟨p, List.mem_cons_of_mem _ (List.mem_cons_of_mem _ (List.mem_cons_of_mem _ (List.mem_cons_of_mem _ hp))), h⟩
  have hc : (y 1).val = 12 ∨ (y 1).val = 13 ∨ (y 1).val = 14 ∨ (y 1).val = 15 := by omega
  rcases hc with h | h | h | h
  · exact ⟨_, (List.mem_cons_of_mem _ (List.mem_cons_of_mem _ (List.mem_cons_of_mem _ List.mem_cons_self))), rowMem 12 _ _ _ _ (fun _ => rfl) y h⟩
  · exact ⟨_, (List.mem_cons_of_mem _ (List.mem_cons_of_mem _ List.mem_cons_self)), rowMem 13 _ _ _ _ (fun _ => rfl) y h⟩
  · exact ⟨_, (List.mem_cons_of_mem _ List.mem_cons_self), rowMem 14 _ _ _ _ (fun _ => rfl) y h⟩
  · exact ⟨_, List.mem_cons_self, rowMem 15 _ _ _ _ (fun _ => rfl) y h⟩

/-- The carried arrays at the end of key head `n`'s loop. -/
def unitFin (xt1 : Vec F S6x2048 .i32) (b : ℕ) (w q0 : Elt F .i32) (x0 : Vec F S1x128x16x128 .bf16) (x6 : Vec F S1x16x128 .f32)
    (xs0 : Vec F S4x2048x256 .fp8e4m3) (xs1 : Vec F S8x128x2048 .bf16) (xs2 xs3 : Vec F S8x2048x128 .f32) (n : ℕ) : Carry F :=
  runTo (nextAt xt1 b xs0 xs1 xs2 xs3 n w q0 (k0_pay104 (hCode x0 (2 * n)) (hCode x0 (2 * n + 1))) (k0_pay105 (rowOf (blockSc x0) (2 * n)) (rowOf (blockSc x0) (2 * n + 1))))
    (unitInit (rowOf x6 (2 * n)) (rowOf x6 (2 * n + 1))) 8

/-- The outputs of a block of queries. -/
def blockOut (xt1 : Vec F S6x2048 .i32) (b : ℕ) (w q0 : Elt F .i32) (x0 : Vec F S1x128x16x128 .bf16) (x5 : Vec F S1x128x16x128 .f32) (x6 : Vec F S1x16x128 .f32)
    (xs0 : Vec F S4x2048x256 .fp8e4m3) (xs1 : Vec F S8x128x2048 .bf16) (xs2 xs3 : Vec F S8x2048x128 .f32) : Vec F S1x128x16x128 .bf16 := fun y =>
  outBlk (rowOf x6 (2 * ((y 2).val / 2))) (rowOf x6 (2 * ((y 2).val / 2) + 1)) (oh x5 (2 * ((y 2).val / 2))) (oh x5 (2 * ((y 2).val / 2) + 1))
    (unitFin xt1 b w q0 x0 x6 xs0 xs1 xs2 xs3 ((y 2).val / 2)) (ix4 0 (y 1) ⟨(y 2).val % 2, Nat.mod_lt _ (by decide)⟩ (y 3))

/-- The log sums of a block of queries. -/
def blockLse (xt1 : Vec F S6x2048 .i32) (b : ℕ) (w q0 : Elt F .i32) (x0 : Vec F S1x128x16x128 .bf16) (x6 : Vec F S1x16x128 .f32)
    (xs0 : Vec F S4x2048x256 .fp8e4m3) (xs1 : Vec F S8x128x2048 .bf16) (xs2 xs3 : Vec F S8x2048x128 .f32) : Vec F S1x16x128 .f32 := fun y =>
  (if (y 1).val % 2 = 0 then lseLo else lseHi) (rowOf x6 (2 * ((y 1).val / 2))) (rowOf x6 (2 * ((y 1).val / 2) + 1))
    (unitFin xt1 b w q0 x0 x6 xs0 xs1 xs2 xs3 ((y 1).val / 2)) (ix2 0 (y 2))

theorem outPiece (G : Vec F S1x128x16x128 .bf16) (P : ℕ → Vec F S1x128x2x128 .bf16) (hG : ∀ y, G y = P ((y 2).val / 2) (ix4 0 (y 1) ⟨(y 2).val % 2, Nat.mod_lt _ (by decide)⟩ (y 3)))
    (n o : ℕ) (ho : o = 2 * n) (inb : ∀ a, (![0, 0, o, 0] : Fin 4 → ℕ) a + S1x128x2x128.size a ≤ S1x128x16x128.size a) (pay : Vec F S1x128x2x128 .bf16) (hp : pay = P n) :
    ∀ y, (⟨Rect.unit (s := S1x128x16x128) ![0, 0, o, 0] S1x128x2x128.size inb, pay⟩ : View.Piece (Elt F) S1x128x16x128 .bf16).2 y
      = G ((⟨Rect.unit (s := S1x128x16x128) ![0, 0, o, 0] S1x128x2x128.size inb, pay⟩ : View.Piece (Elt F) S1x128x16x128 .bf16).1.emb y) := fun (y : S1x128x2x128.Idx) => by
  subst ho hp
  refine Eq.trans ?_ (hG _).symm
  have h0 : (y 0).val < 1 := (y 0).isLt
  have h2 : (y 2).val < 2 := (y 2).isLt
  have e : (2 * n + 1 * (y 2).val) / 2 = n := by omega
  show P n y = P ((2 * n + 1 * (y 2).val) / 2) (ix4 0 ⟨0 + 1 * (y 1).val, _⟩ ⟨(2 * n + 1 * (y 2).val) % 2, _⟩ ⟨0 + 1 * (y 3).val, _⟩)
  rw [e]
  refine congrArg (P n) (funext fun a => Fin.ext ?_)
  match a with
  | ⟨0, _⟩ => show (y 0).val = 0; omega
  | ⟨1, _⟩ => show (y 1).val = 0 + 1 * (y 1).val; omega
  | ⟨2, _⟩ => show (y 2).val = (2 * n + 1 * (y 2).val) % 2; omega
  | ⟨3, _⟩ => show (y 3).val = 0 + 1 * (y 3).val; omega

theorem lsePiece (G : Vec F S1x16x128 .f32) (R : ℕ → Vec F S1x128 .f32) (hG : ∀ y, G y = R (y 1).val (ix2 0 (y 2))) (h : ℕ) (inb0 : ∀ a, (![0, 0, 0] : Fin 3 → ℕ) a + S1x16x128.size a ≤ S1x16x128.size a) (inb : ∀ a, (![h, 0] : Fin 2 → ℕ) a + S1x128.size a ≤ S16x128.size a) (p : (![1, 16, 128] : Fin 3 → ℕ) 0 = 1) (q : ∀ i : Fin 2, (![1, 16, 128] : Fin 3 → ℕ) i.succ = (![16, 128] : Fin 2 → ℕ) i) (w : ∀ a, (Rect.unit (s := S1x16x128) ![0, 0, 0] S1x16x128.size inb0).stride a = 1) (hR) (row : Vec F S1x128 .f32) (hr : row = R h) :
    ∀ y, (⟨rowRect h inb0 inb p q w, Rect.payAlong (r := Rect.unit (s := S16x128) ![h, 0] S1x128.size inb) hR row⟩ : View.Piece (Elt F) S1x16x128 .f32).2 y
      = G ((⟨rowRect h inb0 inb p q w, Rect.payAlong (r := Rect.unit (s := S16x128) ![h, 0] S1x128.size inb) hR row⟩ : View.Piece (Elt F) S1x16x128 .f32).1.emb y) := fun y =>
  rowPiece h inb0 inb p q w hR row G (fun l => (congrFun hr (ix2 0 l)).trans (hG (ix3 0 ⟨h, _⟩ l)).symm) y

theorem piecesO (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) :
    ∀ p ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).1, ∀ y, p.2 y = blockOut xt1 (i 0).val (kernelRun0.sl.r c i xt2) (kernelRun0.sl.r_1 c i xt0) x0 x5 x6 xs0 xs1 xs2 xs3 (p.1.emb y) := by
  unfold kernelRun0
  dsimp only
  refine List.forall_mem_cons.mpr ⟨outPiece _ (fun n => outBlk (rowOf x6 (2 * n)) (rowOf x6 (2 * n + 1)) (oh x5 (2 * n)) (oh x5 (2 * n + 1)) (unitFin xt1 (i 0).val (kernelRun0.sl.r c i xt2) (kernelRun0.sl.r_1 c i xt0) x0 x6 xs0 xs1 xs2 xs3 n)) (fun _ => rfl) 7 14 rfl _ _ ?_, List.forall_mem_cons.mpr ⟨outPiece _ (fun n => outBlk (rowOf x6 (2 * n)) (rowOf x6 (2 * n + 1)) (oh x5 (2 * n)) (oh x5 (2 * n + 1)) (unitFin xt1 (i 0).val (kernelRun0.sl.r c i xt2) (kernelRun0.sl.r_1 c i xt0) x0 x6 xs0 xs1 xs2 xs3 n)) (fun _ => rfl) 6 12 rfl _ _ ?_, List.forall_mem_cons.mpr ⟨outPiece _ (fun n => outBlk (rowOf x6 (2 * n)) (rowOf x6 (2 * n + 1)) (oh x5 (2 * n)) (oh x5 (2 * n + 1)) (unitFin xt1 (i 0).val (kernelRun0.sl.r c i xt2) (kernelRun0.sl.r_1 c i xt0) x0 x6 xs0 xs1 xs2 xs3 n)) (fun _ => rfl) 5 10 rfl _ _ ?_, List.forall_mem_cons.mpr ⟨outPiece _ (fun n => outBlk (rowOf x6 (2 * n)) (rowOf x6 (2 * n + 1)) (oh x5 (2 * n)) (oh x5 (2 * n + 1)) (unitFin xt1 (i 0).val (kernelRun0.sl.r c i xt2) (kernelRun0.sl.r_1 c i xt0) x0 x6 xs0 xs1 xs2 xs3 n)) (fun _ => rfl) 4 8 rfl _ _ ?_, List.forall_mem_cons.mpr ⟨outPiece _ (fun n => outBlk (rowOf x6 (2 * n)) (rowOf x6 (2 * n + 1)) (oh x5 (2 * n)) (oh x5 (2 * n + 1)) (unitFin xt1 (i 0).val (kernelRun0.sl.r c i xt2) (kernelRun0.sl.r_1 c i xt0) x0 x6 xs0 xs1 xs2 xs3 n)) (fun _ => rfl) 3 6 rfl _ _ ?_, List.forall_mem_cons.mpr ⟨outPiece _ (fun n => outBlk (rowOf x6 (2 * n)) (rowOf x6 (2 * n + 1)) (oh x5 (2 * n)) (oh x5 (2 * n + 1)) (unitFin xt1 (i 0).val (kernelRun0.sl.r c i xt2) (kernelRun0.sl.r_1 c i xt0) x0 x6 xs0 xs1 xs2 xs3 n)) (fun _ => rfl) 2 4 rfl _ _ ?_, List.forall_mem_cons.mpr ⟨outPiece _ (fun n => outBlk (rowOf x6 (2 * n)) (rowOf x6 (2 * n + 1)) (oh x5 (2 * n)) (oh x5 (2 * n + 1)) (unitFin xt1 (i 0).val (kernelRun0.sl.r c i xt2) (kernelRun0.sl.r_1 c i xt0) x0 x6 xs0 xs1 xs2 xs3 n)) (fun _ => rfl) 1 2 rfl _ _ ?_, List.forall_mem_cons.mpr ⟨outPiece _ (fun n => outBlk (rowOf x6 (2 * n)) (rowOf x6 (2 * n + 1)) (oh x5 (2 * n)) (oh x5 (2 * n + 1)) (unitFin xt1 (i 0).val (kernelRun0.sl.r c i xt2) (kernelRun0.sl.r_1 c i xt0) x0 x6 xs0 xs1 xs2 xs3 n)) (fun _ => rfl) 0 0 rfl _ _ ?_, fun p hp => absurd hp List.not_mem_nil⟩⟩⟩⟩⟩⟩⟩⟩
  · exact (out_same _ _ _ _ _).2.2.2.2.2.2.2.trans (outBlk_congr (readL_eq arg11 harg11 x6 14 _ _ _ _ _ _) (readL_eq arg11 harg11 x6 15 _ _ _ _ _ _) (readO_eq arg10 harg10 x5 14 _ _ _ _ _ _ _ (by decide)) (readO_eq arg10 harg10 x5 15 _ _ _ _ _ _ _ (by decide)) (loop_eq (T := k0_t9_loop.trips) rfl c arg16 harg16 arg17 harg17 arg18 harg18 arg19 harg19 xt1 xs0 xs1 xs2 xs3 7 (i 0).val _ _ _ _ _ _ _ _ (at7_pos i) at7_keys at7_rows at7_vals _ _
      ((qt_same _ _).2.2.2.2.2.2.2.trans (congrArg₂ k0_pay104 ((congrArg (fun v => k0_pay228 v) (readQ_eq arg5 harg5 x0 14 _ _ _ _ _ _)).trans (code_same (qh x0 14)).2.2.2.2.2.2.2.2.2.2.2.2.2.2.1) ((congrArg (fun v => k0_pay233 (k0_pay229 v) (k0_pay230 v) (k0_pay231 v)) (readQ_eq arg5 harg5 x0 15 _ _ _ _ _ _)).trans (code_same (qh x0 15)).2.2.2.2.2.2.2.2.2.2.2.2.2.2.2)))
      ((qs_same _ _).2.2.2.2.2.2.2.trans (congrArg₂ k0_pay105 (readS_eq arg15 _ (blockSc x0) (piecesS16 c arg5 harg5 x0) 14 _ _ _ _ _ _ (fun y hy => coverS16 c arg5 harg5 x0 y (by omega))) (readS_eq arg15 _ (blockSc x0) (piecesS16 c arg5 harg5 x0) 15 _ _ _ _ _ _ (fun y hy => coverS16 c arg5 harg5 x0 y (by omega)))))
      ((init_same _ _).2.2.2.2.2.2.2.trans (congrArg₂ unitInit (readL_eq arg11 harg11 x6 14 _ _ _ _ _ _) (readL_eq arg11 harg11 x6 15 _ _ _ _ _ _)))))
  · exact (out_same _ _ _ _ _).2.2.2.2.2.2.1.trans (outBlk_congr (readL_eq arg11 harg11 x6 12 _ _ _ _ _ _) (readL_eq arg11 harg11 x6 13 _ _ _ _ _ _) (readO_eq arg10 harg10 x5 12 _ _ _ _ _ _ _ (by decide)) (readO_eq arg10 harg10 x5 13 _ _ _ _ _ _ _ (by decide)) (loop_eq (T := k0_t8_loop.trips) rfl c arg16 harg16 arg17 harg17 arg18 harg18 arg19 harg19 xt1 xs0 xs1 xs2 xs3 6 (i 0).val _ _ _ _ _ _ _ _ (at6_pos i) at6_keys at6_rows at6_vals _ _
      ((qt_same _ _).2.2.2.2.2.2.1.trans (congrArg₂ k0_pay104 ((congrArg (fun v => k0_pay222 (k0_pay220 v) (k0_pay221 v)) (readQ_eq arg5 harg5 x0 12 _ _ _ _ _ _)).trans (code_same (qh x0 12)).2.2.2.2.2.2.2.2.2.2.2.2.1) ((congrArg (fun v => k0_pay225 v) (readQ_eq arg5 harg5 x0 13 _ _ _ _ _ _)).trans (code_same (qh x0 13)).2.2.2.2.2.2.2.2.2.2.2.2.2.1)))
      ((qs_same _ _).2.2.2.2.2.2.1.trans (congrArg₂ k0_pay105 (readS_eq arg15 _ (blockSc x0) (piecesS16 c arg5 harg5 x0) 12 _ _ _ _ _ _ (fun y hy => coverS16 c arg5 harg5 x0 y (by omega))) (readS_eq arg15 _ (blockSc x0) (piecesS16 c arg5 harg5 x0) 13 _ _ _ _ _ _ (fun y hy => coverS16 c arg5 harg5 x0 y (by omega)))))
      ((init_same _ _).2.2.2.2.2.2.1.trans (congrArg₂ unitInit (readL_eq arg11 harg11 x6 12 _ _ _ _ _ _) (readL_eq arg11 harg11 x6 13 _ _ _ _ _ _)))))
  · exact (out_same _ _ _ _ _).2.2.2.2.2.1.trans (outBlk_congr (readL_eq arg11 harg11 x6 10 _ _ _ _ _ _) (readL_eq arg11 harg11 x6 11 _ _ _ _ _ _) (readO_eq arg10 harg10 x5 10 _ _ _ _ _ _ _ (by decide)) (readO_eq arg10 harg10 x5 11 _ _ _ _ _ _ _ (by decide)) (loop_eq (T := k0_t7_loop.trips) rfl c arg16 harg16 arg17 harg17 arg18 harg18 arg19 harg19 xt1 xs0 xs1 xs2 xs3 5 (i 0).val _ _ _ _ _ _ _ _ (at5_pos i) at5_keys at5_rows at5_vals _ _
      ((qt_same _ _).2.2.2.2.2.1.trans (congrArg₂ k0_pay104 ((congrArg (fun v => k0_pay184 (k0_pay182 v) (k0_pay183 v)) (readQ_eq arg5 harg5 x0 10 _ _ _ _ _ _)).trans (code_same (qh x0 10)).2.2.2.2.2.2.2.2.2.2.1) ((congrArg (fun v => k0_pay188 (k0_pay187 v)) (readQ_eq arg5 harg5 x0 11 _ _ _ _ _ _)).trans (code_same (qh x0 11)).2.2.2.2.2.2.2.2.2.2.2.1)))
      ((qs_same _ _).2.2.2.2.2.1.trans (congrArg₂ k0_pay105 (readS_eq arg15 _ (blockSc x0) (piecesS12 c arg5 harg5 x0) 10 _ _ _ _ _ _ (fun y hy => coverS12 c arg5 harg5 x0 y (by omega))) (readS_eq arg15 _ (blockSc x0) (piecesS12 c arg5 harg5 x0) 11 _ _ _ _ _ _ (fun y hy => coverS12 c arg5 harg5 x0 y (by omega)))))
      ((init_same _ _).2.2.2.2.2.1.trans (congrArg₂ unitInit (readL_eq arg11 harg11 x6 10 _ _ _ _ _ _) (readL_eq arg11 harg11 x6 11 _ _ _ _ _ _)))))
  · exact (out_same _ _ _ _ _).2.2.2.2.1.trans (outBlk_congr (readL_eq arg11 harg11 x6 8 _ _ _ _ _ _) (readL_eq arg11 harg11 x6 9 _ _ _ _ _ _) (readO_eq arg10 harg10 x5 8 _ _ _ _ _ _ _ (by decide)) (readO_eq arg10 harg10 x5 9 _ _ _ _ _ _ _ (by decide)) (loop_eq (T := k0_t6_loop.trips) rfl c arg16 harg16 arg17 harg17 arg18 harg18 arg19 harg19 xt1 xs0 xs1 xs2 xs3 4 (i 0).val _ _ _ _ _ _ _ _ (at4_pos i) at4_keys at4_rows at4_vals _ _
      ((qt_same _ _).2.2.2.2.1.trans (congrArg₂ k0_pay104 ((congrArg (fun v => k0_pay177 v) (readQ_eq arg5 harg5 x0 8 _ _ _ _ _ _)).trans (code_same (qh x0 8)).2.2.2.2.2.2.2.2.1) ((congrArg (fun v => k0_pay181 (k0_pay178 v)) (readQ_eq arg5 harg5 x0 9 _ _ _ _ _ _)).trans (code_same (qh x0 9)).2.2.2.2.2.2.2.2.2.1)))
      ((qs_same _ _).2.2.2.2.1.trans (congrArg₂ k0_pay105 (readS_eq arg15 _ (blockSc x0) (piecesS12 c arg5 harg5 x0) 8 _ _ _ _ _ _ (fun y hy => coverS12 c arg5 harg5 x0 y (by omega))) (readS_eq arg15 _ (blockSc x0) (piecesS12 c arg5 harg5 x0) 9 _ _ _ _ _ _ (fun y hy => coverS12 c arg5 harg5 x0 y (by omega)))))
      ((init_same _ _).2.2.2.2.1.trans (congrArg₂ unitInit (readL_eq arg11 harg11 x6 8 _ _ _ _ _ _) (readL_eq arg11 harg11 x6 9 _ _ _ _ _ _)))))
  · exact (out_same _ _ _ _ _).2.2.2.1.trans (outBlk_congr (readL_eq arg11 harg11 x6 6 _ _ _ _ _ _) (readL_eq arg11 harg11 x6 7 _ _ _ _ _ _) (readO_eq arg10 harg10 x5 6 _ _ _ _ _ _ _ (by decide)) (readO_eq arg10 harg10 x5 7 _ _ _ _ _ _ _ (by decide)) (loop_eq (T := k0_t5_loop.trips) rfl c arg16 harg16 arg17 harg17 arg18 harg18 arg19 harg19 xt1 xs0 xs1 xs2 xs3 3 (i 0).val _ _ _ _ _ _ _ _ (at3_pos i) at3_keys at3_rows at3_vals _ _
      ((qt_same _ _).2.2.2.1.trans (congrArg₂ k0_pay104 ((congrArg (fun v => k0_pay139 v) (readQ_eq arg5 harg5 x0 6 _ _ _ _ _ _)).trans (code_same (qh x0 6)).2.2.2.2.2.2.1) ((congrArg (fun v => k0_pay142 v) (readQ_eq arg5 harg5 x0 7 _ _ _ _ _ _)).trans (code_same (qh x0 7)).2.2.2.2.2.2.2.1)))
      ((qs_same _ _).2.2.2.1.trans (congrArg₂ k0_pay105 (readS_eq arg15 _ (blockSc x0) (piecesS8 c arg5 harg5 x0) 6 _ _ _ _ _ _ (fun y hy => coverS8 c arg5 harg5 x0 y (by omega))) (readS_eq arg15 _ (blockSc x0) (piecesS8 c arg5 harg5 x0) 7 _ _ _ _ _ _ (fun y hy => coverS8 c arg5 harg5 x0 y (by omega)))))
      ((init_same _ _).2.2.2.1.trans (congrArg₂ unitInit (readL_eq arg11 harg11 x6 6 _ _ _ _ _ _) (readL_eq arg11 harg11 x6 7 _ _ _ _ _ _)))))
  · exact (out_same _ _ _ _ _).2.2.1.trans (outBlk_congr (readL_eq arg11 harg11 x6 4 _ _ _ _ _ _) (readL_eq arg11 harg11 x6 5 _ _ _ _ _ _) (readO_eq arg10 harg10 x5 4 _ _ _ _ _ _ _ (by decide)) (readO_eq arg10 harg10 x5 5 _ _ _ _ _ _ _ (by decide)) (loop_eq (T := k0_t4_loop.trips) rfl c arg16 harg16 arg17 harg17 arg18 harg18 arg19 harg19 xt1 xs0 xs1 xs2 xs3 2 (i 0).val _ _ _ _ _ _ _ _ (at2_pos i) at2_keys at2_rows at2_vals _ _
      ((qt_same _ _).2.2.1.trans (congrArg₂ k0_pay104 ((congrArg (fun v => k0_pay133 (k0_pay130 v) (k0_pay131 v) (FloatOps.ofBits .f32 0x00000000#32)) (readQ_eq arg5 harg5 x0 4 _ _ _ _ _ _)).trans (code_same (qh x0 4)).2.2.2.2.1) ((congrArg (fun v => k0_pay136 (k0_pay134 v) (k0_pay135 v)) (readQ_eq arg5 harg5 x0 5 _ _ _ _ _ _)).trans (code_same (qh x0 5)).2.2.2.2.2.1)))
      ((qs_same _ _).2.2.1.trans (congrArg₂ k0_pay105 (readS_eq arg15 _ (blockSc x0) (piecesS8 c arg5 harg5 x0) 4 _ _ _ _ _ _ (fun y hy => coverS8 c arg5 harg5 x0 y (by omega))) (readS_eq arg15 _ (blockSc x0) (piecesS8 c arg5 harg5 x0) 5 _ _ _ _ _ _ (fun y hy => coverS8 c arg5 harg5 x0 y (by omega)))))
      ((init_same _ _).2.2.1.trans (congrArg₂ unitInit (readL_eq arg11 harg11 x6 4 _ _ _ _ _ _) (readL_eq arg11 harg11 x6 5 _ _ _ _ _ _)))))
  · exact (out_same _ _ _ _ _).2.1.trans (outBlk_congr (readL_eq arg11 harg11 x6 2 _ _ _ _ _ _) (readL_eq arg11 harg11 x6 3 _ _ _ _ _ _) (readO_eq arg10 harg10 x5 2 _ _ _ _ _ _ _ (by decide)) (readO_eq arg10 harg10 x5 3 _ _ _ _ _ _ _ (by decide)) (loop_eq (T := k0_t3_loop.trips) rfl c arg16 harg16 arg17 harg17 arg18 harg18 arg19 harg19 xt1 xs0 xs1 xs2 xs3 1 (i 0).val _ _ _ _ _ _ _ _ (at1_pos i) at1_keys at1_rows at1_vals _ _
      ((qt_same _ _).2.1.trans (congrArg₂ k0_pay104 ((congrArg (fun v => k0_pay99 (k0_pay97 v)) (readQ_eq arg5 harg5 x0 2 _ _ _ _ _ _)).trans (code_same (qh x0 2)).2.2.1) ((congrArg (fun v => k0_pay102 (k0_pay100 v) (k0_pay101 v)) (readQ_eq arg5 harg5 x0 3 _ _ _ _ _ _)).trans (code_same (qh x0 3)).2.2.2.1)))
      ((qs_same _ _).2.1.trans (congrArg₂ k0_pay105 (readS_eq arg15 _ (blockSc x0) (piecesS4 c arg5 harg5 x0) 2 _ _ _ _ _ _ (fun y hy => coverS4 c arg5 harg5 x0 y (by omega))) (readS_eq arg15 _ (blockSc x0) (piecesS4 c arg5 harg5 x0) 3 _ _ _ _ _ _ (fun y hy => coverS4 c arg5 harg5 x0 y (by omega)))))
      ((init_same _ _).2.1.trans (congrArg₂ unitInit (readL_eq arg11 harg11 x6 2 _ _ _ _ _ _) (readL_eq arg11 harg11 x6 3 _ _ _ _ _ _)))))
  · exact (out_same _ _ _ _ _).1.trans (outBlk_congr (readL_eq arg11 harg11 x6 0 _ _ _ _ _ _) (readL_eq arg11 harg11 x6 1 _ _ _ _ _ _) (readO_eq arg10 harg10 x5 0 _ _ _ _ _ _ _ (by decide)) (readO_eq arg10 harg10 x5 1 _ _ _ _ _ _ _ (by decide)) (loop_eq (T := k0_t2_loop.trips) rfl c arg16 harg16 arg17 harg17 arg18 harg18 arg19 harg19 xt1 xs0 xs1 xs2 xs3 0 (i 0).val _ _ _ _ _ _ _ _ (at0_pos i) at0_keys at0_rows at0_vals _ _
      ((qt_same _ _).1.trans (congrArg₂ k0_pay104 ((congrArg (fun v => k0_pay93 (FloatOps.ofBits .f32 0x43E00000#32) (k0_pay92 v)) (readQ_eq arg5 harg5 x0 0 _ _ _ _ _ _)).trans (code_same (qh x0 0)).1) ((congrArg (fun v => k0_pay96 v) (readQ_eq arg5 harg5 x0 1 _ _ _ _ _ _)).trans (code_same (qh x0 1)).2.1)))
      ((qs_same _ _).1.trans (congrArg₂ k0_pay105 (readS_eq arg15 _ (blockSc x0) (piecesS4 c arg5 harg5 x0) 0 _ _ _ _ _ _ (fun y hy => coverS4 c arg5 harg5 x0 y (by omega))) (readS_eq arg15 _ (blockSc x0) (piecesS4 c arg5 harg5 x0) 1 _ _ _ _ _ _ (fun y hy => coverS4 c arg5 harg5 x0 y (by omega)))))
      ((init_same _ _).1.trans (congrArg₂ unitInit (readL_eq arg11 harg11 x6 0 _ _ _ _ _ _) (readL_eq arg11 harg11 x6 1 _ _ _ _ _ _)))))

theorem piecesL (c : Dev nD) (i : grid0.Coords) (arg5 : Memref sig .tc .vmem S1x128x16x128 .bf16) (harg5 : arg5.IsWhole) (arg6 : Memref sig .tc .vmem S1x2048x8x128 .fp8e4m3) (harg6 : arg6.IsWhole) (arg7 : Memref sig .tc .vmem S1x2048x8x128 .fp8e4m3) (harg7 : arg7.IsWhole) (arg8 : Memref sig .tc .vmem S1x8x2048 .f32) (harg8 : arg8.IsWhole) (arg9 : Memref sig .tc .vmem S1x8x2048 .f32) (harg9 : arg9.IsWhole) (arg10 : Memref sig .tc .vmem S1x128x16x128 .f32) (harg10 : arg10.IsWhole) (arg11 : Memref sig .tc .vmem S1x16x128 .f32) (harg11 : arg11.IsWhole) (arg12 : Memref sig .tc .vmem S1x128x16x128 .bf16) (harg12 : arg12.IsWhole) (arg13 : Memref sig .tc .vmem S1x16x128 .f32) (harg13 : arg13.IsWhole) (arg14 : Memref sig .tc .vmem S1x128x16x128 .fp8e4m3) (harg14 : arg14.IsWhole) (arg15 : Memref sig .tc .vmem S1x16x128 .f32) (harg15 : arg15.IsWhole) (arg16 : Memref sig .tc .vmem S4x2048x256 .fp8e4m3) (harg16 : arg16.IsWhole) (arg17 : Memref sig .tc .vmem S8x128x2048 .bf16) (harg17 : arg17.IsWhole) (arg18 : Memref sig .tc .vmem S8x2048x128 .f32) (harg18 : arg18.IsWhole) (arg19 : Memref sig .tc .vmem S8x2048x128 .f32) (harg19 : arg19.IsWhole)
    (x0 : Vec F S1x128x16x128 .bf16) (x1 : Vec F S1x2048x8x128 .fp8e4m3) (x2 : Vec F S1x2048x8x128 .fp8e4m3) (x3 : Vec F S1x8x2048 .f32) (x4 : Vec F S1x8x2048 .f32) (x5 : Vec F S1x128x16x128 .f32) (x6 : Vec F S1x16x128 .f32) (xt0 : TbBuf0 (F := F) c tbM0_0) (xt1 : TbBuf0 (F := F) c tbM0_1) (xt2 : TbBuf0 (F := F) c tbM0_2) (xs0 : Vec F S4x2048x256 .fp8e4m3) (xs1 : Vec F S8x128x2048 .bf16) (xs2 : Vec F S8x2048x128 .f32) (xs3 : Vec F S8x2048x128 .f32) :
    ∀ p ∈ (kernelRun0 c i arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 xt0 xt1 xt2 xs0 xs1 xs2 xs3).2.1, ∀ y, p.2 y = blockLse xt1 (i 0).val (kernelRun0.sl.r c i xt2) (kernelRun0.sl.r_1 c i xt0) x0 x6 xs0 xs1 xs2 xs3 (p.1.emb y) := by
  unfold kernelRun0
  dsimp only
  refine List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 15 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 14 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 13 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 12 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 11 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 10 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 9 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 8 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 7 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 6 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 5 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 4 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 3 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 2 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 1 _ _ _ _ _ _ _ ?_, List.forall_mem_cons.mpr ⟨lsePiece _ (fun h => (if h % 2 = 0 then lseLo else lseHi) (rowOf x6 (2 * (h / 2))) (rowOf x6 (2 * (h / 2) + 1)) (unitFin xt1 (i 0).val (kernelRun0.sl.r c i xt2) (kernelRun0.sl.r_1 c i xt0) x0 x6 xs0 xs1 xs2 xs3 (h / 2))) (fun _ => rfl) 0 _ _ _ _ _ _ _ ?_, fun p hp => absurd hp List.not_mem_nil⟩⟩⟩⟩⟩⟩⟩⟩⟩⟩⟩⟩⟩⟩⟩⟩
  · exact (hi_same _ _ _).2.2.2.2.2.2.2.trans (lse_congr lseHi (readL_eq arg11 harg11 x6 14 _ _ _ _ _ _) (readL_eq arg11 harg11 x6 15 _ _ _ _ _ _) (loop_eq (T := k0_t9_loop.trips) rfl c arg16 harg16 arg17 harg17 arg18 harg18 arg19 harg19 xt1 xs0 xs1 xs2 xs3 7 (i 0).val _ _ _ _ _ _ _ _ (at7_pos i) at7_keys at7_rows at7_vals _ _
      ((qt_same _ _).2.2.2.2.2.2.2.trans (congrArg₂ k0_pay104 ((congrArg (fun v => k0_pay228 v) (readQ_eq arg5 harg5 x0 14 _ _ _ _ _ _)).trans (code_same (qh x0 14)).2.2.2.2.2.2.2.2.2.2.2.2.2.2.1) ((congrArg (fun v => k0_pay233 (k0_pay229 v) (k0_pay230 v) (k0_pay231 v)) (readQ_eq arg5 harg5 x0 15 _ _ _ _ _ _)).trans (code_same (qh x0 15)).2.2.2.2.2.2.2.2.2.2.2.2.2.2.2)))
      ((qs_same _ _).2.2.2.2.2.2.2.trans (congrArg₂ k0_pay105 (readS_eq arg15 _ (blockSc x0) (piecesS16 c arg5 harg5 x0) 14 _ _ _ _ _ _ (fun y hy => coverS16 c arg5 harg5 x0 y (by omega))) (readS_eq arg15 _ (blockSc x0) (piecesS16 c arg5 harg5 x0) 15 _ _ _ _ _ _ (fun y hy => coverS16 c arg5 harg5 x0 y (by omega)))))
      ((init_same _ _).2.2.2.2.2.2.2.trans (congrArg₂ unitInit (readL_eq arg11 harg11 x6 14 _ _ _ _ _ _) (readL_eq arg11 harg11 x6 15 _ _ _ _ _ _)))))
  · exact (lo_same _ _ _).2.2.2.2.2.2.2.trans (lse_congr lseLo (readL_eq arg11 harg11 x6 14 _ _ _ _ _ _) (readL_eq arg11 harg11 x6 15 _ _ _ _ _ _) (loop_eq (T := k0_t9_loop.trips) rfl c arg16 harg16 arg17 harg17 arg18 harg18 arg19 harg19 xt1 xs0 xs1 xs2 xs3 7 (i 0).val _ _ _ _ _ _ _ _ (at7_pos i) at7_keys at7_rows at7_vals _ _
      ((qt_same _ _).2.2.2.2.2.2.2.trans (congrArg₂ k0_pay104 ((congrArg (fun v => k0_pay228 v) (readQ_eq arg5 harg5 x0 14 _ _ _ _ _ _)).trans (code_same (qh x0 14)).2.2.2.2.2.2.2.2.2.2.2.2.2.2.1) ((congrArg (fun v => k0_pay233 (k0_pay229 v) (k0_pay230 v) (k0_pay231 v)) (readQ_eq arg5 harg5 x0 15 _ _ _ _ _ _)).trans (code_same (qh x0 15)).2.2.2.2.2.2.2.2.2.2.2.2.2.2.2)))
      ((qs_same _ _).2.2.2.2.2.2.2.trans (congrArg₂ k0_pay105 (readS_eq arg15 _ (blockSc x0) (piecesS16 c arg5 harg5 x0) 14 _ _ _ _ _ _ (fun y hy => coverS16 c arg5 harg5 x0 y (by omega))) (readS_eq arg15 _ (blockSc x0) (piecesS16 c arg5 harg5 x0) 15 _ _ _ _ _ _ (fun y hy => coverS16 c arg5 harg5 x0 y (by omega)))))
      ((init_same _ _).2.2.2.2.2.2.2.trans (congrArg₂ unitInit (readL_eq arg11 harg11 x6 14 _ _ _ _ _ _) (readL_eq arg11 harg11 x6 15 _ _ _ _ _ _)))))
  · exact (hi_same _ _ _).2.2.2.2.2.2.1.trans (lse_congr lseHi (readL_eq arg11 harg11 x6 12 _ _ _ _ _ _) (readL_eq arg11 harg11 x6 13 _ _ _ _ _ _) (loop_eq (T := k0_t8_loop.trips) rfl c arg16 harg16 arg17 harg17 arg18 harg18 arg19 harg19 xt1 xs0 xs1 xs2 xs3 6 (i 0).val _ _ _ _ _ _ _ _ (at6_pos i) at6_keys at6_rows at6_vals _ _
      ((qt_same _ _).2.2.2.2.2.2.1.trans (congrArg₂ k0_pay104 ((congrArg (fun v => k0_pay222 (k0_pay220 v) (k0_pay221 v)) (readQ_eq arg5 harg5 x0 12 _ _ _ _ _ _)).trans (code_same (qh x0 12)).2.2.2.2.2.2.2.2.2.2.2.2.1) ((congrArg (fun v => k0_pay225 v) (readQ_eq arg5 harg5 x0 13 _ _ _ _ _ _)).trans (code_same (qh x0 13)).2.2.2.2.2.2.2.2.2.2.2.2.2.1)))
      ((qs_same _ _).2.2.2.2.2.2.1.trans (congrArg₂ k0_pay105 (readS_eq arg15 _ (blockSc x0) (piecesS16 c arg5 harg5 x0) 12 _ _ _ _ _ _ (fun y hy => coverS16 c arg5 harg5 x0 y (by omega))) (readS_eq arg15 _ (blockSc x0) (piecesS16 c arg5 harg5 x0) 13 _ _ _ _ _ _ (fun y hy => coverS16 c arg5 harg5 x0 y (by omega)))))
      ((init_same _ _).2.2.2.2.2.2.1.trans (congrArg₂ unitInit (readL_eq arg11 harg11 x6 12 _ _ _ _ _ _) (readL_eq arg11 harg11 x6 13 _ _ _ _ _ _)))))
  · exact (lo_same _ _ _).2.2.2.2.2.2.1.trans (lse_congr lseLo (readL_eq arg11 harg11 x6 12 _ _ _ _ _ _) (readL_eq arg11 harg11 x6 13 _ _ _ _ _ _) (loop_eq (T := k0_t8_loop.trips) rfl c arg16 harg16 arg17 harg17 arg18 harg18 arg19 harg19 xt1 xs0 xs1 xs2 xs3 6 (i 0).val _ _ _ _ _ _ _ _ (at6_pos i) at6_keys at6_rows at6_vals _ _
      ((qt_same _ _).2.2.2.2.2.2.1.trans (congrArg₂ k0_pay104 ((congrArg (fun v => k0_pay222 (k0_pay220 v) (k0_pay221 v)) (readQ_eq arg5 harg5 x0 12 _ _ _ _ _ _)).trans (code_same (qh x0 12)).2.2.2.2.2.2.2.2.2.2.2.2.1) ((congrArg (fun v => k0_pay225 v) (readQ_eq arg5 harg5 x0 13 _ _ _ _ _ _)).trans (code_same (qh x0 13)).2.2.2.2.2.2.2.2.2.2.2.2.2.1)))
      ((qs_same _ _).2.2.2.2.2.2.1.trans (congrArg₂ k0_pay105 (readS_eq arg15 _ (blockSc x0) (piecesS16 c arg5 harg5 x0) 12 _ _ _ _ _ _ (fun y hy => coverS16 c arg5 harg5 x0 y (by omega))) (readS_eq arg15 _ (blockSc x0) (piecesS16 c arg5 harg5 x0) 13 _ _ _ _ _ _ (fun y hy => coverS16 c arg5 harg5 x0 y (by omega)))))
      ((init_same _ _).2.2.2.2.2.2.1.trans (congrArg₂ unitInit (readL_eq arg11 harg11 x6 12 _ _ _ _ _ _) (readL_eq arg11 harg11 x6 13 _ _ _ _ _ _)))))
  · exact (hi_same _ _ _).2.2.2.2.2.1.trans (lse_congr lseHi (readL_eq arg11 harg11 x6 10 _ _ _ _ _ _) (readL_eq arg11 harg11 x6 11 _ _ _ _ _ _) (loop_eq (T := k0_t7_loop.trips) rfl c arg16 harg16 arg17 harg17 arg18 harg18 arg19 harg19 xt1 xs0 xs1 xs2 xs3 5 (i 0).val _ _ _ _ _ _ _ _ (at5_pos i) at5_keys at5_rows at5_vals _ _
      ((qt_same _ _).2.2.2.2.2.1.trans (congrArg₂ k0_pay104 ((congrArg (fun v => k0_pay184 (k0_pay182 v) (k0_pay183 v)) (readQ_eq arg5 harg5 x0 10 _ _ _ _ _ _)).trans (code_same (qh x0 10)).2.2.2.2.2.2.2.2.2.2.1) ((congrArg (fun v => k0_pay188 (k0_pay187 v)) (readQ_eq arg5 harg5 x0 11 _ _ _ _ _ _)).trans (code_same (qh x0 11)).2.2.2.2.2.2.2.2.2.2.2.1)))
      ((qs_same _ _).2.2.2.2.2.1.trans (congrArg₂ k0_pay105 (readS_eq arg15 _ (blockSc x0) (piecesS12 c arg5 harg5 x0) 10 _ _ _ _ _ _ (fun y hy => coverS12 c arg5 harg5 x0 y (by omega))) (readS_eq arg15 _ (blockSc x0) (piecesS12 c arg5 harg5 x0) 11 _ _ _ _ _ _ (fun y hy => coverS12 c arg5 harg5 x0 y (by omega)))))
      ((init_same _ _).2.2.2.2.2.1.trans (congrArg₂ unitInit (readL_eq arg11 harg11 x6 10 _ _ _ _ _ _) (readL_eq arg11 harg11 x6 11 _ _ _ _ _ _)))))
  · exact (lo_same _ _ _).2.2.2.2.2.1.trans (lse_congr lseLo (readL_eq arg11 harg11 x6 10 _ _ _ _ _ _) (readL_eq arg11 harg11 x6 11 _ _ _ _ _ _) (loop_eq (T := k0_t7_loop.trips) rfl c arg16 harg16 arg17 harg17 arg18 harg18 arg19 harg19 xt1 xs0 xs1 xs2 xs3 5 (i 0).val _ _ _ _ _ _ _ _ (at5_pos i) at5_keys at5_rows at5_vals _ _
      ((qt_same _ _).2.2.2.2.2.1.trans (congrArg₂ k0_pay104 ((congrArg (fun v => k0_pay184 (k0_pay182 v) (k0_pay183 v)) (readQ_eq arg5 harg5 x0 10 _ _ _ _ _ _)).trans (code_same (qh x0 10)).2.2.2.2.2.2.2.2.2.2.1) ((congrArg (fun v => k0_pay188 (k0_pay187 v)) (readQ_eq arg5 harg5 x0 11 _ _ _ _ _ _)).trans (code_same (qh x0 11)).2.2.2.2.2.2.2.2.2.2.2.1)))
      ((qs_same _ _).2.2.2.2.2.1.trans (congrArg₂ k0_pay105 (readS_eq arg15 _ (blockSc x0) (piecesS12 c arg5 harg5 x0) 10 _ _ _ _ _ _ (fun y hy => coverS12 c arg5 harg5 x0 y (by omega))) (readS_eq arg15 _ (blockSc x0) (piecesS12 c arg5 harg5 x0) 11 _ _ _ _ _ _ (fun y hy => coverS12 c arg5 harg5 x0 y (by omega)))))
      ((init_same _ _).2.2.2.2.2.1.trans (congrArg₂ unitInit (readL_eq arg11 harg11 x6 10 _ _ _ _ _ _) (readL_eq arg11 harg11 x6 11 _ _ _ _ _ _)))))
  · exact (hi_same _ _ _).2.2.2.2.1.trans (lse_congr lseHi (readL_eq arg11 harg11 x6 8 _ _ _ _ _ _) (readL_eq arg11 harg11 x6 9 _ _ _ _ _ _) (loop_eq (T := k0_t6_loop.trips) rfl c arg16 harg16 arg17 harg17 arg18 harg18 arg19 harg19 xt1 xs0 xs1 xs2 xs3 4 (i 0).val _ _ _ _ _ _ _ _ (at4_pos i) at4_keys at4_rows at4_vals _ _
      ((qt_same _ _).2.2.2.2.1.trans (congrArg₂ k0_pay104 ((congrArg (fun v => k0_pay177 v) (readQ_eq arg5 harg5 x0 8 _ _ _ _ _ _)).trans (code_same (qh x0 8)).2.2.2.2.2.2.2.2.1) ((congrArg (fun v => k0_pay181 (k0_pay178 v)) (readQ_eq arg5 harg5 x0 9 _ _ _ _ _ _)).trans (code_same (qh x0 9)).2.2.2.2.2.2.2.2.2.1)))
      ((qs_same _ _).2.2.2.2.1.trans (congrArg₂ k0_pay105 (readS_eq arg15 _ (blockSc x0) (piecesS12 c arg5 harg5 x0) 8 _ _ _ _ _ _ (fun y hy => coverS12 c arg5 harg5 x0 y (by omega))) (readS_eq arg15 _ (blockSc x0) (piecesS12 c arg5 harg5 x0) 9 _ _ _ _ _ _ (fun y hy => coverS12 c arg5 harg5 x0 y (by omega)))))
      ((init_same _ _).2.2.2.2.1.trans (congrArg₂ unitInit (readL_eq arg11 harg11 x6 8 _ _ _ _ _ _) (readL_eq arg11 harg11 x6 9 _ _ _ _ _ _)))))
  · exact (lo_same _ _ _).2.2.2.2.1.trans (lse_congr lseLo (readL_eq arg11 harg11 x6 8 _ _ _ _ _ _) (readL_eq arg11 harg11 x6 9 _ _ _ _ _ _) (loop_eq (T := k0_t6_loop.trips) rfl c arg16 harg16 arg17 harg17 arg18 harg18 arg19 harg19 xt1 xs0 xs1 xs2 xs3 4 (i 0).val _ _ _ _ _ _ _ _ (at4_pos i) at4_keys at4_rows at4_vals _ _
      ((qt_same _ _).2.2.2.2.1.trans (congrArg₂ k0_pay104 ((congrArg (fun v => k0_pay177 v) (readQ_eq arg5 harg5 x0 8 _ _ _ _ _ _)).trans (code_same (qh x0 8)).2.2.2.2.2.2.2.2.1) ((congrArg (fun v => k0_pay181 (k0_pay178 v)) (readQ_eq arg5 harg5 x0 9 _ _ _ _ _ _)).trans (code_same (qh x0 9)).2.2.2.2.2.2.2.2.2.1)))
      ((qs_same _ _).2.2.2.2.1.trans (congrArg₂ k0_pay105 (readS_eq arg15 _ (blockSc x0) (piecesS12 c arg5 harg5 x0) 8 _ _ _ _ _ _ (fun y hy => coverS12 c arg5 harg5 x0 y (by omega))) (readS_eq arg15 _ (blockSc x0) (piecesS12 c arg5 harg5 x0) 9 _ _ _ _ _ _ (fun y hy => coverS12 c arg5 harg5 x0 y (by omega)))))
      ((init_same _ _).2.2.2.2.1.trans (congrArg₂ unitInit (readL_eq arg11 harg11 x6 8 _ _ _ _ _ _) (readL_eq arg11 harg11 x6 9 _ _ _ _ _ _)))))
  · exact (hi_same _ _ _).2.2.2.1.trans (lse_congr lseHi (readL_eq arg11 harg11 x6 6 _ _ _ _ _ _) (readL_eq arg11 harg11 x6 7 _ _ _ _ _ _) (loop_eq (T := k0_t5_loop.trips) rfl c arg16 harg16 arg17 harg17 arg18 harg18 arg19 harg19 xt1 xs0 xs1 xs2 xs3 3 (i 0).val _ _ _ _ _ _ _ _ (at3_pos i) at3_keys at3_rows at3_vals _ _
      ((qt_same _ _).2.2.2.1.trans (congrArg₂ k0_pay104 ((congrArg (fun v => k0_pay139 v) (readQ_eq arg5 harg5 x0 6 _ _ _ _ _ _)).trans (code_same (qh x0 6)).2.2.2.2.2.2.1) ((congrArg (fun v => k0_pay142 v) (readQ_eq arg5 harg5 x0 7 _ _ _ _ _ _)).trans (code_same (qh x0 7)).2.2.2.2.2.2.2.1)))
      ((qs_same _ _).2.2.2.1.trans (congrArg₂ k0_pay105 (readS_eq arg15 _ (blockSc x0) (piecesS8 c arg5 harg5 x0) 6 _ _ _ _ _ _ (fun y hy => coverS8 c arg5 harg5 x0 y (by omega))) (readS_eq arg15 _ (blockSc x0) (piecesS8 c arg5 harg5 x0) 7 _ _ _ _ _ _ (fun y hy => coverS8 c arg5 harg5 x0 y (by omega)))))
      ((init_same _ _).2.2.2.1.trans (congrArg₂ unitInit (readL_eq arg11 harg11 x6 6 _ _ _ _ _ _) (readL_eq arg11 harg11 x6 7 _ _ _ _ _ _)))))
  · exact (lo_same _ _ _).2.2.2.1.trans (lse_congr lseLo (readL_eq arg11 harg11 x6 6 _ _ _ _ _ _) (readL_eq arg11 harg11 x6 7 _ _ _ _ _ _) (loop_eq (T := k0_t5_loop.trips) rfl c arg16 harg16 arg17 harg17 arg18 harg18 arg19 harg19 xt1 xs0 xs1 xs2 xs3 3 (i 0).val _ _ _ _ _ _ _ _ (at3_pos i) at3_keys at3_rows at3_vals _ _
      ((qt_same _ _).2.2.2.1.trans (congrArg₂ k0_pay104 ((congrArg (fun v => k0_pay139 v) (readQ_eq arg5 harg5 x0 6 _ _ _ _ _ _)).trans (code_same (qh x0 6)).2.2.2.2.2.2.1) ((congrArg (fun v => k0_pay142 v) (readQ_eq arg5 harg5 x0 7 _ _ _ _ _ _)).trans (code_same (qh x0 7)).2.2.2.2.2.2.2.1)))
      ((qs_same _ _).2.2.2.1.trans (congrArg₂ k0_pay105 (readS_eq arg15 _ (blockSc x0) (piecesS8 c arg5 harg5 x0) 6 _ _ _ _ _ _ (fun y hy => coverS8 c arg5 harg5 x0 y (by omega))) (readS_eq arg15 _ (blockSc x0) (piecesS8 c arg5 harg5 x0) 7 _ _ _ _ _ _ (fun y hy => coverS8 c arg5 harg5 x0 y (by omega)))))
      ((init_same _ _).2.2.2.1.trans (congrArg₂ unitInit (readL_eq arg11 harg11 x6 6 _ _ _ _ _ _) (readL_eq arg11 harg11 x6 7 _ _ _ _ _ _)))))
  · exact (hi_same _ _ _).2.2.1.trans (lse_congr lseHi (readL_eq arg11 harg11 x6 4 _ _ _ _ _ _) (readL_eq arg11 harg11 x6 5 _ _ _ _ _ _) (loop_eq (T := k0_t4_loop.trips) rfl c arg16 harg16 arg17 harg17 arg18 harg18 arg19 harg19 xt1 xs0 xs1 xs2 xs3 2 (i 0).val _ _ _ _ _ _ _ _ (at2_pos i) at2_keys at2_rows at2_vals _ _
      ((qt_same _ _).2.2.1.trans (congrArg₂ k0_pay104 ((congrArg (fun v => k0_pay133 (k0_pay130 v) (k0_pay131 v) (FloatOps.ofBits .f32 0x00000000#32)) (readQ_eq arg5 harg5 x0 4 _ _ _ _ _ _)).trans (code_same (qh x0 4)).2.2.2.2.1) ((congrArg (fun v => k0_pay136 (k0_pay134 v) (k0_pay135 v)) (readQ_eq arg5 harg5 x0 5 _ _ _ _ _ _)).trans (code_same (qh x0 5)).2.2.2.2.2.1)))
      ((qs_same _ _).2.2.1.trans (congrArg₂ k0_pay105 (readS_eq arg15 _ (blockSc x0) (piecesS8 c arg5 harg5 x0) 4 _ _ _ _ _ _ (fun y hy => coverS8 c arg5 harg5 x0 y (by omega))) (readS_eq arg15 _ (blockSc x0) (piecesS8 c arg5 harg5 x0) 5 _ _ _ _ _ _ (fun y hy => coverS8 c arg5 harg5 x0 y (by omega)))))
      ((init_same _ _).2.2.1.trans (congrArg₂ unitInit (readL_eq arg11 harg11 x6 4 _ _ _ _ _ _) (readL_eq arg11 harg11 x6 5 _ _ _ _ _ _)))))
  · exact (lo_same _ _ _).2.2.1.trans (lse_congr lseLo (readL_eq arg11 harg11 x6 4 _ _ _ _ _ _) (readL_eq arg11 harg11 x6 5 _ _ _ _ _ _) (loop_eq (T := k0_t4_loop.trips) rfl c arg16 harg16 arg17 harg17 arg18 harg18 arg19 harg19 xt1 xs0 xs1 xs2 xs3 2 (i 0).val _ _ _ _ _ _ _ _ (at2_pos i) at2_keys at2_rows at2_vals _ _
      ((qt_same _ _).2.2.1.trans (congrArg₂ k0_pay104 ((congrArg (fun v => k0_pay133 (k0_pay130 v) (k0_pay131 v) (FloatOps.ofBits .f32 0x00000000#32)) (readQ_eq arg5 harg5 x0 4 _ _ _ _ _ _)).trans (code_same (qh x0 4)).2.2.2.2.1) ((congrArg (fun v => k0_pay136 (k0_pay134 v) (k0_pay135 v)) (readQ_eq arg5 harg5 x0 5 _ _ _ _ _ _)).trans (code_same (qh x0 5)).2.2.2.2.2.1)))
      ((qs_same _ _).2.2.1.trans (congrArg₂ k0_pay105 (readS_eq arg15 _ (blockSc x0) (piecesS8 c arg5 harg5 x0) 4 _ _ _ _ _ _ (fun y hy => coverS8 c arg5 harg5 x0 y (by omega))) (readS_eq arg15 _ (blockSc x0) (piecesS8 c arg5 harg5 x0) 5 _ _ _ _ _ _ (fun y hy => coverS8 c arg5 harg5 x0 y (by omega)))))
      ((init_same _ _).2.2.1.trans (congrArg₂ unitInit (readL_eq arg11 harg11 x6 4 _ _ _ _ _ _) (readL_eq arg11 harg11 x6 5 _ _ _ _ _ _)))))
  · exact (hi_same _ _ _).2.1.trans (lse_congr lseHi (readL_eq arg11 harg11 x6 2 _ _ _ _ _ _) (readL_eq arg11 harg11 x6 3 _ _ _ _ _ _) (loop_eq (T := k0_t3_loop.trips) rfl c arg16 harg16 arg17 harg17 arg18 harg18 arg19 harg19 xt1 xs0 xs1 xs2 xs3 1 (i 0).val _ _ _ _ _ _ _ _ (at1_pos i) at1_keys at1_rows at1_vals _ _
      ((qt_same _ _).2.1.trans (congrArg₂ k0_pay104 ((congrArg (fun v => k0_pay99 (k0_pay97 v)) (readQ_eq arg5 harg5 x0 2 _ _ _ _ _ _)).trans (code_same (qh x0 2)).2.2.1) ((congrArg (fun v => k0_pay102 (k0_pay100 v) (k0_pay101 v)) (readQ_eq arg5 harg5 x0 3 _ _ _ _ _ _)).trans (code_same (qh x0 3)).2.2.2.1)))
      ((qs_same _ _).2.1.trans (congrArg₂ k0_pay105 (readS_eq arg15 _ (blockSc x0) (piecesS4 c arg5 harg5 x0) 2 _ _ _ _ _ _ (fun y hy => coverS4 c arg5 harg5 x0 y (by omega))) (readS_eq arg15 _ (blockSc x0) (piecesS4 c arg5 harg5 x0) 3 _ _ _ _ _ _ (fun y hy => coverS4 c arg5 harg5 x0 y (by omega)))))
      ((init_same _ _).2.1.trans (congrArg₂ unitInit (readL_eq arg11 harg11 x6 2 _ _ _ _ _ _) (readL_eq arg11 harg11 x6 3 _ _ _ _ _ _)))))
  · exact (lo_same _ _ _).2.1.trans (lse_congr lseLo (readL_eq arg11 harg11 x6 2 _ _ _ _ _ _) (readL_eq arg11 harg11 x6 3 _ _ _ _ _ _) (loop_eq (T := k0_t3_loop.trips) rfl c arg16 harg16 arg17 harg17 arg18 harg18 arg19 harg19 xt1 xs0 xs1 xs2 xs3 1 (i 0).val _ _ _ _ _ _ _ _ (at1_pos i) at1_keys at1_rows at1_vals _ _
      ((qt_same _ _).2.1.trans (congrArg₂ k0_pay104 ((congrArg (fun v => k0_pay99 (k0_pay97 v)) (readQ_eq arg5 harg5 x0 2 _ _ _ _ _ _)).trans (code_same (qh x0 2)).2.2.1) ((congrArg (fun v => k0_pay102 (k0_pay100 v) (k0_pay101 v)) (readQ_eq arg5 harg5 x0 3 _ _ _ _ _ _)).trans (code_same (qh x0 3)).2.2.2.1)))
      ((qs_same _ _).2.1.trans (congrArg₂ k0_pay105 (readS_eq arg15 _ (blockSc x0) (piecesS4 c arg5 harg5 x0) 2 _ _ _ _ _ _ (fun y hy => coverS4 c arg5 harg5 x0 y (by omega))) (readS_eq arg15 _ (blockSc x0) (piecesS4 c arg5 harg5 x0) 3 _ _ _ _ _ _ (fun y hy => coverS4 c arg5 harg5 x0 y (by omega)))))
      ((init_same _ _).2.1.trans (congrArg₂ unitInit (readL_eq arg11 harg11 x6 2 _ _ _ _ _ _) (readL_eq arg11 harg11 x6 3 _ _ _ _ _ _)))))
  · exact (hi_same _ _ _).1.trans (lse_congr lseHi (readL_eq arg11 harg11 x6 0 _ _ _ _ _ _) (readL_eq arg11 harg11 x6 1 _ _ _ _ _ _) (loop_eq (T := k0_t2_loop.trips) rfl c arg16 harg16 arg17 harg17 arg18 harg18 arg19 harg19 xt1 xs0 xs1 xs2 xs3 0 (i 0).val _ _ _ _ _ _ _ _ (at0_pos i) at0_keys at0_rows at0_vals _ _
      ((qt_same _ _).1.trans (congrArg₂ k0_pay104 ((congrArg (fun v => k0_pay93 (FloatOps.ofBits .f32 0x43E00000#32) (k0_pay92 v)) (readQ_eq arg5 harg5 x0 0 _ _ _ _ _ _)).trans (code_same (qh x0 0)).1) ((congrArg (fun v => k0_pay96 v) (readQ_eq arg5 harg5 x0 1 _ _ _ _ _ _)).trans (code_same (qh x0 1)).2.1)))
      ((qs_same _ _).1.trans (congrArg₂ k0_pay105 (readS_eq arg15 _ (blockSc x0) (piecesS4 c arg5 harg5 x0) 0 _ _ _ _ _ _ (fun y hy => coverS4 c arg5 harg5 x0 y (by omega))) (readS_eq arg15 _ (blockSc x0) (piecesS4 c arg5 harg5 x0) 1 _ _ _ _ _ _ (fun y hy => coverS4 c arg5 harg5 x0 y (by omega)))))
      ((init_same _ _).1.trans (congrArg₂ unitInit (readL_eq arg11 harg11 x6 0 _ _ _ _ _ _) (readL_eq arg11 harg11 x6 1 _ _ _ _ _ _)))))
  · exact (lo_same _ _ _).1.trans (lse_congr lseLo (readL_eq arg11 harg11 x6 0 _ _ _ _ _ _) (readL_eq arg11 harg11 x6 1 _ _ _ _ _ _) (loop_eq (T := k0_t2_loop.trips) rfl c arg16 harg16 arg17 harg17 arg18 harg18 arg19 harg19 xt1 xs0 xs1 xs2 xs3 0 (i 0).val _ _ _ _ _ _ _ _ (at0_pos i) at0_keys at0_rows at0_vals _ _
      ((qt_same _ _).1.trans (congrArg₂ k0_pay104 ((congrArg (fun v => k0_pay93 (FloatOps.ofBits .f32 0x43E00000#32) (k0_pay92 v)) (readQ_eq arg5 harg5 x0 0 _ _ _ _ _ _)).trans (code_same (qh x0 0)).1) ((congrArg (fun v => k0_pay96 v) (readQ_eq arg5 harg5 x0 1 _ _ _ _ _ _)).trans (code_same (qh x0 1)).2.1)))
      ((qs_same _ _).1.trans (congrArg₂ k0_pay105 (readS_eq arg15 _ (blockSc x0) (piecesS4 c arg5 harg5 x0) 0 _ _ _ _ _ _ (fun y hy => coverS4 c arg5 harg5 x0 y (by omega))) (readS_eq arg15 _ (blockSc x0) (piecesS4 c arg5 harg5 x0) 1 _ _ _ _ _ _ (fun y hy => coverS4 c arg5 harg5 x0 y (by omega)))))
      ((init_same _ _).1.trans (congrArg₂ unitInit (readL_eq arg11 harg11 x6 0 _ _ _ _ _ _) (readL_eq arg11 harg11 x6 1 _ _ _ _ _ _)))))

end Cert.KernelIdeal.Gen

end
-- ==== Proof.KernelIdeal.Out.lean ====
module

public import proofs.«01_k».proof.Proof.KernelIdeal.Blocks
public import Idealize.ShloMosaic.Lib.Pointwise
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

theorem stack4_congr {a0 a1 a2 a3 b0 b1 b2 b3 : FVec F S128x128 .fp8e4m3} (h0 : a0 = b0) (h1 : a1 = b1) (h2 : a2 = b2) (h3 : a3 = b3) :
    stack4 a0 a1 a2 a3 = stack4 b0 b1 b2 b3 := by rw [h0, h1, h2, h3]

theorem piecesC (c : Dev nD) (arg5 : Memref sig .tc .vmem S1x128x16x128 .bf16) (harg5 : arg5.IsWhole) (x0 : Vec F S1x128x16x128 .bf16) :
    ∀ p ∈ kernelRun0.sl.H9_4 c arg5 harg5 x0, ∀ x, p.2 x = blockCode x0 (p.1.emb x) := by
  unfold kernelRun0.sl.H9_4
  refine List.forall_mem_cons.mpr ⟨codePiece x0 12 _ _ ?_, List.forall_mem_cons.mpr ⟨codePiece x0 8 _ _ ?_, List.forall_mem_cons.mpr ⟨codePiece x0 4 _ _ ?_, List.forall_mem_cons.mpr ⟨codePiece x0 0 _ _ ?_, fun p hp => absurd hp List.not_mem_nil⟩⟩⟩⟩
  · exact stack4_congr
      ((congrArg (fun v => k0_pay222 (k0_pay220 v) (k0_pay221 v)) (readQ_eq arg5 harg5 x0 12 _ _ _ _ _ _)).trans (code_same (qh x0 12)).2.2.2.2.2.2.2.2.2.2.2.2.1)
      ((congrArg (fun v => k0_pay225 v) (readQ_eq arg5 harg5 x0 13 _ _ _ _ _ _)).trans (code_same (qh x0 13)).2.2.2.2.2.2.2.2.2.2.2.2.2.1)
      ((congrArg (fun v => k0_pay228 v) (readQ_eq arg5 harg5 x0 14 _ _ _ _ _ _)).trans (code_same (qh x0 14)).2.2.2.2.2.2.2.2.2.2.2.2.2.2.1)
      ((congrArg (fun v => k0_pay233 (k0_pay229 v) (k0_pay230 v) (k0_pay231 v)) (readQ_eq arg5 harg5 x0 15 _ _ _ _ _ _)).trans (code_same (qh x0 15)).2.2.2.2.2.2.2.2.2.2.2.2.2.2.2)
  · exact stack4_congr
      ((congrArg (fun v => k0_pay177 v) (readQ_eq arg5 harg5 x0 8 _ _ _ _ _ _)).trans (code_same (qh x0 8)).2.2.2.2.2.2.2.2.1)
      ((congrArg (fun v => k0_pay181 (k0_pay178 v)) (readQ_eq arg5 harg5 x0 9 _ _ _ _ _ _)).trans (code_same (qh x0 9)).2.2.2.2.2.2.2.2.2.1)
      ((congrArg (fun v => k0_pay184 (k0_pay182 v) (k0_pay183 v)) (readQ_eq arg5 harg5 x0 10 _ _ _ _ _ _)).trans (code_same (qh x0 10)).2.2.2.2.2.2.2.2.2.2.1)
      ((congrArg (fun v => k0_pay188 (k0_pay187 v)) (readQ_eq arg5 harg5 x0 11 _ _ _ _ _ _)).trans (code_same (qh x0 11)).2.2.2.2.2.2.2.2.2.2.2.1)
  · exact stack4_congr
      ((congrArg (fun v => k0_pay133 (k0_pay130 v) (k0_pay131 v) (FloatOps.ofBits .f32 0x00000000#32)) (readQ_eq arg5 harg5 x0 4 _ _ _ _ _ _)).trans (code_same (qh x0 4)).2.2.2.2.1)
      ((congrArg (fun v => k0_pay136 (k0_pay134 v) (k0_pay135 v)) (readQ_eq arg5 harg5 x0 5 _ _ _ _ _ _)).trans (code_same (qh x0 5)).2.2.2.2.2.1)
      ((congrArg (fun v => k0_pay139 v) (readQ_eq arg5 harg5 x0 6 _ _ _ _ _ _)).trans (code_same (qh x0 6)).2.2.2.2.2.2.1)
      ((congrArg (fun v => k0_pay142 v) (readQ_eq arg5 harg5 x0 7 _ _ _ _ _ _)).trans (code_same (qh x0 7)).2.2.2.2.2.2.2.1)
  · exact stack4_congr
      ((congrArg (fun v => k0_pay93 (FloatOps.ofBits .f32 0x43E00000#32) (k0_pay92 v)) (readQ_eq arg5 harg5 x0 0 _ _ _ _ _ _)).trans (code_same (qh x0 0)).1)
      ((congrArg (fun v => k0_pay96 v) (readQ_eq arg5 harg5 x0 1 _ _ _ _ _ _)).trans (code_same (qh x0 1)).2.1)
      ((congrArg (fun v => k0_pay99 (k0_pay97 v)) (readQ_eq arg5 harg5 x0 2 _ _ _ _ _ _)).trans (code_same (qh x0 2)).2.2.1)
      ((congrArg (fun v => k0_pay102 (k0_pay100 v) (k0_pay101 v)) (readQ_eq arg5 harg5 x0 3 _ _ _ _ _ _)).trans (code_same (qh x0 3)).2.2.2.1)

theorem out9_eq (hO : Ok m) (c : Dev nD) (t : Fin (cfgM m hO).N) : out0_9 m hO c t = blockCode (iblk m hO c 0 t) :=
  funext fun y => View.read_writes_apply_of_pieces VO0_9 _ (blockCode (iblk m hO c 0 t)) (run0 m hO c t).2.2.1 (piecesC c _ (hs0_0 m hO t) (iblk m hO c 0 t)) y (cover0_9 _ _ _ _ _ _ _ _ _ _ _ _ _ _ _ _ _ _ _ _ _ _ _ _ _ _ _ _ _ _ _ _ _ _ _ _ _ _ _ _ _ _ _ _ _ _ y)

theorem out10_eq (hO : Ok m) (c : Dev nD) (t : Fin (cfgM m hO).N) : out0_10 m hO c t = blockSc (iblk m hO c 0 t) :=
  funext fun y => View.read_writes_apply_of_pieces VO0_10 _ (blockSc (iblk m hO c 0 t)) (run0 m hO c t).2.2.2.1 (piecesS16 c _ (hs0_0 m hO t) (iblk m hO c 0 t)) y (cover0_10 _ _ _ _ _ _ _ _ _ _ _ _ _ _ _ _ _ _ _ _ _ _ _ _ _ _ _ _ _ _ _ _ _ _ _ _ _ _ _ _ _ _ _ _ _ _ y)

theorem out7_eq (hO : Ok m) (c : Dev nD) (t : Fin (cfgM m hO).N) : out0_7 m hO c t =
    blockOut (tbl m 1) (grid0.coords t 0).val (kernelRun0.sl.r c (grid0.coords t) (tbl m 2)) (kernelRun0.sl.r_1 c (grid0.coords t) (tbl m 0)) (iblk m hO c 0 t) (iblk m hO c 5 t) (iblk m hO c 6 t) (scr0 m hO c t) (scr1 m hO c t) (scr2 m hO c t) (scr3 m hO c t) :=
  funext fun y => View.read_writes_apply_of_pieces VO0_7 _ _ (run0 m hO c t).1 (piecesO _ _ _ _ _ _ _ _ _ _ _ _ _ _ _ _ _ _ _ _ _ _ _ _ _ _ _ _ _ _ _ _ _ _ _ _ _ _ _ _ _ _ _ _ _ _) y (cover0_7 _ _ _ _ _ _ _ _ _ _ _ _ _ _ _ _ _ _ _ _ _ _ _ _ _ _ _ _ _ _ _ _ _ _ _ _ _ _ _ _ _ _ _ _ _ _ y)

theorem out8_eq (hO : Ok m) (c : Dev nD) (t : Fin (cfgM m hO).N) : out0_8 m hO c t =
    blockLse (tbl m 1) (grid0.coords t 0).val (kernelRun0.sl.r c (grid0.coords t) (tbl m 2)) (kernelRun0.sl.r_1 c (grid0.coords t) (tbl m 0)) (iblk m hO c 0 t) (iblk m hO c 6 t) (scr0 m hO c t) (scr1 m hO c t) (scr2 m hO c t) (scr3 m hO c t) :=
  funext fun y => View.read_writes_apply_of_pieces VO0_8 _ _ (run0 m hO c t).2.1 (piecesL _ _ _ _ _ _ _ _ _ _ _ _ _ _ _ _ _ _ _ _ _ _ _ _ _ _ _ _ _ _ _ _ _ _ _ _ _ _ _ _ _ _ _ _ _ _) y (cover0_8 _ _ _ _ _ _ _ _ _ _ _ _ _ _ _ _ _ _ _ _ _ _ _ _ _ _ _ _ _ _ _ _ _ _ _ _ _ _ _ _ _ _ _ _ _ _ y)

end Cert.KernelIdeal.Gen

end
-- ==== Proof.KernelIdeal.Fin.lean ====
module

public import proofs.«01_k».proof.Proof.KernelIdeal.Out
public import Idealize.ShloMosaic.Lib.Pointwise
public import Idealize.ShloMosaic.Lib.Pipeline.ValueKit
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

theorem idx0 (hO : Ok m) : ∀ t : Fin (cfgM m hO).N, ((pcfg0 (F := F)).win (adm m hO) 0).index t = ![t.val / 16, t.val % 16, 0, 0] :=
  (by decide +kernel : ∀ t : Fin grid0.N, cc0_transform_0 (grid0.coords t) = ![t.val / 16, t.val % 16, 0, 0])

theorem emb0 (hO : Ok m) (t : Fin (cfgM m hO).N) (y : S1x128x16x128.Idx) : (((cfgM m hO).win 0).blk t).view.emb y = ix4 ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ (y 2) (y 3) := by
  have e := idx0 m hO t
  blk_ext
  · exact congrFun e (0 : Fin 4)
  · exact (congrArg (fun k => k * 128 + (y 1).val) (congrFun e (1 : Fin 4))).trans (show t.val % 16 * 128 + (y 1).val = 128 * (t.val % 16) + (y 1).val by omega)
  · exact (congrArg (fun k => k * 16 + (y 2).val) (congrFun e (2 : Fin 4))).trans (show 0 * 16 + (y 2).val = (y 2).val by omega)
  · exact (congrArg (fun k => k * 128 + (y 3).val) (congrFun e (3 : Fin 4))).trans (show 0 * 128 + (y 3).val = (y 3).val by omega)

theorem blk0 (hO : Ok m) (c : Dev nD) (t : Fin (cfgM m hO).N) (y : S1x128x16x128.Idx) : iblk m hO c 0 t y = V m c main_arg0 (ix4 ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ (y 2) (y 3)) :=
  congrArg (V m c main_arg0) (emb0 m hO t y)

theorem idx1 (hO : Ok m) : ∀ t : Fin (cfgM m hO).N, ((pcfg0 (F := F)).win (adm m hO) 1).index t = ![t.val / 16, 0, 0, 0] :=
  (by decide +kernel : ∀ t : Fin grid0.N, cc0_transform_1 (grid0.coords t) = ![t.val / 16, 0, 0, 0])

theorem emb1 (hO : Ok m) (t : Fin (cfgM m hO).N) (y : S1x2048x8x128.Idx) : (((cfgM m hO).win 1).blk t).view.emb y = ix4 ⟨t.val / 16, Nat.div_lt_of_lt_mul (show t.val < 16 * 6 from t.isLt)⟩ (y 1) (y 2) (y 3) := by
  have e := idx1 m hO t
  blk_ext
  · exact congrFun e (0 : Fin 4)
  · exact (congrArg (fun k => k * 2048 + (y 1).val) (congrFun e (1 : Fin 4))).trans (show 0 * 2048 + (y 1).val = (y 1).val by omega)
  · exact (congrArg (fun k => k * 8 + (y 2).val) (congrFun e (2 : Fin 4))).trans (show 0 * 8 + (y 2).val = (y 2).val by omega)
  · exact (congrArg (fun k => k * 128 + (y 3).val) (congrFun e (3 : Fin 4))).trans (show 0 * 128 + (y 3).val = (y 3).val by omega)

theorem blk1 (hO : Ok m) (c : Dev nD) (t : Fin (cfgM m hO).N) (y : S1x2048x8x128.Idx) : iblk m hO c 1 t y = V m c main_arg4 (ix4 ⟨t.val / 16, Nat.div_lt_of_lt_mul (show t.val < 16 * 6 from t.isLt)⟩ (y 1) (y 2) (y 3)) :=
  congrArg (V m c main_arg4) (emb1 m hO t y)

theorem idx2 (hO : Ok m) : ∀ t : Fin (cfgM m hO).N, ((pcfg0 (F := F)).win (adm m hO) 2).index t = ![t.val / 16, 0, 0, 0] :=
  (by decide +kernel : ∀ t : Fin grid0.N, cc0_transform_2 (grid0.coords t) = ![t.val / 16, 0, 0, 0])

theorem emb2 (hO : Ok m) (t : Fin (cfgM m hO).N) (y : S1x2048x8x128.Idx) : (((cfgM m hO).win 2).blk t).view.emb y = ix4 ⟨t.val / 16, Nat.div_lt_of_lt_mul (show t.val < 16 * 6 from t.isLt)⟩ (y 1) (y 2) (y 3) := by
  have e := idx2 m hO t
  blk_ext
  · exact congrFun e (0 : Fin 4)
  · exact (congrArg (fun k => k * 2048 + (y 1).val) (congrFun e (1 : Fin 4))).trans (show 0 * 2048 + (y 1).val = (y 1).val by omega)
  · exact (congrArg (fun k => k * 8 + (y 2).val) (congrFun e (2 : Fin 4))).trans (show 0 * 8 + (y 2).val = (y 2).val by omega)
  · exact (congrArg (fun k => k * 128 + (y 3).val) (congrFun e (3 : Fin 4))).trans (show 0 * 128 + (y 3).val = (y 3).val by omega)

theorem blk2 (hO : Ok m) (c : Dev nD) (t : Fin (cfgM m hO).N) (y : S1x2048x8x128.Idx) : iblk m hO c 2 t y = V m c main_arg6 (ix4 ⟨t.val / 16, Nat.div_lt_of_lt_mul (show t.val < 16 * 6 from t.isLt)⟩ (y 1) (y 2) (y 3)) :=
  congrArg (V m c main_arg6) (emb2 m hO t y)

theorem idx3 (hO : Ok m) : ∀ t : Fin (cfgM m hO).N, ((pcfg0 (F := F)).win (adm m hO) 3).index t = ![t.val / 16, 0, 0] :=
  (by decide +kernel : ∀ t : Fin grid0.N, cc0_transform_3 (grid0.coords t) = ![t.val / 16, 0, 0])

theorem emb3 (hO : Ok m) (t : Fin (cfgM m hO).N) (y : S1x8x2048.Idx) : (((cfgM m hO).win 3).blk t).view.emb y = ix3 ⟨t.val / 16, Nat.div_lt_of_lt_mul (show t.val < 16 * 6 from t.isLt)⟩ (y 1) (y 2) := by
  have e := idx3 m hO t
  blk_ext
  · exact congrFun e (0 : Fin 3)
  · exact (congrArg (fun k => k * 8 + (y 1).val) (congrFun e (1 : Fin 3))).trans (show 0 * 8 + (y 1).val = (y 1).val by omega)
  · exact (congrArg (fun k => k * 2048 + (y 2).val) (congrFun e (2 : Fin 3))).trans (show 0 * 2048 + (y 2).val = (y 2).val by omega)

theorem blk3 (hO : Ok m) (c : Dev nD) (t : Fin (cfgM m hO).N) (y : S1x8x2048.Idx) : iblk m hO c 3 t y = V m c main_v0 (ix3 ⟨t.val / 16, Nat.div_lt_of_lt_mul (show t.val < 16 * 6 from t.isLt)⟩ (y 1) (y 2)) :=
  congrArg (V m c main_v0) (emb3 m hO t y)

theorem idx4 (hO : Ok m) : ∀ t : Fin (cfgM m hO).N, ((pcfg0 (F := F)).win (adm m hO) 4).index t = ![t.val / 16, 0, 0] :=
  (by decide +kernel : ∀ t : Fin grid0.N, cc0_transform_4 (grid0.coords t) = ![t.val / 16, 0, 0])

theorem emb4 (hO : Ok m) (t : Fin (cfgM m hO).N) (y : S1x8x2048.Idx) : (((cfgM m hO).win 4).blk t).view.emb y = ix3 ⟨t.val / 16, Nat.div_lt_of_lt_mul (show t.val < 16 * 6 from t.isLt)⟩ (y 1) (y 2) := by
  have e := idx4 m hO t
  blk_ext
  · exact congrFun e (0 : Fin 3)
  · exact (congrArg (fun k => k * 8 + (y 1).val) (congrFun e (1 : Fin 3))).trans (show 0 * 8 + (y 1).val = (y 1).val by omega)
  · exact (congrArg (fun k => k * 2048 + (y 2).val) (congrFun e (2 : Fin 3))).trans (show 0 * 2048 + (y 2).val = (y 2).val by omega)

theorem blk4 (hO : Ok m) (c : Dev nD) (t : Fin (cfgM m hO).N) (y : S1x8x2048.Idx) : iblk m hO c 4 t y = V m c main_v1 (ix3 ⟨t.val / 16, Nat.div_lt_of_lt_mul (show t.val < 16 * 6 from t.isLt)⟩ (y 1) (y 2)) :=
  congrArg (V m c main_v1) (emb4 m hO t y)

theorem idx5 (hO : Ok m) : ∀ t : Fin (cfgM m hO).N, ((pcfg0 (F := F)).win (adm m hO) 5).index t = ![t.val / 16, t.val % 16, 0, 0] :=
  (by decide +kernel : ∀ t : Fin grid0.N, cc0_transform_5 (grid0.coords t) = ![t.val / 16, t.val % 16, 0, 0])

theorem emb5 (hO : Ok m) (t : Fin (cfgM m hO).N) (y : S1x128x16x128.Idx) : (((cfgM m hO).win 5).blk t).view.emb y = ix4 ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ (y 2) (y 3) := by
  have e := idx5 m hO t
  blk_ext
  · exact congrFun e (0 : Fin 4)
  · exact (congrArg (fun k => k * 128 + (y 1).val) (congrFun e (1 : Fin 4))).trans (show t.val % 16 * 128 + (y 1).val = 128 * (t.val % 16) + (y 1).val by omega)
  · exact (congrArg (fun k => k * 16 + (y 2).val) (congrFun e (2 : Fin 4))).trans (show 0 * 16 + (y 2).val = (y 2).val by omega)
  · exact (congrArg (fun k => k * 128 + (y 3).val) (congrFun e (3 : Fin 4))).trans (show 0 * 128 + (y 3).val = (y 3).val by omega)

theorem blk5 (hO : Ok m) (c : Dev nD) (t : Fin (cfgM m hO).N) (y : S1x128x16x128.Idx) : iblk m hO c 5 t y = V m c main_arg8 (ix4 ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ (y 2) (y 3)) :=
  congrArg (V m c main_arg8) (emb5 m hO t y)

theorem idx6 (hO : Ok m) : ∀ t : Fin (cfgM m hO).N, ((pcfg0 (F := F)).win (adm m hO) 6).index t = ![t.val / 16, 0, t.val % 16] :=
  (by decide +kernel : ∀ t : Fin grid0.N, cc0_transform_6 (grid0.coords t) = ![t.val / 16, 0, t.val % 16])

theorem emb6 (hO : Ok m) (t : Fin (cfgM m hO).N) (y : S1x16x128.Idx) : (((cfgM m hO).win 6).blk t).view.emb y = ix3 ⟨t.val / 16, Nat.div_lt_of_lt_mul (show t.val < 16 * 6 from t.isLt)⟩ (y 1) ⟨128 * (t.val % 16) + (y 2).val, Nat.lt_of_lt_of_le (Nat.add_lt_add_left (show (y 2).val < 128 from (y 2).isLt) _) (by omega)⟩ := by
  have e := idx6 m hO t
  blk_ext
  · exact congrFun e (0 : Fin 3)
  · exact (congrArg (fun k => k * 16 + (y 1).val) (congrFun e (1 : Fin 3))).trans (show 0 * 16 + (y 1).val = (y 1).val by omega)
  · exact (congrArg (fun k => k * 128 + (y 2).val) (congrFun e (2 : Fin 3))).trans (show t.val % 16 * 128 + (y 2).val = 128 * (t.val % 16) + (y 2).val by omega)

theorem blk6 (hO : Ok m) (c : Dev nD) (t : Fin (cfgM m hO).N) (y : S1x16x128.Idx) : iblk m hO c 6 t y = V m c main_v2 (ix3 ⟨t.val / 16, Nat.div_lt_of_lt_mul (show t.val < 16 * 6 from t.isLt)⟩ (y 1) ⟨128 * (t.val % 16) + (y 2).val, Nat.lt_of_lt_of_le (Nat.add_lt_add_left (show (y 2).val < 128 from (y 2).isLt) _) (by omega)⟩) :=
  congrArg (V m c main_v2) (emb6 m hO t y)

theorem idx7 (hO : Ok m) : ∀ t : Fin (cfgM m hO).N, ((pcfg0 (F := F)).win (adm m hO) 7).index t = ![t.val / 16, t.val % 16, 0, 0] :=
  (by decide +kernel : ∀ t : Fin grid0.N, cc0_transform_7 (grid0.coords t) = ![t.val / 16, t.val % 16, 0, 0])

theorem emb7 (hO : Ok m) (t : Fin (cfgM m hO).N) (y : S1x128x16x128.Idx) : (((cfgM m hO).win 7).blk t).view.emb y = ix4 ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ (y 2) (y 3) := by
  have e := idx7 m hO t
  blk_ext
  · exact congrFun e (0 : Fin 4)
  · exact (congrArg (fun k => k * 128 + (y 1).val) (congrFun e (1 : Fin 4))).trans (show t.val % 16 * 128 + (y 1).val = 128 * (t.val % 16) + (y 1).val by omega)
  · exact (congrArg (fun k => k * 16 + (y 2).val) (congrFun e (2 : Fin 4))).trans (show 0 * 16 + (y 2).val = (y 2).val by omega)
  · exact (congrArg (fun k => k * 128 + (y 3).val) (congrFun e (3 : Fin 4))).trans (show 0 * 128 + (y 3).val = (y 3).val by omega)

theorem idx8 (hO : Ok m) : ∀ t : Fin (cfgM m hO).N, ((pcfg0 (F := F)).win (adm m hO) 8).index t = ![t.val / 16, 0, t.val % 16] :=
  (by decide +kernel : ∀ t : Fin grid0.N, cc0_transform_8 (grid0.coords t) = ![t.val / 16, 0, t.val % 16])

theorem emb8 (hO : Ok m) (t : Fin (cfgM m hO).N) (y : S1x16x128.Idx) : (((cfgM m hO).win 8).blk t).view.emb y = ix3 ⟨t.val / 16, Nat.div_lt_of_lt_mul (show t.val < 16 * 6 from t.isLt)⟩ (y 1) ⟨128 * (t.val % 16) + (y 2).val, Nat.lt_of_lt_of_le (Nat.add_lt_add_left (show (y 2).val < 128 from (y 2).isLt) _) (by omega)⟩ := by
  have e := idx8 m hO t
  blk_ext
  · exact congrFun e (0 : Fin 3)
  · exact (congrArg (fun k => k * 16 + (y 1).val) (congrFun e (1 : Fin 3))).trans (show 0 * 16 + (y 1).val = (y 1).val by omega)
  · exact (congrArg (fun k => k * 128 + (y 2).val) (congrFun e (2 : Fin 3))).trans (show t.val % 16 * 128 + (y 2).val = 128 * (t.val % 16) + (y 2).val by omega)

theorem idx9 (hO : Ok m) : ∀ t : Fin (cfgM m hO).N, ((pcfg0 (F := F)).win (adm m hO) 9).index t = ![t.val / 16, t.val % 16, 0, 0] :=
  (by decide +kernel : ∀ t : Fin grid0.N, cc0_transform_9 (grid0.coords t) = ![t.val / 16, t.val % 16, 0, 0])

theorem emb9 (hO : Ok m) (t : Fin (cfgM m hO).N) (y : S1x128x16x128.Idx) : (((cfgM m hO).win 9).blk t).view.emb y = ix4 ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ (y 2) (y 3) := by
  have e := idx9 m hO t
  blk_ext
  · exact congrFun e (0 : Fin 4)
  · exact (congrArg (fun k => k * 128 + (y 1).val) (congrFun e (1 : Fin 4))).trans (show t.val % 16 * 128 + (y 1).val = 128 * (t.val % 16) + (y 1).val by omega)
  · exact (congrArg (fun k => k * 16 + (y 2).val) (congrFun e (2 : Fin 4))).trans (show 0 * 16 + (y 2).val = (y 2).val by omega)
  · exact (congrArg (fun k => k * 128 + (y 3).val) (congrFun e (3 : Fin 4))).trans (show 0 * 128 + (y 3).val = (y 3).val by omega)

theorem idx10 (hO : Ok m) : ∀ t : Fin (cfgM m hO).N, ((pcfg0 (F := F)).win (adm m hO) 10).index t = ![t.val / 16, 0, t.val % 16] :=
  (by decide +kernel : ∀ t : Fin grid0.N, cc0_transform_10 (grid0.coords t) = ![t.val / 16, 0, t.val % 16])

theorem emb10 (hO : Ok m) (t : Fin (cfgM m hO).N) (y : S1x16x128.Idx) : (((cfgM m hO).win 10).blk t).view.emb y = ix3 ⟨t.val / 16, Nat.div_lt_of_lt_mul (show t.val < 16 * 6 from t.isLt)⟩ (y 1) ⟨128 * (t.val % 16) + (y 2).val, Nat.lt_of_lt_of_le (Nat.add_lt_add_left (show (y 2).val < 128 from (y 2).isLt) _) (by omega)⟩ := by
  have e := idx10 m hO t
  blk_ext
  · exact congrFun e (0 : Fin 3)
  · exact (congrArg (fun k => k * 16 + (y 1).val) (congrFun e (1 : Fin 3))).trans (show 0 * 16 + (y 1).val = (y 1).val by omega)
  · exact (congrArg (fun k => k * 128 + (y 2).val) (congrFun e (2 : Fin 3))).trans (show t.val % 16 * 128 + (y 2).val = 128 * (t.val % 16) + (y 2).val by omega)

/-- The point of batch row `b` and query block `j / 128`. -/
def ptOf (hO : Ok m) (b : Fin 6) (j : Fin 2048) : Fin (cfgM m hO).N := ⟨16 * b.val + j.val / 128, show 16 * b.val + j.val / 128 < 96 by omega⟩

theorem ptOf_eq (hO : Ok m) (t : Fin (cfgM m hO).N) (b : Fin 6) (j : Fin 2048) (hb : b.val = t.val / 16) (k : ℕ) (hk : k < 128) (hj : j.val = 128 * (t.val % 16) + k) :
    ptOf m hO b j = t := Fin.ext (show 16 * b.val + j.val / 128 = t.val by omega)

/-- Output 7's block at point `t`. -/
def blkOf7 (hO : Ok m) (c : Dev nD) (t : Fin (cfgM m hO).N) : Vec F S1x128x16x128 .bf16 := blockOut (tbl m 1) (grid0.coords t 0).val (kernelRun0.sl.r c (grid0.coords t) (tbl m 2)) (kernelRun0.sl.r_1 c (grid0.coords t) (tbl m 0)) (iblk m hO c 0 t) (iblk m hO c 5 t) (iblk m hO c 6 t) (scr0 m hO c t) (scr1 m hO c t) (scr2 m hO c t) (scr3 m hO c t)

theorem covers7 (hO : Ok m) : ((cfgM m hO).win 7).Covers := of_decide_eq_true (by sl_kernel_rfl)

/-- Output 7's whole array, an element from the block of the point that writes it. -/
def fin7 (hO : Ok m) (c : Dev nD) : Vec F S6x2048x16x128 .bf16 := fun i =>
  blkOf7 m hO c (ptOf m hO (i 0) (i 1)) (ix4 0 ⟨(i 1).val % 128, Nat.mod_lt _ (by decide)⟩ (i 2) (i 3))

theorem fin7_at (hO : Ok m) (c : Dev nD) (t : Fin (cfgM m hO).N) (y : S1x128x16x128.Idx) :
    fin7 m hO c (ix4 ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ (y 2) (y 3)) = blkOf7 m hO c t y := by
  have hp := ptOf_eq m hO t ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ rfl (y 1).val (y 1).isLt rfl
  have hy : ix4 0 ⟨(128 * (t.val % 16) + (y 1).val) % 128, Nat.mod_lt _ (by decide)⟩ (y 2) (y 3) = y := by
    have hk : (y 1).val < 128 := (y 1).isLt
    have h0 : (y 0).val < 1 := (y 0).isLt
    funext a; apply Fin.ext
    fin_cases a
    · exact (show 0 = (y 0).val by omega)
    · exact (show (128 * (t.val % 16) + (y 1).val) % 128 = (y 1).val by omega)
    · rfl
    · rfl
  have e : ∀ T, T = t → blkOf7 m hO c T y = blkOf7 m hO c t y := fun T h => by rw [h]
  exact (congrArg (blkOf7 m hO c (ptOf m hO ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩)) hy).trans (e _ hp)

theorem arr7 (hO : Ok m) (c : Dev nD) : (dats m hO 0 c).arrAt 7 (cfgM m hO).N = fin7 m hO c := by
  refine (dats m hO 0 c).arrAt_eq_of_covers 7 _ (covers7 m hO) fun t hf y => ?_
  blk_simp
  rw [after0_7, out7_eq]
  exact ((congrArg (fin7 m hO c) (emb7 m hO t y)).trans (fin7_at m hO c t y)).symm

/-- Output 8's block at point `t`. -/
def blkOf8 (hO : Ok m) (c : Dev nD) (t : Fin (cfgM m hO).N) : Vec F S1x16x128 .f32 := blockLse (tbl m 1) (grid0.coords t 0).val (kernelRun0.sl.r c (grid0.coords t) (tbl m 2)) (kernelRun0.sl.r_1 c (grid0.coords t) (tbl m 0)) (iblk m hO c 0 t) (iblk m hO c 6 t) (scr0 m hO c t) (scr1 m hO c t) (scr2 m hO c t) (scr3 m hO c t)

theorem covers8 (hO : Ok m) : ((cfgM m hO).win 8).Covers := of_decide_eq_true (by sl_kernel_rfl)

/-- Output 8's whole array, an element from the block of the point that writes it. -/
def fin8 (hO : Ok m) (c : Dev nD) : Vec F S6x16x2048 .f32 := fun i =>
  blkOf8 m hO c (ptOf m hO (i 0) (i 2)) (ix3 0 (i 1) ⟨(i 2).val % 128, Nat.mod_lt _ (by decide)⟩)

theorem fin8_at (hO : Ok m) (c : Dev nD) (t : Fin (cfgM m hO).N) (y : S1x16x128.Idx) :
    fin8 m hO c (ix3 ⟨t.val / 16, Nat.div_lt_of_lt_mul (show t.val < 16 * 6 from t.isLt)⟩ (y 1) ⟨128 * (t.val % 16) + (y 2).val, Nat.lt_of_lt_of_le (Nat.add_lt_add_left (show (y 2).val < 128 from (y 2).isLt) _) (by omega)⟩) = blkOf8 m hO c t y := by
  have hp := ptOf_eq m hO t ⟨t.val / 16, Nat.div_lt_of_lt_mul (show t.val < 16 * 6 from t.isLt)⟩ ⟨128 * (t.val % 16) + (y 2).val, Nat.lt_of_lt_of_le (Nat.add_lt_add_left (show (y 2).val < 128 from (y 2).isLt) _) (by omega)⟩ rfl (y 2).val (y 2).isLt rfl
  have hy : ix3 0 (y 1) ⟨(128 * (t.val % 16) + (y 2).val) % 128, Nat.mod_lt _ (by decide)⟩ = y := by
    have hk : (y 2).val < 128 := (y 2).isLt
    have h0 : (y 0).val < 1 := (y 0).isLt
    funext a; apply Fin.ext
    fin_cases a
    · exact (show 0 = (y 0).val by omega)
    · rfl
    · exact (show (128 * (t.val % 16) + (y 2).val) % 128 = (y 2).val by omega)
  have e : ∀ T, T = t → blkOf8 m hO c T y = blkOf8 m hO c t y := fun T h => by rw [h]
  exact (congrArg (blkOf8 m hO c (ptOf m hO ⟨t.val / 16, Nat.div_lt_of_lt_mul (show t.val < 16 * 6 from t.isLt)⟩ ⟨128 * (t.val % 16) + (y 2).val, Nat.lt_of_lt_of_le (Nat.add_lt_add_left (show (y 2).val < 128 from (y 2).isLt) _) (by omega)⟩)) hy).trans (e _ hp)

theorem arr8 (hO : Ok m) (c : Dev nD) : (dats m hO 0 c).arrAt 8 (cfgM m hO).N = fin8 m hO c := by
  refine (dats m hO 0 c).arrAt_eq_of_covers 8 _ (covers8 m hO) fun t hf y => ?_
  blk_simp
  rw [after0_8, out8_eq]
  exact ((congrArg (fin8 m hO c) (emb8 m hO t y)).trans (fin8_at m hO c t y)).symm

/-- Output 9's block at point `t`. -/
def blkOf9 (hO : Ok m) (c : Dev nD) (t : Fin (cfgM m hO).N) : Vec F S1x128x16x128 .fp8e4m3 := blockCode (iblk m hO c 0 t)

theorem covers9 (hO : Ok m) : ((cfgM m hO).win 9).Covers := of_decide_eq_true (by sl_kernel_rfl)

/-- Output 9's whole array, an element from the block of the point that writes it. -/
def fin9 (hO : Ok m) (c : Dev nD) : Vec F S6x2048x16x128 .fp8e4m3 := fun i =>
  blkOf9 m hO c (ptOf m hO (i 0) (i 1)) (ix4 0 ⟨(i 1).val % 128, Nat.mod_lt _ (by decide)⟩ (i 2) (i 3))

theorem fin9_at (hO : Ok m) (c : Dev nD) (t : Fin (cfgM m hO).N) (y : S1x128x16x128.Idx) :
    fin9 m hO c (ix4 ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ (y 2) (y 3)) = blkOf9 m hO c t y := by
  have hp := ptOf_eq m hO t ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩ rfl (y 1).val (y 1).isLt rfl
  have hy : ix4 0 ⟨(128 * (t.val % 16) + (y 1).val) % 128, Nat.mod_lt _ (by decide)⟩ (y 2) (y 3) = y := by
    have hk : (y 1).val < 128 := (y 1).isLt
    have h0 : (y 0).val < 1 := (y 0).isLt
    funext a; apply Fin.ext
    fin_cases a
    · exact (show 0 = (y 0).val by omega)
    · exact (show (128 * (t.val % 16) + (y 1).val) % 128 = (y 1).val by omega)
    · rfl
    · rfl
  have e : ∀ T, T = t → blkOf9 m hO c T y = blkOf9 m hO c t y := fun T h => by rw [h]
  exact (congrArg (blkOf9 m hO c (ptOf m hO ⟨t.val / 16, Nat.div_lt_of_lt_mul (show t.val < 16 * 6 from t.isLt)⟩ ⟨128 * (t.val % 16) + (y 1).val, Nat.lt_of_lt_of_le (Nat.add_lt_add_left (show (y 1).val < 128 from (y 1).isLt) _) (by omega)⟩)) hy).trans (e _ hp)

theorem arr9 (hO : Ok m) (c : Dev nD) : (dats m hO 0 c).arrAt 9 (cfgM m hO).N = fin9 m hO c := by
  refine (dats m hO 0 c).arrAt_eq_of_covers 9 _ (covers9 m hO) fun t hf y => ?_
  blk_simp
  rw [after0_9, out9_eq]
  exact ((congrArg (fin9 m hO c) (emb9 m hO t y)).trans (fin9_at m hO c t y)).symm

/-- Output 10's block at point `t`. -/
def blkOf10 (hO : Ok m) (c : Dev nD) (t : Fin (cfgM m hO).N) : Vec F S1x16x128 .f32 := blockSc (iblk m hO c 0 t)

theorem covers10 (hO : Ok m) : ((cfgM m hO).win 10).Covers := of_decide_eq_true (by sl_kernel_rfl)

/-- Output 10's whole array, an element from the block of the point that writes it. -/
def fin10 (hO : Ok m) (c : Dev nD) : Vec F S6x16x2048 .f32 := fun i =>
  blkOf10 m hO c (ptOf m hO (i 0) (i 2)) (ix3 0 (i 1) ⟨(i 2).val % 128, Nat.mod_lt _ (by decide)⟩)

theorem fin10_at (hO : Ok m) (c : Dev nD) (t : Fin (cfgM m hO).N) (y : S1x16x128.Idx) :
    fin10 m hO c (ix3 ⟨t.val / 16, Nat.div_lt_of_lt_mul (show t.val < 16 * 6 from t.isLt)⟩ (y 1) ⟨128 * (t.val % 16) + (y 2).val, Nat.lt_of_lt_of_le (Nat.add_lt_add_left (show (y 2).val < 128 from (y 2).isLt) _) (by omega)⟩) = blkOf10 m hO c t y := by
  have hp := ptOf_eq m hO t ⟨t.val / 16, Nat.div_lt_of_lt_mul (show t.val < 16 * 6 from t.isLt)⟩ ⟨128 * (t.val % 16) + (y 2).val, Nat.lt_of_lt_of_le (Nat.add_lt_add_left (show (y 2).val < 128 from (y 2).isLt) _) (by omega)⟩ rfl (y 2).val (y 2).isLt rfl
  have hy : ix3 0 (y 1) ⟨(128 * (t.val % 16) + (y 2).val) % 128, Nat.mod_lt _ (by decide)⟩ = y := by
    have hk : (y 2).val < 128 := (y 2).isLt
    have h0 : (y 0).val < 1 := (y 0).isLt
    funext a; apply Fin.ext
    fin_cases a
    · exact (show 0 = (y 0).val by omega)
    · rfl
    · exact (show (128 * (t.val % 16) + (y 2).val) % 128 = (y 2).val by omega)
  have e : ∀ T, T = t → blkOf10 m hO c T y = blkOf10 m hO c t y := fun T h => by rw [h]
  exact (congrArg (blkOf10 m hO c (ptOf m hO ⟨t.val / 16, Nat.div_lt_of_lt_mul (show t.val < 16 * 6 from t.isLt)⟩ ⟨128 * (t.val % 16) + (y 2).val, Nat.lt_of_lt_of_le (Nat.add_lt_add_left (show (y 2).val < 128 from (y 2).isLt) _) (by omega)⟩)) hy).trans (e _ hp)

theorem arr10 (hO : Ok m) (c : Dev nD) : (dats m hO 0 c).arrAt 10 (cfgM m hO).N = fin10 m hO c := by
  refine (dats m hO 0 c).arrAt_eq_of_covers 10 _ (covers10 m hO) fun t hf y => ?_
  blk_simp
  rw [after0_10, out10_eq]
  exact ((congrArg (fin10 m hO c) (emb10 m hO t y)).trans (fin10_at m hO c t y)).symm

end Cert.KernelIdeal.Gen

end
-- ==== Proof.Flash.lean ====
module

public import Idealize.ShloMosaic.PureOps.Ideal
public import Idealize.ShloMosaic.Lib.Pointwise

@[expose] public section

noncomputable section

/-! The online softmax over extended reals: running maxima, sums and weighted sums, rescaled block by block, agree
    with the ones taken over every key at once. -/

namespace Cert.Flash

open Idealize.ShloMosaic

theorem ofBits_neg_inf : Ideal.ofBits .f32 4286578688#32 = ⊥ := by
  have : Ideal.ofBits .f32 0xFF800000#32 = ⊥ := by simp [Ideal.ofBits, Ideal.ieee]
  exact this

theorem ofBits_two : Ideal.ofBits .f32 1073741824#32 = ((2 : ℝ) : EReal) := by
  simp [Ideal.ofBits, Ideal.ieee]
  rw [← EReal.coe_mul]
  norm_num

theorem coe_sub_top (r : ℝ) : (r : EReal) - ⊤ = ⊥ := by rw [sub_eq_add_neg, EReal.neg_top, EReal.add_bot]

/-- A power of two written either way. -/
theorem pow_two (x : EReal) : Ideal.pow (Ideal.ofBits .f32 1073741824#32) x = Ideal.exp2 x := by
  rw [ofBits_two]
  induction x using EReal.rec with
  | bot => show (if (2:ℝ) < 0 then ⊥ else if (1:ℝ) < 2 then (0 : EReal) else _) = 0; norm_num
  | top => show (if (2:ℝ) < 0 then ⊥ else if (1:ℝ) < 2 then (⊤ : EReal) else _) = ⊤; norm_num
  | coe r => rfl

theorem exp2_nonneg (x : EReal) : 0 ≤ Ideal.exp2 x := by
  induction x using EReal.rec with
  | bot => exact le_refl _
  | top => exact le_top
  | coe r => exact EReal.coe_nonneg.mpr (Real.rpow_nonneg (by norm_num) r)

theorem exp2_ne_top (a b : EReal) (h : a ≤ b) : Ideal.exp2 (a - b) ≠ ⊤ := by
  induction a using EReal.rec with
  | bot => rw [EReal.bot_sub]; exact EReal.zero_ne_top
  | top => rw [top_le_iff.mp h]; exact EReal.zero_ne_top
  | coe r =>
    induction b using EReal.rec with
    | bot => exact absurd (le_bot_iff.mp h) (EReal.coe_ne_bot r)
    | top => rw [coe_sub_top]; exact EReal.zero_ne_top
    | coe s => rw [← EReal.coe_sub]; exact EReal.coe_ne_top _

/-- Rescaling from one maximum to a larger one. -/
theorem exp2_step (s a b : EReal) (h : s ≤ a) (h' : a ≤ b) : Ideal.exp2 (s - a) * Ideal.exp2 (a - b) = Ideal.exp2 (s - b) := by
  induction s using EReal.rec with
  | bot => rw [EReal.bot_sub, EReal.bot_sub]; exact zero_mul _
  | top =>
    obtain rfl := top_le_iff.mp h
    obtain rfl := top_le_iff.mp h'
    exact zero_mul _
  | coe r =>
    induction a using EReal.rec with
    | bot => exact absurd (le_bot_iff.mp h) (EReal.coe_ne_bot r)
    | top => obtain rfl := top_le_iff.mp h'; rw [coe_sub_top]; exact zero_mul _
    | coe p =>
      induction b using EReal.rec with
      | bot => exact absurd (le_bot_iff.mp h') (EReal.coe_ne_bot p)
      | top => rw [coe_sub_top, coe_sub_top]; exact mul_zero _
      | coe q =>
        rw [← EReal.coe_sub, ← EReal.coe_sub, ← EReal.coe_sub]
        show ((Real.rpow 2 (r - p) : ℝ) : EReal) * ((Real.rpow 2 (p - q) : ℝ) : EReal) = ((Real.rpow 2 (r - q) : ℝ) : EReal)
        rw [← EReal.coe_mul]
        refine congrArg _ ?_
        have := Real.rpow_add (show (0:ℝ) < 2 by norm_num) (r - p) (p - q)
        rw [show r - p + (p - q) = r - q by ring] at this
        exact this.symm

/-- Rounding up. -/
abbrev cl (x : EReal) : EReal := Ideal.liftRound Int.ceil x

theorem le_cl (x : EReal) : x ≤ cl x := by
  induction x using EReal.rec with
  | bot => exact le_refl _
  | top => exact le_refl _
  | coe r => exact EReal.coe_le_coe_iff.mpr (Int.le_ceil r)

theorem cl_mono : Monotone cl := by
  intro a b h
  induction a using EReal.rec with
  | bot => exact bot_le
  | top => rw [top_le_iff.mp h]
  | coe r =>
    induction b using EReal.rec with
    | bot => exact absurd (le_bot_iff.mp h) (EReal.coe_ne_bot r)
    | top => exact le_top
    | coe s => exact EReal.coe_le_coe_iff.mpr (Int.cast_le.mpr (Int.ceil_le_ceil (EReal.coe_le_coe_iff.mp h)))

theorem sum_mul {ι : Type*} (s : Finset ι) (f : ι → EReal) (a : EReal) (h0 : 0 ≤ a) (ht : a ≠ ⊤) :
    (∑ i ∈ s, f i) * a = ∑ i ∈ s, f i * a := by
  classical
  induction s using Finset.induction_on with
  | empty => rw [Finset.sum_empty, Finset.sum_empty, zero_mul]
  | insert i s hi ih =>
    rw [Finset.sum_insert hi, Finset.sum_insert hi, EReal.right_distrib_of_nonneg_of_ne_top h0 ht, ih]

/-- The maximum of the starting value and of the first `n` scores, rounded up. -/
def mx (lse : EReal) (σ : ℕ → EReal) (n : ℕ) : EReal := cl (max lse ((Finset.range n).sup σ))

theorem mx_zero (lse : EReal) (σ : ℕ → EReal) : mx lse σ 0 = cl lse := by
  unfold mx
  rw [Finset.range_zero, Finset.sup_empty, max_eq_left bot_le]

theorem fold_eq_sup (f : Fin 256 → EReal) : Finset.fold max ⊥ f Finset.univ = Finset.univ.sup f := rfl

theorem sup_range_add (σ : ℕ → EReal) (n : ℕ) :
    (Finset.range (n + 256)).sup σ = max ((Finset.range n).sup σ) (Finset.univ.sup fun x : Fin 256 => σ (n + x.val)) := by
  refine le_antisymm (Finset.sup_le fun j hj => ?_) (max_le (Finset.sup_mono (Finset.range_mono (by omega))) (Finset.sup_le fun x _ => Finset.le_sup (f := σ) (Finset.mem_range.mpr (by omega))))
  rw [Finset.mem_range] at hj
  by_cases h : j < n
  · exact le_max_of_le_left (Finset.le_sup (f := σ) (Finset.mem_range.mpr h))
  · refine le_max_of_le_right ?_
    have := Finset.le_sup (f := fun x : Fin 256 => σ (n + x.val)) (Finset.mem_univ (⟨j - n, by omega⟩ : Fin 256))
    rwa [show n + (j - n) = j by omega] at this

theorem mx_add (lse : EReal) (σ : ℕ → EReal) (n : ℕ) :
    mx lse σ (n + 256) = max (mx lse σ n) (cl (Finset.univ.sup fun x : Fin 256 => σ (n + x.val))) := by
  unfold mx
  rw [sup_range_add, ← max_assoc, cl_mono.map_max]

theorem le_mx (lse : EReal) (σ : ℕ → EReal) (n j : ℕ) (h : j < n) : σ j ≤ mx lse σ n :=
  (Finset.le_sup (f := σ) (Finset.mem_range.mpr h)).trans ((le_max_right _ _).trans (le_cl _))

theorem sum_range_add' (f : ℕ → EReal) (n : ℕ) : ∑ j ∈ Finset.range (n + 256), f j = ∑ j ∈ Finset.range n, f j + ∑ x : Fin 256, f (n + x.val) := by
  rw [Finset.sum_range_add, Finset.sum_range fun x => f (n + x)]

/-- The running values after each block of 256 keys, one live block folded in and a dead one skipped. -/
theorem flash (lse : EReal) (σ v vs : ℕ → EReal) (live : ℕ → Prop) (m l acc : ℕ → EReal)
    (m0 : m 0 = cl lse) (l0 : l 0 = 0) (a0 : acc 0 = 0) (N : ℕ)
    (hm : ∀ k < N, live k → m (k + 1) = max (m k) (cl (Finset.univ.sup fun x : Fin 256 => σ (256 * k + x.val))))
    (hl : ∀ k < N, live k → l (k + 1) = l k * Ideal.exp2 (m k - m (k + 1)) + ∑ x : Fin 256, Ideal.exp2 (σ (256 * k + x.val) - m (k + 1)))
    (ha : ∀ k < N, live k → acc (k + 1) = acc k * Ideal.exp2 (m k - m (k + 1))
      + ∑ x : Fin 256, v (256 * k + x.val) * (Ideal.exp2 (σ (256 * k + x.val) - m (k + 1)) * vs (256 * k + x.val)))
    (hd : ∀ k < N, ¬live k → m (k + 1) = m k ∧ l (k + 1) = l k ∧ acc (k + 1) = acc k ∧ ∀ x : Fin 256, σ (256 * k + x.val) = ⊥) :
    ∀ k ≤ N, m k = mx lse σ (256 * k) ∧ l k = ∑ j ∈ Finset.range (256 * k), Ideal.exp2 (σ j - mx lse σ (256 * k))
      ∧ acc k = ∑ j ∈ Finset.range (256 * k), v j * (Ideal.exp2 (σ j - mx lse σ (256 * k)) * vs j) := by
  intro k
  induction k with
  | zero =>
    intro _
    refine ⟨?_, ?_, ?_⟩
    · rw [m0]; exact (mx_zero lse σ).symm
    · rw [l0]; rfl
    · rw [a0]; rfl
  | succ k ih =>
    intro hk
    obtain ⟨im, il, ia⟩ := ih (by omega)
    have hN : k < N := by omega
    have e : 256 * (k + 1) = 256 * k + 256 := by ring
    by_cases hv : live k
    · have em : m (k + 1) = mx lse σ (256 * (k + 1)) := by
        rw [hm k hN hv, im, e, mx_add]
      have hle : mx lse σ (256 * k) ≤ mx lse σ (256 * (k + 1)) := by rw [e, mx_add]; exact le_max_left _ _
      refine ⟨em, ?_, ?_⟩
      · rw [hl k hN hv, em, im, il, sum_mul _ _ _ (exp2_nonneg _) (exp2_ne_top _ _ hle), e, sum_range_add', ← e]
        refine congrArg (· + _) (Finset.sum_congr rfl fun j hj => ?_)
        exact exp2_step _ _ _ (le_mx lse σ _ j (Finset.mem_range.mp hj)) hle
      · rw [ha k hN hv, em, im, ia, sum_mul _ _ _ (exp2_nonneg _) (exp2_ne_top _ _ hle), e, sum_range_add', ← e]
        refine congrArg (· + _) (Finset.sum_congr rfl fun j hj => ?_)
        rw [← exp2_step _ _ _ (le_mx lse σ _ j (Finset.mem_range.mp hj)) hle, mul_assoc, mul_assoc, mul_assoc, mul_comm (vs j)]
    · obtain ⟨dm, dl, da, hb⟩ := hd k hN hv
      have em : mx lse σ (256 * (k + 1)) = mx lse σ (256 * k) := by
        rw [e, mx_add]
        refine max_eq_left ?_
        have : (Finset.univ.sup fun x : Fin 256 => σ (256 * k + x.val)) = ⊥ := le_bot_iff.mp (Finset.sup_le fun x _ => (hb x).le)
        rw [this]
        exact bot_le
      refine ⟨by rw [dm, im, em], ?_, ?_⟩
      · rw [dl, il, em, e, sum_range_add']
        rw [Finset.sum_eq_zero (s := Finset.univ) fun x _ => by rw [hb x, EReal.bot_sub]; rfl, add_zero]
      · rw [da, ia, em, e, sum_range_add']
        rw [Finset.sum_eq_zero (s := Finset.univ) fun x _ => by
          rw [hb x, EReal.bot_sub]; exact (congrArg (v _ * ·) (zero_mul (vs _))).trans (mul_zero _), add_zero]

end Cert.Flash

end
-- ==== Proof.Spec.lean ====
module

public import proofs.«01_k».proof.Proof.Flash
public import Idealize.ShloMosaic.Lib.Pointwise

@[expose] public section

noncomputable section

/-! The results as formulas over the arguments: what both programs are shown to compute. -/

namespace Cert.Spec

open Idealize.ShloMosaic Cert.Flash

/-- The largest magnitude of a row. -/
def amax (f : Fin 128 → EReal) : EReal :=
  Finset.fold max (Ideal.ofBits FTy.f32 4286578688#32) (fun x => FloatOps.absf (F := Ideal) (φ := .f32) (f x)) Finset.univ

/-- A row's scale. -/
def scOf (f : Fin 128 → EReal) : EReal := if amax f = 0 then 1 else Ideal.div (amax f) (Ideal.ofBits FTy.f32 1138753536#32)

/-- A row's codes. -/
def cdOf (f : Fin 128 → EReal) (d : Fin 128) : EReal :=
  min (Ideal.ofBits FTy.f32 1138753536#32) (max (Ideal.ofBits FTy.f32 3286237184#32) (Ideal.div (f d) (scOf f)))

/-- A key's score against a query row: the codes' product, rescaled, where the key is visible. -/
def score (kpos qpos w : BitVec 32) (kc qc : Fin 128 → EReal) (qs ks : EReal) : EReal :=
  Scalar.select (IntOp.andi (IntOp.cmpi .sle kpos qpos) (IntOp.cmpi .sgt kpos (IntOp.subi qpos w)))
    ((∑ x, kc x * qc x) * qs * ks * Ideal.ofBits FTy.f32 1040356334#32) ⊥

/-- The new numerator over the new denominator. -/
def outOf (lse o : EReal) (σ v vs : ℕ → EReal) : EReal :=
  Ideal.div (o * Ideal.exp2 (lse - mx lse σ 2048) + ∑ j ∈ Finset.range 2048, v j * (Ideal.exp2 (σ j - mx lse σ 2048) * vs j))
    (Ideal.exp2 (lse - mx lse σ 2048) + ∑ j ∈ Finset.range 2048, Ideal.exp2 (σ j - mx lse σ 2048))

/-- The new log-sum, relative to the offset. -/
def lseOf (lse : EReal) (σ : ℕ → EReal) : EReal :=
  mx lse σ 2048 + Ideal.div (Ideal.log (Ideal.exp2 (lse - mx lse σ 2048) + ∑ j ∈ Finset.range 2048, Ideal.exp2 (σ j - mx lse σ 2048))) (Ideal.log (Ideal.ofBits FTy.f32 1073741824#32))
    - Ideal.ofBits FTy.f32 1093664768#32

/-- A position as an index of an axis of 2048. -/
abbrev ax (j : ℕ) : Fin 2048 := ⟨j % 2048, Nat.mod_lt _ (by decide)⟩

theorem sup_range (σ : ℕ → EReal) : (Finset.range 2048).sup σ = Finset.fold max ⊥ (fun x : Fin 2048 => σ x.val) Finset.univ := by
  show _ = Finset.univ.sup fun x : Fin 2048 => σ x.val
  exact le_antisymm (Finset.sup_le fun j hj => Finset.le_sup (f := fun x : Fin 2048 => σ x.val) (Finset.mem_univ (⟨j, Finset.mem_range.mp hj⟩ : Fin 2048)))
    (Finset.sup_le fun x _ => Finset.le_sup (f := σ) (Finset.mem_range.mpr x.isLt))

/-- The arguments, axis by axis. -/
structure Args where
  q : Fin 6 → Fin 2048 → Fin 16 → Fin 128 → EReal
  qpos : Fin 6 → Fin 2048 → BitVec 32
  kpos : Fin 6 → Fin 2048 → BitVec 32
  w : Fin 6 → BitVec 32
  kc : Fin 6 → Fin 2048 → Fin 8 → Fin 128 → EReal
  ks : Fin 6 → Fin 2048 → Fin 8 → EReal
  vc : Fin 6 → Fin 2048 → Fin 8 → Fin 128 → EReal
  vs : Fin 6 → Fin 2048 → Fin 8 → EReal
  o : Fin 6 → Fin 2048 → Fin 16 → Fin 128 → EReal
  lse : Fin 6 → Fin 2048 → Fin 16 → EReal

/-- The arguments' axes of their arrays. -/
def argsOf (x0 : (⟨4, ![6, 2048, 16, 128]⟩ : Shape).Idx → EReal) (x1 x2 : (⟨2, ![6, 2048]⟩ : Shape).Idx → BitVec 32)
    (x3 : (⟨1, ![6]⟩ : Shape).Idx → BitVec 32) (x4 : (⟨4, ![6, 2048, 8, 128]⟩ : Shape).Idx → EReal)
    (x5 : (⟨3, ![6, 2048, 8]⟩ : Shape).Idx → EReal) (x6 : (⟨4, ![6, 2048, 8, 128]⟩ : Shape).Idx → EReal)
    (x7 : (⟨3, ![6, 2048, 8]⟩ : Shape).Idx → EReal) (x8 : (⟨4, ![6, 2048, 16, 128]⟩ : Shape).Idx → EReal)
    (x9 : (⟨3, ![6, 2048, 16]⟩ : Shape).Idx → EReal) : Args where
  q b i h d := x0 (ix4 b i h d)
  qpos b i := x1 (ix2 b i)
  kpos b j := x2 (ix2 b j)
  w b := x3 (ix1 b)
  kc b j n d := x4 (ix4 b j n d)
  ks b j n := x5 (ix3 b j n)
  vc b j n d := x6 (ix4 b j n d)
  vs b j n := x7 (ix3 b j n)
  o b i h d := x8 (ix4 b i h d)
  lse b i h := x9 (ix3 b i h)

/-- The head of keys a head of queries shares. -/
abbrev kvh (h : Fin 16) : Fin 8 := ⟨h.val / 2, by have := h.isLt; omega⟩

/-- A query row's scores. -/
def sig (A : Args) (b : Fin 6) (q : Fin 2048) (h : Fin 16) (j : ℕ) : EReal :=
  score (A.kpos b (ax j)) (A.qpos b q) (A.w b) (A.kc b (ax j) (kvh h)) (cdOf (A.q b q h)) (scOf (A.q b q h)) (A.ks b (ax j) (kvh h))

/-- The first result. -/
def res0 (A : Args) (b : Fin 6) (q : Fin 2048) (h : Fin 16) (d : Fin 128) : EReal :=
  outOf (A.lse b q h) (A.o b q h d) (sig A b q h) (fun j => A.vc b (ax j) (kvh h) d) (fun j => A.vs b (ax j) (kvh h))

/-- The second result. -/
def res1 (A : Args) (b : Fin 6) (q : Fin 2048) (h : Fin 16) : EReal := lseOf (A.lse b q h) (sig A b q h)

/-- The maximum over an axis of 2048. -/
theorem mx_eq (lse : EReal) (S : Fin 2048 → EReal) (σ : ℕ → EReal) (hS : ∀ x, S x = σ x.val) :
    Ideal.liftRound Int.ceil (max lse (Finset.fold max (Ideal.ofBits FTy.f32 4286578688#32) S Finset.univ)) = mx lse σ 2048 := by
  obtain rfl : S = fun x => σ x.val := funext hS
  unfold mx cl
  rw [sup_range, ofBits_neg_inf]

theorem out_eq (lse o : EReal) (S v vs : Fin 2048 → EReal) (σ V VS : ℕ → EReal) (hS : ∀ x, S x = σ x.val)
    (hv : ∀ x, v x = V x.val) (hvs : ∀ x, vs x = VS x.val) (M : EReal)
    (hM : M = Ideal.liftRound Int.ceil (max lse (Finset.fold max (Ideal.ofBits FTy.f32 4286578688#32) S Finset.univ))) :
    Ideal.div (o * Ideal.pow (Ideal.ofBits FTy.f32 1073741824#32) (lse - M)
        + ∑ x, v x * (Ideal.pow (Ideal.ofBits FTy.f32 1073741824#32) (S x - M) * vs x))
      (Ideal.pow (Ideal.ofBits FTy.f32 1073741824#32) (lse - M) + ∑ x, Ideal.pow (Ideal.ofBits FTy.f32 1073741824#32) (S x - M))
      = outOf lse o σ V VS := by
  rw [mx_eq lse S σ hS] at hM
  subst hM
  obtain rfl : S = fun x => σ x.val := funext hS
  obtain rfl : v = fun x => V x.val := funext hv
  obtain rfl : vs = fun x => VS x.val := funext hvs
  unfold outOf
  simp only [pow_two, Finset.sum_range]

theorem lse_eq (lse : EReal) (S : Fin 2048 → EReal) (σ : ℕ → EReal) (hS : ∀ x, S x = σ x.val) (M : EReal)
    (hM : M = Ideal.liftRound Int.ceil (max lse (Finset.fold max (Ideal.ofBits FTy.f32 4286578688#32) S Finset.univ))) :
    M + Ideal.div (Ideal.log (Ideal.pow (Ideal.ofBits FTy.f32 1073741824#32) (lse - M) + ∑ x, Ideal.pow (Ideal.ofBits FTy.f32 1073741824#32) (S x - M)))
      (Ideal.log (Ideal.ofBits FTy.f32 1073741824#32)) - Ideal.ofBits FTy.f32 1093664768#32 = lseOf lse σ := by
  rw [mx_eq lse S σ hS] at hM
  subst hM
  obtain rfl : S = fun x => σ x.val := funext hS
  unfold lseOf
  simp only [pow_two, Finset.sum_range]

theorem ax_val (x : Fin 2048) : ax x.val = x := Fin.ext (Nat.mod_eq_of_lt x.isLt)

end Cert.Spec

end
-- ==== Proof.KernelIdeal.Codes.lean ====
module

public import proofs.«01_k».proof.Proof.KernelIdeal.Fin
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.KernelIdeal.Gen

variable (m : (ℓ : Loc nD τ sig) → Buf (Elt Ideal) ℓ) (ρ : Dev nD → PrngReg)

/-! The query codes and scales. -/

theorem pay91_at (v : Vec Ideal S128x1x128 .bf16) (y : S1x128.Idx) : k0_pay91 v y = Spec.scOf fun x => v (ix3 (y 1) 0 x) := by
  unfold k0_pay91
  pointwise [k0_pay90]
  rfl

theorem pay96_at (v : Vec Ideal S128x1x128 .bf16) (y : S128x128.Idx) : k0_pay96 v y = Spec.cdOf (fun x => v (ix3 (y 1) 0 x)) (y 0) := by
  unfold k0_pay96
  pointwise [k0_pay94, k0_pay95]
  rfl

/-- A head's scale at a row. -/
theorem hSc_at (x0 : Vec Ideal S1x128x16x128 .bf16) (h : ℕ) (y : S1x128.Idx) :
    hSc x0 h y = Spec.scOf fun x => x0 (ix4 0 (y 1) ⟨h % 16, Nat.mod_lt _ (by decide)⟩ x) := pay91_at _ y

/-- A head's codes at a row. -/
theorem hCode_at (x0 : Vec Ideal S1x128x16x128 .bf16) (h : ℕ) (y : S128x128.Idx) :
    hCode x0 h y = Spec.cdOf (fun x => x0 (ix4 0 (y 1) ⟨h % 16, Nat.mod_lt _ (by decide)⟩ x)) (y 0) := pay96_at _ y

/-- The arguments of device `c`. -/
def argsAt (c : Dev nD) : Spec.Args := Spec.argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem V_arg0 (c : Dev nD) : V m c main_arg0 = m ((c : Thread nD τ).loc main_arg0) := rfl

/-- A query row of a block. -/
theorem row_at (hO : Ok m) (c : Dev nD) (t : Fin (cfgM m hO).N) (b : Fin 6) (hb : b.val = t.val / 16) (q : Fin 2048) (r : Fin 128)
    (hq : q.val = 128 * (t.val % 16) + r.val) (h : Fin 16) (z : Fin 1) :
    (fun x => iblk m hO c 0 t (ix4 z r h x)) = (argsAt m c).q b q h := by
  funext x
  refine (blk0 m hO c t _).trans ?_
  exact congrArg₂ (fun (b : Fin 6) (q : Fin 2048) => m ((c : Thread nD τ).loc main_arg0) (ix4 b q h x)) (Fin.ext hb.symm) (Fin.ext hq.symm)

theorem fin9_eq (hO : Ok m) (c : Dev nD) : fin9 m hO c = fun i : S6x2048x16x128.Idx => Spec.cdOf ((argsAt m c).q (i 0) (i 1) (i 2)) (i 3) := by
  funext i
  have hb : (i 0).val < 6 := (i 0).isLt
  have hq : (i 1).val < 2048 := (i 1).isLt
  have hh : (⟨(i 2).val % 16, Nat.mod_lt _ (by decide)⟩ : Fin 16) = i 2 := Fin.ext (Nat.mod_eq_of_lt (show (i 2).val < 16 from (i 2).isLt))
  refine (hCode_at _ _ _).trans ?_
  refine congrArg (fun f => Spec.cdOf f (i 3)) ?_
  refine (congrArg (fun h : Fin 16 => fun x => iblk m hO c 0 (ptOf m hO (i 0) (i 1)) (ix4 0 ⟨(i 1).val % 128, Nat.mod_lt _ (by decide)⟩ h x)) hh).trans ?_
  exact row_at m hO c (ptOf m hO (i 0) (i 1)) (i 0) (show (i 0).val = (16 * (i 0).val + (i 1).val / 128) / 16 by omega) (i 1) ⟨(i 1).val % 128, Nat.mod_lt _ (by decide)⟩
    (show (i 1).val = 128 * ((16 * (i 0).val + (i 1).val / 128) % 16) + (i 1).val % 128 by omega) (i 2) 0

theorem fin10_eq (hO : Ok m) (c : Dev nD) : fin10 m hO c = fun i : S6x16x2048.Idx => Spec.scOf ((argsAt m c).q (i 0) (i 2) (i 1)) := by
  funext i
  have hb : (i 0).val < 6 := (i 0).isLt
  have hq : (i 2).val < 2048 := (i 2).isLt
  have hh : (⟨(i 1).val % 16, Nat.mod_lt _ (by decide)⟩ : Fin 16) = i 1 := Fin.ext (Nat.mod_eq_of_lt (show (i 1).val < 16 from (i 1).isLt))
  have e : fin10 m hO c i = hSc (iblk m hO c 0 (ptOf m hO (i 0) (i 2))) (i 1).val (ix2 0 ⟨(i 2).val % 128, Nat.mod_lt _ (by decide)⟩) := by
    unfold fin10 blkOf10 blockSc
    rfl
  refine e.trans ((hSc_at _ _ _).trans ?_)
  refine congrArg Spec.scOf ?_
  refine (congrArg (fun h : Fin 16 => fun x => iblk m hO c 0 (ptOf m hO (i 0) (i 2)) (ix4 0 ⟨(i 2).val % 128, Nat.mod_lt _ (by decide)⟩ h x)) hh).trans ?_
  exact row_at m hO c (ptOf m hO (i 0) (i 2)) (i 0) (show (i 0).val = (16 * (i 0).val + (i 2).val / 128) / 16 by omega) (i 2) ⟨(i 2).val % 128, Nat.mod_lt _ (by decide)⟩
    (show (i 2).val = 128 * ((16 * (i 0).val + (i 2).val / 128) % 16) + (i 2).val % 128 by omega) (i 1) 0

end Cert.KernelIdeal.Gen

end
-- ==== Proof.Mask.lean ====
module

public import Idealize.ShloMosaic.Lib.Affine
public import Idealize.ShloMosaic.Lib.Pointwise
public import proofs.«01_k».proof.Proof.KernelIdeal.Trip

@[expose] public section

namespace Cert.Mask

open Idealize.ShloMosaic

/-! The kernel's mask, from a block's first positions, against the mask read key by key. -/

theorem toInt_small (a : BitVec 32) (h : a.toNat < 2 ^ 29) : a.toInt = a.toNat := by
  rw [BitVec.toInt_eq_toNat_cond]; split <;> omega

/-- The kernel's distance of key `x` of a block from query `l` of a tile. -/
theorem dist (k q : BitVec 32) (hk : k.toNat < 2 ^ 29) (hq : q.toNat < 2 ^ 29) (x l : ℕ) (hx : x < 256) (hl : l < 128) :
    (IntOp.subi (IntOp.addi (Scalar.subi k q) (BitVec.ofNat 32 x)) (BitVec.ofNat 32 l)).toInt = (k.toNat + x : ℤ) - (q.toNat + l) := by
  have e : (IntOp.subi (IntOp.addi (Scalar.subi k q) (BitVec.ofNat 32 x)) (BitVec.ofNat 32 l)) = k - q + BitVec.ofNat 32 x - BitVec.ofNat 32 l := rfl
  rw [e, BitVec.toInt_eq_toNat_cond]
  simp only [BitVec.toNat_sub, BitVec.toNat_add, BitVec.toNat_ofNat]
  split <;> omega

theorem neg_small (w : BitVec 32) (hw : w.toNat < 2 ^ 29) : (Scalar.subi 0#32 w).toInt = -(w.toNat : ℤ) := by
  have e : Scalar.subi 0#32 w = 0#32 - w := rfl
  rw [e, BitVec.toInt_eq_toNat_cond]
  simp only [BitVec.toNat_sub, BitVec.toNat_ofNat]
  split <;> omega

theorem sub_small (q w : BitVec 32) (hq : q.toNat < 2 ^ 29) (hw : w.toNat < 2 ^ 29) : (IntOp.subi q w).toInt = (q.toNat : ℤ) - w.toNat := by
  have e : IntOp.subi q w = q - w := rfl
  rw [e, BitVec.toInt_eq_toNat_cond]
  simp only [BitVec.toNat_sub]
  split <;> omega

theorem plus (k : BitVec 32) (n : ℕ) (hn : n < 1024) (hk : k.toNat < 2 ^ 29) :
    (IntOp.subi (IntOp.addi k (BitVec.ofNat 32 n)) 1#32).toInt = (k.toNat + n : ℤ) - 1 := by
  have e : IntOp.subi (IntOp.addi k (BitVec.ofNat 32 n)) 1#32 = k + BitVec.ofNat 32 n - 1#32 := rfl
  rw [e, BitVec.toInt_eq_toNat_cond]
  simp only [BitVec.toNat_sub, BitVec.toNat_add, BitVec.toNat_ofNat]
  split <;> omega

theorem bit_ext (a b : BitVec 1) (h : a = 1#1 ↔ b = 1#1) : a = b := by
  revert h; revert a b; decide

/-- The two masks agree. -/
theorem mask_eq (k q w k' q' : BitVec 32) (x l : ℕ) (hx : x < 256) (hl : l < 128) (hk : k.toNat < 2 ^ 29) (hq : q.toNat < 2 ^ 29) (hw : w.toNat < 2 ^ 29)
    (hk' : k'.toNat < 2 ^ 29) (hq' : q'.toNat < 2 ^ 29) (ek : k'.toNat = k.toNat + x) (eq : q'.toNat = q.toNat + l) :
    IntOp.andi (IntOp.cmpi .sle (IntOp.subi (IntOp.addi (Scalar.subi k q) (BitVec.ofNat 32 x)) (BitVec.ofNat 32 l)) 0#32)
        (IntOp.cmpi .sgt (IntOp.subi (IntOp.addi (Scalar.subi k q) (BitVec.ofNat 32 x)) (BitVec.ofNat 32 l)) (Scalar.subi 0#32 w))
      = IntOp.andi (IntOp.cmpi .sle k' q') (IntOp.cmpi .sgt k' (IntOp.subi q' w)) := by
  refine bit_ext _ _ ?_
  rw [IntOp.andi_eq_one, IntOp.andi_eq_one, IntOp.cmpi_sle, IntOp.cmpi_sle, IntOp.cmpi_sgt, IntOp.cmpi_sgt,
    dist k q hk hq x l hx hl, neg_small w hw, sub_small q' w hq' hw, toInt_small k' hk', toInt_small q' hq']
  have : (0#32 : BitVec 32).toInt = 0 := by decide
  rw [this]
  omega

/-- A block the kernel skips holds no visible key. -/
theorem dead (k q w k' q' : BitVec 32) (x l : ℕ) (hx : x < 256) (hl : l < 128) (hk : k.toNat < 2 ^ 29) (hq : q.toNat < 2 ^ 29) (hw : w.toNat < 2 ^ 29)
    (hk' : k'.toNat < 2 ^ 29) (hq' : q'.toNat < 2 ^ 29) (ek : k'.toNat = k.toNat + x) (eq : q'.toNat = q.toNat + l)
    (hd : ¬ Cert.KernelIdeal.Gen.blockLive w q k) :
    ¬ IntOp.andi (IntOp.cmpi .sle k' q') (IntOp.cmpi .sgt k' (IntOp.subi q' w)) = 1#1 := by
  intro h
  apply hd
  rw [IntOp.andi_eq_one, IntOp.cmpi_sle, IntOp.cmpi_sgt, sub_small q' w hq' hw, toInt_small k' hk', toInt_small q' hq'] at h
  unfold Cert.KernelIdeal.Gen.blockLive
  have g : IntOp.andi (IntOp.cmpi .sle k (IntOp.subi (IntOp.addi q 128#32) 1#32))
      (IntOp.cmpi .sgt (IntOp.subi (IntOp.addi k 256#32) 1#32) (IntOp.subi q w)) = 1#1 := by
    rw [IntOp.andi_eq_one, IntOp.cmpi_sle, IntOp.cmpi_sgt, sub_small q w hq hw, toInt_small k hk, plus q 128 (by omega) hq, plus k 256 (by omega) hk]
    omega
  exact (congrArg (fun a : BitVec 1 => Scalar.cmpi CmpIPredicate.ne (Scalar.extui a) (0#32 : BitVec 32)) g).trans (by decide)

end Cert.Mask

end
-- ==== Proof.KernelIdeal.Column.lean ====
module

public import proofs.«01_k».proof.Proof.KernelIdeal.Codes
public import proofs.«01_k».proof.Proof.Mask

@[expose] public section

set_option maxRecDepth 16384

noncomputable section

open Idealize.ShloMosaic Idealize.ShloMosaic.TcCoe Idealize.SL.Sem Cert.Flash

namespace Cert.KernelIdeal.Gen

/-! One column of a key head's carried arrays: a query row of one of its two query heads. -/

/-- The mask word of key `x` of a block against query `l` of a tile. -/
abbrev okWord (w q0 k0 : BitVec 32) (x l : ℕ) : BitVec 1 :=
  IntOp.andi (IntOp.cmpi .sle (IntOp.subi (IntOp.addi (Scalar.subi k0 q0) (BitVec.ofNat 32 x)) (BitVec.ofNat 32 l)) 0#32)
    (IntOp.cmpi .sgt (IntOp.subi (IntOp.addi (Scalar.subi k0 q0) (BitVec.ofNat 32 x)) (BitVec.ofNat 32 l)) (Scalar.subi 0#32 w))

section
variable (w q0 : Elt Ideal .i32) (qt : FVec Ideal S128x256 .fp8e4m3) (qs : FVec Ideal S1x256 .f32) (m l : FVec Ideal S1x256 .f32) (k0 : Elt Ideal .i32)
  (kb : Vec Ideal S1x256x128 .fp8e4m3) (ks : Vec Ideal S1x256x128 .f32)

theorem pay42_at (y : S256x256.Idx) (r : Fin 128) (hr : r.val = (y 1).val % 128) :
    k0_pay42 w q0 qt qs k0 kb ks y = ((∑ x, kb (ix3 0 (y 0) x) * qt (ix2 x (y 1))) * ks (ix3 0 (y 0) r)) * qs (ix2 0 (y 1))
      + Scalar.select (okWord w q0 k0 (y 0).val r.val) (0 : EReal) ⊥ := by
  have hy : (y 1).val < 256 := (y 1).isLt
  unfold k0_pay42
  pointwise
  rw [ofBits_neg_inf]
  by_cases h : (y 1).val < 128
  · obtain rfl : r = ⟨(y 1).val, h⟩ := Fin.ext (show r.val = (y 1).val from by omega)
    simp only [dif_pos h]
  · have hlt : (y 1).val - 128 < 128 := by clear hr; omega
    obtain rfl : r = ⟨(y 1).val - 128, hlt⟩ := Fin.ext (show r.val = (y 1).val - 128 from by omega)
    simp only [dif_neg h]

theorem pay43_at (y : S1x256.Idx) :
    k0_pay43 w q0 qt qs m k0 kb ks y = max (m y) (cl (Finset.univ.sup fun x : Fin 256 => k0_pay42 w q0 qt qs k0 kb ks (ix2 x (y 1)))) := by
  unfold k0_pay43
  pointwise
  rw [ofBits_neg_inf]
  rfl

theorem pay44_at (y : S256x256.Idx) :
    k0_pay44 w q0 qt qs m k0 kb ks y = Ideal.exp2 (k0_pay42 w q0 qt qs k0 kb ks y - k0_pay43 w q0 qt qs m k0 kb ks (ix2 0 (y 1))) := by
  unfold k0_pay44
  pointwise
  rfl

theorem pay45_at (y : S1x256.Idx) :
    k0_pay45 w q0 qt qs m k0 kb ks y = Ideal.exp2 (m y - k0_pay43 w q0 qt qs m k0 kb ks y) := by
  unfold k0_pay45
  pointwise
  rfl

theorem pay46_at (y : S1x256.Idx) :
    k0_pay46 w q0 qt qs m l k0 kb ks y = l y * k0_pay45 w q0 qt qs m k0 kb ks y + ∑ x : Fin 256, k0_pay44 w q0 qt qs m k0 kb ks (ix2 x (y 1)) := by
  unfold k0_pay46
  pointwise

theorem pay110_at (acc : FVec Ideal S128x256 .f32) (vs : Vec Ideal S1x256x128 .f32) (p : FVec Ideal S256x256 .f32) (a : FVec Ideal S1x256 .f32) (vt : Vec Ideal S1x128x256 .bf16)
    (y : S128x256.Idx) (r : Fin 128) (hr : r.val = (y 1).val % 128) :
    k0_pay110 acc (k0_pay41 vs) p a vt y = acc y * a (ix2 0 (y 1)) + ∑ x : Fin 256, vt (ix3 0 (y 0) x) * (p (ix2 x (y 1)) * vs (ix3 0 x r)) := by
  have hy : (y 1).val < 256 := (y 1).isLt
  unfold k0_pay110
  pointwise [k0_pay41]
  by_cases h : (y 1).val < 128
  · obtain rfl : r = ⟨(y 1).val, h⟩ := Fin.ext (show r.val = (y 1).val from by omega)
    simp only [dif_pos h]
  · have hlt : (y 1).val - 128 < 128 := by clear hr; omega
    obtain rfl : r = ⟨(y 1).val - 128, hlt⟩ := Fin.ext (show r.val = (y 1).val - 128 from by omega)
    simp only [dif_neg h]

end

/-- A column after every block: the maximum, the sum and the accumulator over all keys. -/
theorem column (X3 : Vec Ideal S6x2048 .i32) (b : ℕ) (w q0 : Elt Ideal .i32) (qt : FVec Ideal S128x256 .fp8e4m3) (qs : FVec Ideal S1x256 .f32)
    (xs0 : Vec Ideal S4x2048x256 .fp8e4m3) (xs1 : Vec Ideal S8x128x2048 .bf16) (xs2 xs3 : Vec Ideal S8x2048x128 .f32) (n : ℕ) (init : Carry Ideal)
    (p : Fin 256) (r : Fin 128) (hr : r.val = p.val % 128) (d : Fin 128) (lse : EReal) (σ v vs : ℕ → EReal)
    (i0 : init.1 (ix2 0 p) = cl lse) (i1 : init.2.1 (ix2 0 p) = 0) (i2 : init.2.2 (ix2 d p) = 0)
    (hσ : ∀ k < 8, ∀ x : Fin 256, ((∑ e, keysAt xs0 n k (ix3 0 x e) * qt (ix2 e p)) * rowsAt xs2 n k (ix3 0 x r)) * qs (ix2 0 p)
      + Scalar.select (okWord w q0 (posWord (F := Ideal) X3 b (256 * k)) x.val r.val) (0 : EReal) ⊥ = σ (256 * k + x.val))
    (hd : ∀ k < 8, ¬ blockLive w q0 (posWord (F := Ideal) X3 b (256 * k)) → ∀ x : Fin 256, σ (256 * k + x.val) = ⊥)
    (hv : ∀ k < 8, ∀ x : Fin 256, valsAt xs1 n k (ix3 0 d x) = v (256 * k + x.val))
    (hvs : ∀ k < 8, ∀ x : Fin 256, rowsAt xs3 n k (ix3 0 x r) = vs (256 * k + x.val)) :
    (runTo (nextAt X3 b xs0 xs1 xs2 xs3 n w q0 qt qs) init 8).1 (ix2 0 p) = mx lse σ 2048
      ∧ (runTo (nextAt X3 b xs0 xs1 xs2 xs3 n w q0 qt qs) init 8).2.1 (ix2 0 p) = ∑ j ∈ Finset.range 2048, Ideal.exp2 (σ j - mx lse σ 2048)
      ∧ (runTo (nextAt X3 b xs0 xs1 xs2 xs3 n w q0 qt qs) init 8).2.2 (ix2 d p) = ∑ j ∈ Finset.range 2048, v j * (Ideal.exp2 (σ j - mx lse σ 2048) * vs j) := by
  have s42 : ∀ k < 8, ∀ x : Fin 256, k0_pay42 w q0 qt qs (posWord (F := Ideal) X3 b (256 * k)) (keysAt xs0 n k) (rowsAt xs2 n k) (ix2 x p) = σ (256 * k + x.val) :=
    fun k hk x => (pay42_at w q0 qt qs _ _ _ (ix2 x p) r hr).trans (hσ k hk x)
  have step : ∀ k, blockLive w q0 (posWord (F := Ideal) X3 b (256 * k)) → runTo (nextAt X3 b xs0 xs1 xs2 xs3 n w q0 qt qs) init (k + 1)
      = liveNext w q0 qt qs (posWord (F := Ideal) X3 b (256 * k)) (keysAt xs0 n k) (rowsAt xs2 n k) (rowsAt xs3 n k) (valsAt xs1 n k) (runTo (nextAt X3 b xs0 xs1 xs2 xs3 n w q0 qt qs) init k) :=
    fun k hl => if_pos hl
  have stay : ∀ k, ¬ blockLive w q0 (posWord (F := Ideal) X3 b (256 * k)) → runTo (nextAt X3 b xs0 xs1 xs2 xs3 n w q0 qt qs) init (k + 1)
      = runTo (nextAt X3 b xs0 xs1 xs2 xs3 n w q0 qt qs) init k := fun k hl => if_neg hl
  have hm : ∀ k < 8, blockLive w q0 (posWord (F := Ideal) X3 b (256 * k)) → (runTo (nextAt X3 b xs0 xs1 xs2 xs3 n w q0 qt qs) init (k + 1)).1 (ix2 0 p)
      = max ((runTo (nextAt X3 b xs0 xs1 xs2 xs3 n w q0 qt qs) init k).1 (ix2 0 p)) (cl (Finset.univ.sup fun x : Fin 256 => σ (256 * k + x.val))) := by
    intro k hk hl
    rw [step k hl]
    refine (pay43_at w q0 qt qs _ _ _ _ (ix2 0 p)).trans ?_
    exact congrArg (fun f : Fin 256 → EReal => max _ (cl (Finset.univ.sup f))) (funext fun x => s42 k hk x)
  have key := flash lse σ v vs (fun k => blockLive w q0 (posWord (F := Ideal) X3 b (256 * k)))
    (fun k => (runTo (nextAt X3 b xs0 xs1 xs2 xs3 n w q0 qt qs) init k).1 (ix2 0 p))
    (fun k => (runTo (nextAt X3 b xs0 xs1 xs2 xs3 n w q0 qt qs) init k).2.1 (ix2 0 p))
    (fun k => (runTo (nextAt X3 b xs0 xs1 xs2 xs3 n w q0 qt qs) init k).2.2 (ix2 d p)) i0 i1 i2 8 hm ?_ ?_ ?_ 8 le_rfl
  · exact key
  · intro k hk hl
    have e := congrArg (fun s : Carry Ideal => s.1 (ix2 0 p)) (step k hl)
    show (runTo (nextAt X3 b xs0 xs1 xs2 xs3 n w q0 qt qs) init (k + 1)).2.1 (ix2 0 p) = _
    beta_reduce
    rw [e, step k hl]
    refine (pay46_at w q0 qt qs _ _ _ _ _ (ix2 0 p)).trans ?_
    refine congrArg₂ (fun a c : EReal => _ * a + c) (pay45_at w q0 qt qs _ _ _ _ (ix2 0 p)) (Finset.sum_congr rfl fun x _ => ?_)
    exact (pay44_at w q0 qt qs _ _ _ _ (ix2 x p)).trans (congrArg (fun a : EReal => Ideal.exp2 (a - _)) (s42 k hk x))
  · intro k hk hl
    have e := congrArg (fun s : Carry Ideal => s.1 (ix2 0 p)) (step k hl)
    beta_reduce
    rw [e, step k hl]
    refine (pay110_at _ _ _ _ _ (ix2 d p) r hr).trans ?_
    refine congrArg₂ (fun a c : EReal => _ * a + c) (pay45_at w q0 qt qs _ _ _ _ (ix2 0 p)) (Finset.sum_congr rfl fun x _ => ?_)
    refine congrArg₂ (fun a c : EReal => a * c) (hv k hk x) (congrArg₂ (fun a c : EReal => a * c) ?_ (hvs k hk x))
    exact (pay44_at w q0 qt qs _ _ _ _ (ix2 x p)).trans (congrArg (fun a : EReal => Ideal.exp2 (a - _)) (s42 k hk x))
  · intro k hk hl
    beta_reduce
    rw [stay k hl]
    exact ⟨rfl, rfl, rfl, hd k hk hl⟩

end Cert.KernelIdeal.Gen

end
-- ==== Proof.KernelIdeal.Words.lean ====
module

public import proofs.«01_k».proof.Proof.KernelIdeal.Codes

@[expose] public section

set_option maxRecDepth 16384

noncomputable section

open Idealize.ShloMosaic Idealize.ShloMosaic.TcCoe Idealize.SL.Sem

namespace Cert.KernelIdeal.Gen

variable {F : FTy → Type} [FloatOps F]

/-! The words a point reads from the tables. -/

theorem off41 : ∀ t : Fin grid0.N, k0_off41 (grid0.coords t) = ![t.val / 16] := by decide +kernel
theorem off42 : ∀ t : Fin grid0.N, k0_off42 (grid0.coords t) = ![t.val / 16, 128 * (t.val % 16)] := by decide +kernel
theorem coord0 : ∀ t : Fin grid0.N, (grid0.coords t 0).val = t.val / 16 := by decide +kernel

theorem windowWord (c : Dev nD) (t : Fin grid0.N) (b : Fin 6) (hb : b.val = t.val / 16) (xt2 : TbBuf0 (F := F) c tbM0_2) :
    kernelRun0.sl.r c (grid0.coords t) xt2 = (xt2 : Vec F S6 .i32) (ix1 b) := by
  unfold kernelRun0.sl.r
  refine congrArg (xt2 : Vec F S6 .i32) (funext fun a => Fin.ext ?_)
  match a with
  | ⟨0, _⟩ => show k0_off41 (grid0.coords t) 0 + 1 * 0 = b.val; rw [off41 t, hb]; rfl

theorem queryWord (c : Dev nD) (t : Fin grid0.N) (b : Fin 6) (hb : b.val = t.val / 16) (q : Fin 2048) (hq : q.val = 128 * (t.val % 16)) (xt0 : TbBuf0 (F := F) c tbM0_0) :
    kernelRun0.sl.r_1 c (grid0.coords t) xt0 = (xt0 : Vec F S6x2048 .i32) (ix2 b q) := by
  unfold kernelRun0.sl.r_1
  refine congrArg (xt0 : Vec F S6x2048 .i32) (funext fun a => Fin.ext ?_)
  match a with
  | ⟨0, _⟩ => show k0_off42 (grid0.coords t) 0 + 1 * 0 = b.val; rw [off42 t, hb]; rfl
  | ⟨1, _⟩ => show k0_off42 (grid0.coords t) 1 + 1 * 0 = q.val; rw [off42 t, hq]; rfl

end Cert.KernelIdeal.Gen

end
-- ==== Proof.KernelIdeal.Inputs.lean ====
module

public import proofs.«01_k».proof.Proof.KernelIdeal.Column
public import proofs.«01_k».proof.Proof.KernelIdeal.Words

@[expose] public section

set_option maxRecDepth 16384

noncomputable section

open Idealize.ShloMosaic Idealize.ShloMosaic.TcCoe Idealize.SL.Sem Cert.Flash

namespace Cert.KernelIdeal.Gen

variable (m : (ℓ : Loc nD τ sig) → Buf (Elt Ideal) ℓ)

/-! What a point's blocks and scratch hold, from the arguments. -/

theorem V_v0_at (c : Dev nD) (i : S6x8x2048.Idx) : V m c main_v0 i = m ((c : Thread nD τ).loc main_arg5) (ix3 (i 0) (i 2) (i 1)) := by
  rw [V_main_v0]
  pointwise
theorem V_v1_at (c : Dev nD) (i : S6x8x2048.Idx) : V m c main_v1 i = m ((c : Thread nD τ).loc main_arg7) (ix3 (i 0) (i 2) (i 1)) := by
  rw [V_main_v1]
  pointwise
theorem V_v2_at (c : Dev nD) (i : S6x16x2048.Idx) : V m c main_v2 i = m ((c : Thread nD τ).loc main_arg9) (ix3 (i 0) (i 2) (i 1)) := by
  rw [V_main_v2]
  pointwise

section
variable (hO : Ok m) (c : Dev nD) (t : Fin (cfgM m hO).N) (b : Fin 6) (hb : b.val = t.val / 16)
include hb

theorem base_b : b.val = (base m hO t).val / 16 := by
  show b.val = 16 * (t.val / 16) / 16
  omega

theorem keys_val (n : Fin 8) (k : ℕ) (x : Fin 256) (e : Fin 128) :
    keysAt (scr0 m hO c t) n.val k (ix3 0 x e) = (argsAt m c).kc b (Spec.ax (256 * k + x.val)) n e := by
  have hn := n.isLt
  have he := e.isLt
  refine (blk1 m hO c (base m hO t) _).trans ((congrFun (V_main_arg4 m c) _).trans ?_)
  refine congrArg (m ((c : Thread nD τ).loc main_arg4)) (funext fun a => Fin.ext ?_)
  match a with
  | ⟨0, _⟩ => exact (base_b m hO t b hb).symm
  | ⟨1, _⟩ => rfl
  | ⟨2, _⟩ => show 2 * (n.val / 2 % 4) + (n.val % 2 * 128 + e.val) % 256 / 128 = n.val; omega
  | ⟨3, _⟩ => show (n.val % 2 * 128 + e.val) % 256 % 128 = e.val; omega

theorem vals_val (n : Fin 8) (k : ℕ) (d : Fin 128) (x : Fin 256) :
    valsAt (scr1 m hO c t) n.val k (ix3 0 d x) = (argsAt m c).vc b (Spec.ax (256 * k + x.val)) n d := by
  have hn := n.isLt
  refine (blk2 m hO c (base m hO t) _).trans ((congrFun (V_main_arg6 m c) _).trans ?_)
  refine congrArg (m ((c : Thread nD τ).loc main_arg6)) (funext fun a => Fin.ext ?_)
  match a with
  | ⟨0, _⟩ => exact (base_b m hO t b hb).symm
  | ⟨1, _⟩ => rfl
  | ⟨2, _⟩ => show n.val % 8 = n.val; omega
  | ⟨3, _⟩ => rfl

theorem kscale_val (n : Fin 8) (k : ℕ) (x : Fin 256) (r : Fin 128) :
    rowsAt (scr2 m hO c t) n.val k (ix3 0 x r) = (argsAt m c).ks b (Spec.ax (256 * k + x.val)) n := by
  have hn := n.isLt
  refine (blk3 m hO c (base m hO t) _).trans ((V_v0_at m c _).trans ?_)
  refine congrArg (m ((c : Thread nD τ).loc main_arg5)) (funext fun a => Fin.ext ?_)
  match a with
  | ⟨0, _⟩ => exact (base_b m hO t b hb).symm
  | ⟨1, _⟩ => rfl
  | ⟨2, _⟩ => show n.val % 8 = n.val; omega

theorem vscale_val (n : Fin 8) (k : ℕ) (x : Fin 256) (r : Fin 128) :
    rowsAt (scr3 m hO c t) n.val k (ix3 0 x r) = (argsAt m c).vs b (Spec.ax (256 * k + x.val)) n := by
  have hn := n.isLt
  refine (blk4 m hO c (base m hO t) _).trans ((V_v1_at m c _).trans ?_)
  refine congrArg (m ((c : Thread nD τ).loc main_arg7)) (funext fun a => Fin.ext ?_)
  match a with
  | ⟨0, _⟩ => exact (base_b m hO t b hb).symm
  | ⟨1, _⟩ => rfl
  | ⟨2, _⟩ => show n.val % 8 = n.val; omega

variable (q : Fin 2048) (r : Fin 128) (hq : q.val = 128 * (t.val % 16) + r.val) (h : Fin 16)
include hq

theorem lse_val : rowOf (iblk m hO c 6 t) h.val (ix2 0 r) = (argsAt m c).lse b q h := by
  have hh := h.isLt
  refine (blk6 m hO c t _).trans ((V_v2_at m c _).trans ?_)
  refine congrArg (m ((c : Thread nD τ).loc main_arg9)) (funext fun a => Fin.ext ?_)
  match a with
  | ⟨0, _⟩ => exact hb.symm
  | ⟨1, _⟩ => exact hq.symm
  | ⟨2, _⟩ => show h.val % 16 = h.val; omega

theorem o_val (d : Fin 128) : oh (iblk m hO c 5 t) h.val (ix2 r d) = (argsAt m c).o b q h d := by
  have hh := h.isLt
  refine (blk5 m hO c t _).trans ((congrFun (V_main_arg8 m c) _).trans ?_)
  refine congrArg (m ((c : Thread nD τ).loc main_arg8)) (funext fun a => Fin.ext ?_)
  match a with
  | ⟨0, _⟩ => exact hb.symm
  | ⟨1, _⟩ => exact hq.symm
  | ⟨2, _⟩ => show h.val % 16 = h.val; omega
  | ⟨3, _⟩ => rfl

theorem head_row : (fun x => iblk m hO c 0 t (ix4 0 r ⟨h.val % 16, Nat.mod_lt _ (by decide)⟩ x)) = (argsAt m c).q b q h :=
  (congrArg (fun h : Fin 16 => fun x => iblk m hO c 0 t (ix4 0 r h x)) (Fin.ext (Nat.mod_eq_of_lt h.isLt))).trans (row_at m hO c t b hb q r hq h 0)

theorem code_val (e : Fin 128) : hCode (iblk m hO c 0 t) h.val (ix2 e r) = Spec.cdOf ((argsAt m c).q b q h) e :=
  (hCode_at _ _ _).trans (congrArg (fun f => Spec.cdOf f e) (head_row m hO c t b hb q r hq h))

theorem scale_val : rowOf (blockSc (iblk m hO c 0 t)) h.val (ix2 0 r) = Spec.scOf ((argsAt m c).q b q h) := by
  have e : rowOf (blockSc (iblk m hO c 0 t)) h.val (ix2 0 r) = hSc (iblk m hO c 0 t) (h.val % 16) (ix2 0 r) := by
    unfold rowOf blockSc
    rfl
  rw [e, Nat.mod_eq_of_lt h.isLt]
  exact (hSc_at _ _ _).trans (congrArg Spec.scOf (head_row m hO c t b hb q r hq h))

end

/-! The tables' words. -/

theorem tbl_q (c : Dev nD) (b : Fin 6) (q : Fin 2048) : (tbl m 0 : Vec Ideal S6x2048 .i32) (ix2 b q) = (argsAt m c).qpos b q := by
  obtain rfl : c = 0 := Subsingleton.elim _ _; rfl
theorem tbl_k (c : Dev nD) (b : Fin 6) (j : Fin 2048) : (tbl m 1 : Vec Ideal S6x2048 .i32) (ix2 b j) = (argsAt m c).kpos b j := by
  obtain rfl : c = 0 := Subsingleton.elim _ _; rfl
theorem tbl_w (c : Dev nD) (b : Fin 6) : (tbl m 2 : Vec Ideal S6 .i32) (ix1 b) = (argsAt m c).w b := by
  obtain rfl : c = 0 := Subsingleton.elim _ _; rfl

end Cert.KernelIdeal.Gen

end
-- ==== Proof.Positions.lean ====
module

public import proofs.«01_k».proof.Pre_positions
public import Idealize.ShloMosaic.Lib.ReduceAll
public import Idealize.ShloMosaic.Lib.Pointwise

@[expose] public section

namespace Cert.Pre_positions

open Idealize.ShloMosaic

/-! What the precondition says of the position arrays. -/

theorem facts : Facts where
  shapeCasts_S6x2048_S6x16x128 := by decide
  shapeCasts_S6x2048_S6x8x256 := by decide
  slices_S6x16x128_S6x16x1_0_0_0 := by decide
  bcast_S128_S1x1x128_2 := by decide
  bcast_S6x16x1_S6x16x128_0_1_2 := by decide
  bcast_S1x1x128_S6x16x128_0_1_2 := by decide
  reducesTo_S6x16x128_S_d0_1_2 := by decide
  h_S_ := by decide
  slices_S6x8x256_S6x8x1_0_0_0 := by decide
  bcast_S256_S1x1x256_2 := by decide
  bcast_S6x8x1_S6x8x256_0_1_2 := by decide
  bcast_S1x1x256_S6x8x256_0_1_2 := by decide
  reducesTo_S6x8x256_S_d0_1_2 := by decide
  bcast_S_S6x2048 := by decide
  reducesTo_S6x2048_S_d0_1 := by decide
  bcast_S_S6 := by decide
  reducesTo_S6_S_d0 := by decide

/-- The positions: small, and consecutive within a tile of queries and within a block of keys. -/
structure Good (x1 x2 : IVec S6x2048 32) (x3 : IVec S6 32) : Prop where
  q_small : ∀ i, (x1 i).toNat < 2 ^ 29
  k_small : ∀ i, (x2 i).toNat < 2 ^ 29
  w_small : ∀ i, (x3 i).toNat < 2 ^ 29
  q_next : ∀ (b : Fin 6) (i : Fin 16) (r : Fin 128), (x1 (ix2 b ⟨128 * i.val + r.val, by omega⟩)).toNat = (x1 (ix2 b ⟨128 * i.val, by omega⟩)).toNat + r.val
  k_next : ∀ (b : Fin 6) (i : Fin 8) (r : Fin 256), (x2 (ix2 b ⟨256 * i.val + r.val, by omega⟩)).toNat = (x2 (ix2 b ⟨256 * i.val, by omega⟩)).toNat + r.val

theorem small (x : BitVec 32) (h : IntOp.andi (IntOp.cmpi .sge x 0#32) (IntOp.cmpi .slt x 536870912#32) = 1#1) : x.toNat < 2 ^ 29 := by
  rw [IntOp.andi_eq_one, IntOp.cmpi_sge, IntOp.cmpi_slt] at h
  have e0 : (0#32 : BitVec 32).toInt = 0 := by decide
  have e1 : (536870912#32 : BitVec 32).toInt = 536870912 := by decide
  rw [e0, e1] at h
  have := h.1
  have := h.2
  rw [BitVec.toInt_eq_toNat_cond] at *
  split at * <;> omega

theorem next (a c : BitVec 32) (r : ℕ) (hr : r < 256) (hc : c.toNat < 2 ^ 29) (h : IntOp.cmpi .eq a (IntOp.addi c (BitVec.ofNat 32 r)) = 1#1) :
    a.toNat = c.toNat + r := by
  rw [IntOp.cmpi_eq] at h
  have e : IntOp.addi c (BitVec.ofNat 32 r) = c + BitVec.ofNat 32 r := rfl
  rw [h, e, BitVec.toNat_add, BitVec.toNat_ofNat]
  omega

instance : Subsingleton S_.Idx := ⟨fun a b => funext fun i => i.elim0⟩

theorem good [hF : Facts] {F : FTy → Type} [FloatOps F] (x0 : FVec F S6x2048x16x128 .bf16) (x1 x2 : IVec S6x2048 32) (x3 : IVec S6 32) (x4 : FVec F S6x2048x8x128 .fp8e4m3)
    (x5 : FVec F S6x2048x8 .f32) (x6 : FVec F S6x2048x8x128 .fp8e4m3) (x7 : FVec F S6x2048x8 .f32) (x8 : FVec F S6x2048x16x128 .f32) (x9 : FVec F S6x2048x16 .f32)
    (h : fn x0 x1 x2 x3 x4 x5 x6 x7 x8 x9 = fun _ => 1#1) : Good x1 x2 x3 := by
  have e := congrFun h ix0
  unfold fn fn_part1 fn_part2 at e
  dsimp only [andi] at e
  rw [IntOp.andi_eq_one, IntOp.andi_eq_one, IntOp.andi_eq_one, IntOp.andi_eq_one] at e
  obtain ⟨⟨⟨⟨h1, h2⟩, h3⟩, h4⟩, h5⟩ := e
  have q_small : ∀ i, (x1 i).toNat < 2 ^ 29 := fun i => small _ (Host.reduce_andi_all _ _ _ _ _ h3 i)
  have k_small : ∀ i, (x2 i).toNat < 2 ^ 29 := fun i => small _ (Host.reduce_andi_all _ _ _ _ _ h4 i)
  refine ⟨q_small, k_small, fun i => small _ (Host.reduce_andi_all _ _ _ _ _ h5 i), fun b i r => ?_, fun b i r => ?_⟩
  · refine next _ _ r.val (by omega) (q_small _) ?_
    have g := Host.reduce_andi_all _ _ _ _ _ h1 (ix3 b i r)
    pointwise at g
    simpa only [Nat.mul_comm i.val 128] using g
  · refine next _ _ r.val (by omega) (k_small _) ?_
    have g := Host.reduce_andi_all _ _ _ _ _ h2 (ix3 b i r)
    pointwise at g
    simpa only [Nat.mul_comm i.val 256] using g

end Cert.Pre_positions

end
-- ==== Proof.KernelIdeal.Results.lean ====
module

public import proofs.«01_k».proof.Proof.KernelIdeal.Inputs
public import proofs.«01_k».proof.Proof.Positions

@[expose] public section

set_option maxRecDepth 16384

noncomputable section

open Idealize.ShloMosaic Idealize.ShloMosaic.TcCoe Idealize.SL.Sem Cert.Flash

namespace Cert.KernelIdeal.Gen

/-! The attention results of a point, from the arguments. -/

/-- A column's row among a pair of heads' rows. -/
theorem pick {α : Type} (f : ℕ → Fin 128 → α) (h p : ℕ) (r : Fin 128) (hp : p = 128 * (h % 2) + r.val) (h2 : ¬ p < 128 → p - 128 < 128) :
    (if hlt : p < 128 then f (2 * (h / 2)) ⟨p, hlt⟩ else f (2 * (h / 2) + 1) ⟨p - 128, h2 hlt⟩) = f h r := by
  have hr := r.isLt
  by_cases hlt : p < 128
  · rw [dif_pos hlt]
    have e : 2 * (h / 2) = h := by omega
    rw [e]
    exact congrArg (f h) (Fin.ext (show p = r.val by omega))
  · rw [dif_neg hlt]
    have e : 2 * (h / 2) + 1 = h := by omega
    have e2 : (⟨p - 128, h2 hlt⟩ : Fin 128) = r := Fin.ext (show p - 128 = r.val by omega)
    rw [e2, e]

theorem pay104_pick (f : ℕ → FVec Ideal S128x128 .fp8e4m3) (h : ℕ) (p : Fin 256) (r : Fin 128) (hp : p.val = 128 * (h % 2) + r.val) (e : Fin 128) :
    k0_pay104 (f (2 * (h / 2))) (f (2 * (h / 2) + 1)) (ix2 e p) = f h (ix2 e r) := by
  unfold k0_pay104
  pointwise
  exact pick (fun h r => f h (ix2 e r)) h p.val r hp _

theorem pay105_pick (f : ℕ → FVec Ideal S1x128 .f32) (h : ℕ) (p : Fin 256) (r : Fin 128) (hp : p.val = 128 * (h % 2) + r.val) :
    k0_pay105 (f (2 * (h / 2))) (f (2 * (h / 2) + 1)) (ix2 0 p) = f h (ix2 0 r) * Ideal.ofBits FTy.f32 1040356334#32 := by
  unfold k0_pay105
  pointwise
  exact congrArg (fun x : EReal => x * Ideal.ofBits FTy.f32 1040356334#32) (pick (fun h r => f h (ix2 0 r)) h p.val r hp _)

theorem pay107_pick (f : ℕ → FVec Ideal S1x128 .f32) (h : ℕ) (p : Fin 256) (r : Fin 128) (hp : p.val = 128 * (h % 2) + r.val) :
    k0_pay107 (F := Ideal) (f (2 * (h / 2))) (f (2 * (h / 2) + 1)) (ix2 0 p) = cl (f h (ix2 0 r)) := by
  unfold k0_pay107
  pointwise [k0_pay106]
  exact congrArg cl (pick (fun h r => f h (ix2 0 r)) h p.val r hp _)

theorem pay108_at (y : S1x256.Idx) : k0_pay108 (F := Ideal) y = 0 := by
  unfold k0_pay108
  pointwise
theorem pay109_at (y : S128x256.Idx) : k0_pay109 (F := Ideal) y = 0 := by
  unfold k0_pay109
  pointwise

/-- The output of a pair of heads at one of them. -/
theorem outBlk_pick (f : ℕ → FVec Ideal S1x128 .f32) (o : ℕ → FVec Ideal S128x128 .f32) (st : Carry Ideal) (h : ℕ) (p : Fin 256) (r : Fin 128)
    (hp : p.val = 128 * (h % 2) + r.val) (d : Fin 128) :
    outBlk (f (2 * (h / 2))) (f (2 * (h / 2) + 1)) (o (2 * (h / 2))) (o (2 * (h / 2) + 1)) st (ix4 0 r ⟨h % 2, Nat.mod_lt _ (by decide)⟩ d)
      = Ideal.div (o h (ix2 r d) * Ideal.exp2 (f h (ix2 0 r) - st.1 (ix2 0 p)) + st.2.2 (ix2 d p)) (st.2.1 (ix2 0 p) + Ideal.exp2 (f h (ix2 0 r) - st.1 (ix2 0 p))) := by
  have hr := r.isLt
  unfold outBlk k0_pay116
  pointwise [k0_pay115, k0_pay111, k0_pay112, k0_pay106]
  by_cases hh : h % 2 < 1
  · rw [dif_pos hh]
    have e : 2 * (h / 2) = h := by omega
    have ep : (⟨r.val, by omega⟩ : Fin 256) = p := Fin.ext (show r.val = p.val by omega)
    rw [e, ep]
    rfl
  · rw [dif_neg hh]
    have e : 2 * (h / 2) + 1 = h := by omega
    have ep : (⟨128 + r.val, by omega⟩ : Fin 256) = p := Fin.ext (show 128 + r.val = p.val by omega)
    rw [e, ep]
    rfl

theorem lse_pick (f : ℕ → FVec Ideal S1x128 .f32) (st : Carry Ideal) (h : ℕ) (p : Fin 256) (r : Fin 128) (hp : p.val = 128 * (h % 2) + r.val) :
    (if h % 2 = 0 then lseLo else lseHi) (f (2 * (h / 2))) (f (2 * (h / 2) + 1)) st (ix2 0 r)
      = st.1 (ix2 0 p) + Ideal.div (Ideal.log (st.2.1 (ix2 0 p) + Ideal.exp2 (f h (ix2 0 r) - st.1 (ix2 0 p)))) (Ideal.log (Ideal.ofBits FTy.f32 1073741824#32))
        - Ideal.ofBits FTy.f32 1093664768#32 := by
  have hr := r.isLt
  by_cases hh : h % 2 = 0
  · rw [if_pos hh]
    unfold lseLo k0_pay113
    pointwise [k0_pay111, k0_pay112, k0_pay106]
    have e : 2 * (h / 2) = h := by omega
    have ep : (⟨r.val, by omega⟩ : Fin 256) = p := Fin.ext (show r.val = p.val by omega)
    rw [e, ep]
    rfl
  · rw [if_neg hh]
    unfold lseHi k0_pay114
    pointwise [k0_pay111, k0_pay112, k0_pay106]
    have e : 2 * (h / 2) + 1 = h := by omega
    have ep : (⟨128 + r.val, by omega⟩ : Fin 256) = p := Fin.ext (show 128 + r.val = p.val by omega)
    rw [e, ep]
    rfl

/-- The kernel's score, as the reference spells it. -/
theorem score_eq (S ks qs cc : EReal) (a a' : BitVec 1) (ha : a = a') :
    (S * ks) * (qs * cc) + Scalar.select a (0 : EReal) ⊥ = Scalar.select a' (S * qs * ks * cc) ⊥ := by
  subst ha
  unfold Scalar.select
  split
  · rw [add_zero, mul_assoc, mul_assoc, mul_assoc, ← mul_assoc qs, mul_left_comm ks, mul_assoc]
  · exact EReal.add_bot _

variable (m : (ℓ : Loc nD τ sig) → Buf (Elt Ideal) ℓ)

/-- A query row's column, after every block. -/
theorem unit_at (hO : Ok m) (c : Dev nD) (good : Cert.Pre_positions.Good (m ((c : Thread nD τ).loc main_arg1)) (m ((c : Thread nD τ).loc main_arg2)) (m ((c : Thread nD τ).loc main_arg3)))
    (t : Fin (cfgM m hO).N) (b : Fin 6) (hb : b.val = t.val / 16) (q : Fin 2048) (r : Fin 128) (hq : q.val = 128 * (t.val % 16) + r.val) (h : Fin 16)
    (p : Fin 256) (hp : p.val = 128 * (h.val % 2) + r.val) (d : Fin 128) (st : Carry Ideal)
    (hst : st = unitFin (tbl m 1) (grid0.coords t 0).val (kernelRun0.sl.r c (grid0.coords t) (tbl m 2)) (kernelRun0.sl.r_1 c (grid0.coords t) (tbl m 0)) (iblk m hO c 0 t) (iblk m hO c 6 t)
      (scr0 m hO c t) (scr1 m hO c t) (scr2 m hO c t) (scr3 m hO c t) (h.val / 2)) :
    st.1 (ix2 0 p) = mx ((argsAt m c).lse b q h) (Spec.sig (argsAt m c) b q h) 2048
      ∧ st.2.1 (ix2 0 p) = ∑ j ∈ Finset.range 2048, Ideal.exp2 (Spec.sig (argsAt m c) b q h j - mx ((argsAt m c).lse b q h) (Spec.sig (argsAt m c) b q h) 2048)
      ∧ st.2.2 (ix2 d p) = ∑ j ∈ Finset.range 2048, (argsAt m c).vc b (Spec.ax j) (Spec.kvh h) d
          * (Ideal.exp2 (Spec.sig (argsAt m c) b q h j - mx ((argsAt m c).lse b q h) (Spec.sig (argsAt m c) b q h) 2048) * (argsAt m c).vs b (Spec.ax j) (Spec.kvh h)) := by
  have hr := r.isLt
  have ht : t.val < 96 := t.isLt
  have q0lt : 128 * (t.val % 16) < 2048 := by omega
  have hw : kernelRun0.sl.r c (grid0.coords t) (tbl m 2) = (argsAt m c).w b := (windowWord c t b hb (tbl m 2)).trans (tbl_w m c b)
  have hq0 : kernelRun0.sl.r_1 c (grid0.coords t) (tbl m 0) = (argsAt m c).qpos b ⟨128 * (t.val % 16), q0lt⟩ :=
    (queryWord c t b hb ⟨128 * (t.val % 16), q0lt⟩ rfl (tbl m 0)).trans (tbl_q m c b _)
  have hk0 : ∀ k < 8, posWord (F := Ideal) (tbl m 1) (grid0.coords t 0).val (256 * k) = (argsAt m c).kpos b (Spec.ax (256 * k)) := by
    intro k hk
    refine Eq.trans ?_ (tbl_k m c b (Spec.ax (256 * k)))
    refine congrArg (fun b' : Fin 6 => (tbl m 1 : Vec Ideal S6x2048 .i32) (ix2 b' (Spec.ax (256 * k)))) (Fin.ext ?_)
    show (grid0.coords t 0).val % 6 = b.val
    rw [coord0 t, hb]
    omega
  have wsm : ((argsAt m c).w b).toNat < 2 ^ 29 := good.w_small _
  have qsm : ∀ i, ((argsAt m c).qpos b i).toNat < 2 ^ 29 := fun i => good.q_small _
  have ksm : ∀ j, ((argsAt m c).kpos b j).toNat < 2 ^ 29 := fun j => good.k_small _
  have qn : ((argsAt m c).qpos b q).toNat = ((argsAt m c).qpos b ⟨128 * (t.val % 16), q0lt⟩).toNat + r.val := by
    have e := good.q_next b ⟨t.val % 16, by omega⟩ r
    have e1 : q = ⟨128 * (t.val % 16) + r.val, by omega⟩ := Fin.ext hq
    exact (congrArg (fun i => ((argsAt m c).qpos b i).toNat) e1).trans e
  have kn : ∀ k < 8, ∀ x : Fin 256, ((argsAt m c).kpos b (Spec.ax (256 * k + x.val))).toNat = ((argsAt m c).kpos b (Spec.ax (256 * k))).toNat + x.val := by
    intro k hk x
    have hx := x.isLt
    have e := good.k_next b ⟨k, hk⟩ x
    have e1 : Spec.ax (256 * k + x.val) = ⟨256 * k + x.val, by omega⟩ := Fin.ext (Nat.mod_eq_of_lt (by omega))
    have e2 : Spec.ax (256 * k) = ⟨256 * k, by omega⟩ := Fin.ext (Nat.mod_eq_of_lt (by omega))
    rw [e1, e2]
    exact e
  subst hst
  unfold unitFin
  rw [hw, hq0]
  refine column (tbl m 1) (grid0.coords t 0).val _ _ _ _ _ _ _ _ (h.val / 2) _ p r (by omega) d ((argsAt m c).lse b q h) (Spec.sig (argsAt m c) b q h)
    (fun j => (argsAt m c).vc b (Spec.ax j) (Spec.kvh h) d) (fun j => (argsAt m c).vs b (Spec.ax j) (Spec.kvh h)) ?_ ?_ ?_ ?_ ?_ ?_ ?_
  · exact (pay107_pick (rowOf (iblk m hO c 6 t)) h.val p r hp).trans (congrArg cl (lse_val m hO c t b hb q r hq h))
  · exact pay108_at (ix2 0 p)
  · exact pay109_at (ix2 d p)
  · intro k hk x
    rw [hk0 k hk, kscale_val m hO c t b hb (Spec.kvh h) k x r, pay105_pick (rowOf (blockSc (iblk m hO c 0 t))) h.val p r hp, scale_val m hO c t b hb q r hq h]
    have e : (∑ e, keysAt (scr0 m hO c t) (h.val / 2) k (ix3 0 x e) * k0_pay104 (hCode (iblk m hO c 0 t) (2 * (h.val / 2))) (hCode (iblk m hO c 0 t) (2 * (h.val / 2) + 1)) (ix2 e p))
        = ∑ e, (argsAt m c).kc b (Spec.ax (256 * k + x.val)) (Spec.kvh h) e * Spec.cdOf ((argsAt m c).q b q h) e :=
      Finset.sum_congr rfl fun e _ => congrArg₂ (fun a b : EReal => a * b) (keys_val m hO c t b hb (Spec.kvh h) k x e)
        ((pay104_pick (hCode (iblk m hO c 0 t)) h.val p r hp e).trans (code_val m hO c t b hb q r hq h e))
    rw [e]
    exact score_eq _ _ _ _ _ _ (Cert.Mask.mask_eq _ _ _ _ _ x.val r.val x.isLt hr (ksm _) (qsm _) wsm (ksm _) (qsm _) (kn k hk x) qn)
  · intro k hk hd x
    rw [hk0 k hk] at hd
    unfold Spec.sig Spec.score Scalar.select
    exact if_neg (Cert.Mask.dead _ _ _ _ _ x.val r.val x.isLt hr (ksm _) (qsm _) wsm (ksm _) (qsm _) (kn k hk x) qn hd)
  · intro k hk x
    exact vals_val m hO c t b hb (Spec.kvh h) k d x
  · intro k hk x
    exact vscale_val m hO c t b hb (Spec.kvh h) k x r

/-- The output a call computes. -/
theorem fin7_eq (hO : Ok m) (c : Dev nD) (good : Cert.Pre_positions.Good (m ((c : Thread nD τ).loc main_arg1)) (m ((c : Thread nD τ).loc main_arg2)) (m ((c : Thread nD τ).loc main_arg3))) :
    fin7 m hO c = fun i => Spec.res0 (argsAt m c) (i 0) (i 1) (i 2) (i 3) := by
  funext i
  obtain ⟨b, q, h, d, rfl⟩ : ∃ (b : Fin 6) (q : Fin 2048) (h : Fin 16) (d : Fin 128), i = ix4 b q h d := ⟨i 0, i 1, i 2, i 3, (eq_ix4 i)⟩
  have hb := b.isLt
  have hq := q.isLt
  have hh := h.isLt
  have tb : b.val = (ptOf m hO b q).val / 16 := by show b.val = (16 * b.val + q.val / 128) / 16; omega
  have tq : q.val = 128 * ((ptOf m hO b q).val % 16) + q.val % 128 := by show q.val = 128 * ((16 * b.val + q.val / 128) % 16) + q.val % 128; omega
  obtain ⟨st, hst⟩ : ∃ st : Carry Ideal, st = unitFin (tbl m 1) (grid0.coords (ptOf m hO b q) 0).val (kernelRun0.sl.r c (grid0.coords (ptOf m hO b q)) (tbl m 2)) (kernelRun0.sl.r_1 c (grid0.coords (ptOf m hO b q)) (tbl m 0)) (iblk m hO c 0 (ptOf m hO b q)) (iblk m hO c 6 (ptOf m hO b q))
      (scr0 m hO c (ptOf m hO b q)) (scr1 m hO c (ptOf m hO b q)) (scr2 m hO c (ptOf m hO b q)) (scr3 m hO c (ptOf m hO b q)) (h.val / 2) := ⟨_, rfl⟩
  obtain ⟨e0, e1, e2⟩ := unit_at m hO c good (ptOf m hO b q) b tb q ⟨q.val % 128, Nat.mod_lt _ (by decide)⟩ tq h
    ⟨128 * (h.val % 2) + q.val % 128, by omega⟩ rfl d st hst
  have key := (outBlk_pick (rowOf (iblk m hO c 6 (ptOf m hO b q))) (oh (iblk m hO c 5 (ptOf m hO b q))) st h.val ⟨128 * (h.val % 2) + q.val % 128, by omega⟩
    ⟨q.val % 128, Nat.mod_lt _ (by decide)⟩ rfl d)
  rw [e0, e1, e2, lse_val m hO c _ b tb q ⟨q.val % 128, Nat.mod_lt _ (by decide)⟩ tq h, o_val m hO c _ b tb q ⟨q.val % 128, Nat.mod_lt _ (by decide)⟩ tq h d] at key
  subst hst
  exact key.trans (congrArg (Ideal.div _) (add_comm _ _))

/-- The log-sum-exp a call computes. -/
theorem fin8_eq (hO : Ok m) (c : Dev nD) (good : Cert.Pre_positions.Good (m ((c : Thread nD τ).loc main_arg1)) (m ((c : Thread nD τ).loc main_arg2)) (m ((c : Thread nD τ).loc main_arg3))) :
    fin8 m hO c = fun i => Spec.res1 (argsAt m c) (i 0) (i 2) (i 1) := by
  funext i
  obtain ⟨b, h, q, rfl⟩ : ∃ (b : Fin 6) (h : Fin 16) (q : Fin 2048), i = ix3 b h q := ⟨i 0, i 1, i 2, (eq_ix3 i)⟩
  have hb := b.isLt
  have hq := q.isLt
  have hh := h.isLt
  have tb : b.val = (ptOf m hO b q).val / 16 := by show b.val = (16 * b.val + q.val / 128) / 16; omega
  have tq : q.val = 128 * ((ptOf m hO b q).val % 16) + q.val % 128 := by show q.val = 128 * ((16 * b.val + q.val / 128) % 16) + q.val % 128; omega
  obtain ⟨st, hst⟩ : ∃ st : Carry Ideal, st = unitFin (tbl m 1) (grid0.coords (ptOf m hO b q) 0).val (kernelRun0.sl.r c (grid0.coords (ptOf m hO b q)) (tbl m 2)) (kernelRun0.sl.r_1 c (grid0.coords (ptOf m hO b q)) (tbl m 0)) (iblk m hO c 0 (ptOf m hO b q)) (iblk m hO c 6 (ptOf m hO b q))
      (scr0 m hO c (ptOf m hO b q)) (scr1 m hO c (ptOf m hO b q)) (scr2 m hO c (ptOf m hO b q)) (scr3 m hO c (ptOf m hO b q)) (h.val / 2) := ⟨_, rfl⟩
  obtain ⟨e0, e1, e2⟩ := unit_at m hO c good (ptOf m hO b q) b tb q ⟨q.val % 128, Nat.mod_lt _ (by decide)⟩ tq h
    ⟨128 * (h.val % 2) + q.val % 128, by omega⟩ rfl 0 st hst
  have key := (lse_pick (rowOf (iblk m hO c 6 (ptOf m hO b q))) st h.val ⟨128 * (h.val % 2) + q.val % 128, by omega⟩
    ⟨q.val % 128, Nat.mod_lt _ (by decide)⟩ rfl)
  rw [e0, e1, lse_val m hO c _ b tb q ⟨q.val % 128, Nat.mod_lt _ (by decide)⟩ tq h, add_comm (∑ j ∈ Finset.range 2048, _) (Ideal.exp2 _)] at key
  subst hst
  exact key

end Cert.KernelIdeal.Gen

end
-- ==== Proof.ReferenceIdeal.Tail.lean ====
module

public import proofs.«01_k».proof.Proof.Spec
public import proofs.«01_k».proof.Proof.Gen.ReferenceIdeal.Frame
public import Idealize.ShloMosaic.Lib.StableHlo.ReadAt
public import Idealize.ShloMosaic.Lib.Pointwise

@[expose] public section

noncomputable section

open Idealize.ShloMosaic Idealize.ShloMosaic.TcCoe Idealize.SL.Sem

namespace Cert.ReferenceIdeal.Gen

/-- The host lines up to the masked scores. -/
theorem tail30 (W : Valuation τ sig (Elt Ideal)) (b : Fin 6) (n : Fin 8) (g : Fin 2) (q j : Fin 2048) :
    StableHlo.after (hostOps1 ++ hostOps1_1) W (Proc.devRef .tc main_v30) (ix5 b n g q j) =
      Spec.score (W (Proc.devRef .tc main_arg2) (ix2 b j)) (W (Proc.devRef .tc main_arg1) (ix2 b q)) (W (Proc.devRef .tc main_arg3) (ix1 b))
        (fun x => W (Proc.devRef .tc main_v0_3) (ix4 b j n x)) (fun x => W (Proc.devRef .tc main_v0_2) (ix4 b q ⟨n.val * 2 + g.val, by omega⟩ x))
        (W (Proc.devRef .tc main_v0_1) (ix3 b q ⟨n.val * 2 + g.val, by omega⟩)) (W (Proc.devRef .tc main_arg5) (ix3 b j n)) := by
  after_reads_at
  exact congrArg (Scalar.select _ _) Cert.Flash.ofBits_neg_inf

theorem tail4 (W : Valuation τ sig (Elt Ideal)) (i : S6x8x1x1x2048.Idx) :
    StableHlo.after (hostOps1 ++ hostOps1_1) W (Proc.devRef .tc main_v4) i = W (Proc.devRef .tc main_arg7) (ix3 (i 0) (i 4) (i 1)) := by
  after_reads_at

theorem keep8 (W : Valuation τ sig (Elt Ideal)) (i) :
    StableHlo.after (hostOps1 ++ hostOps1_1) W (Proc.devRef .tc main_arg8) i = W (Proc.devRef .tc main_arg8) i := by
  after_reads_at
theorem keep9 (W : Valuation τ sig (Elt Ideal)) (i) :
    StableHlo.after (hostOps1 ++ hostOps1_1) W (Proc.devRef .tc main_arg9) i = W (Proc.devRef .tc main_arg9) i := by
  after_reads_at
theorem keepv (W : Valuation τ sig (Elt Ideal)) (i) :
    StableHlo.after (hostOps1 ++ hostOps1_1) W (Proc.devRef .tc main_v0_4) i = W (Proc.devRef .tc main_v0_4) i := by
  after_reads_at
theorem keeps (W : Valuation τ sig (Elt Ideal)) (i) :
    StableHlo.after (hostOps1 ++ hostOps1_1) W (Proc.devRef .tc main_v0_1) i = W (Proc.devRef .tc main_v0_1) i := by
  after_reads_at

theorem tail71 (W : Valuation τ sig (Elt Ideal)) (i : S6x16x2048.Idx) :
    StableHlo.after hostOps1_2 W (Proc.devRef .tc main_v71) i = W (Proc.devRef .tc main_v0_1) (ix3 (i 0) (i 2) (i 1)) := by
  after_reads_at

theorem tail69 (W : Valuation τ sig (Elt Ideal)) (i : S6x2048x16x128.Idx) (σ V VS : ℕ → EReal)
    (hS : ∀ x : Fin 2048, W (Proc.devRef .tc main_v30) (ix5 (i 0) ⟨(i 2).val / 2, by have : (i 2).val < 16 := (i 2).isLt; omega⟩ ⟨(i 2).val % 2, by omega⟩ (i 1) x) = σ x.val)
    (hv : ∀ x : Fin 2048, W (Proc.devRef .tc main_v0_4) (ix4 (i 0) x ⟨(i 2).val / 2, by have : (i 2).val < 16 := (i 2).isLt; omega⟩ (i 3)) = V x.val)
    (hvs : ∀ x : Fin 2048, W (Proc.devRef .tc main_v4) (ix5 (i 0) ⟨(i 2).val / 2, by have : (i 2).val < 16 := (i 2).isLt; omega⟩ 0 0 x) = VS x.val) :
    StableHlo.after hostOps1_2 W (Proc.devRef .tc main_v69) i =
      Spec.outOf (W (Proc.devRef .tc main_arg9) (ix3 (i 0) (i 1) (i 2))) (W (Proc.devRef .tc main_arg8) (ix4 (i 0) (i 1) (i 2) (i 3))) σ V VS := by
  have e : (i 2 : Fin 16) = ⟨(i 2).val / 2 * 2 + (i 2).val % 2, by have : (i 2).val < 16 := (i 2).isLt; omega⟩ := Fin.ext (show (i 2).val = (i 2).val / 2 * 2 + (i 2).val % 2 from by omega)
  refine Eq.trans ?_ ((Spec.out_eq _ _ _ _ _ σ V VS hS hv hvs _ rfl).trans
    (congrArg (fun h : Fin 16 => Spec.outOf (W (Proc.devRef .tc main_arg9) (ix3 (i 0) (i 1) h)) (W (Proc.devRef .tc main_arg8) (ix4 (i 0) (i 1) h (i 3))) σ V VS) e.symm))
  after_reads_at

theorem tail70 (W : Valuation τ sig (Elt Ideal)) (i : S6x16x2048.Idx) (σ : ℕ → EReal)
    (hS : ∀ x : Fin 2048, W (Proc.devRef .tc main_v30) (ix5 (i 0) ⟨(i 1).val / 2, by have : (i 1).val < 16 := (i 1).isLt; omega⟩ ⟨(i 1).val % 2, by omega⟩ (i 2) x) = σ x.val) :
    StableHlo.after hostOps1_2 W (Proc.devRef .tc main_v70) i =
      Spec.lseOf (W (Proc.devRef .tc main_arg9) (ix3 (i 0) (i 2) (i 1))) σ := by
  have e : (i 1 : Fin 16) = ⟨(i 1).val / 2 * 2 + (i 1).val % 2, by have : (i 1).val < 16 := (i 1).isLt; omega⟩ := Fin.ext (show (i 1).val = (i 1).val / 2 * 2 + (i 1).val % 2 from by omega)
  refine Eq.trans ?_ ((Spec.lse_eq _ _ σ hS _ rfl).trans
    (congrArg (fun h : Fin 16 => Spec.lseOf (W (Proc.devRef .tc main_arg9) (ix3 (i 0) (i 2) h)) σ) e.symm))
  after_reads_at

end Cert.ReferenceIdeal.Gen

end
-- ==== Proof.ReferenceIdeal.Pays.lean ====
module

public import proofs.«01_k».proof.Proof.Spec
public import proofs.«01_k».proof.Proof.Gen.ReferenceIdeal.Frame
public import Idealize.ShloMosaic.Lib.Pipeline.ValueKit
public import Idealize.ShloMosaic.Lib.StableHlo.ReadAt
public import Idealize.ShloMosaic.Lib.Pointwise

@[expose] public section

noncomputable section

open Idealize.ShloMosaic Idealize.ShloMosaic.TcCoe Idealize.SL.Sem

namespace Cert.ReferenceIdeal.Gen

theorem red_gen {n0 n1 n2 n3 : ℕ} (h : (⟨4, ![n0, n1, n2, n3]⟩ : Shape).Reduces [3] ⟨3, ![n0, n1, n2]⟩) (v : FVec Ideal ⟨4, ![n0, n1, n2, n3]⟩ .f32)
    (acc : BitVec (FTy.f32).bits) (hφ) (hacc) (y : (⟨3, ![n0, n1, n2]⟩ : Shape).Idx) :
    multiReduction .maximumf [3] ⟨3, ![n0, n1, n2]⟩ v acc h hφ hacc y
      = Finset.fold max (Ideal.ofBits FTy.f32 acc) (fun x => v (ix4 (y 0) (y 1) (y 2) x)) Finset.univ :=
  (reduceFold_eq_fold h (max : EReal → EReal → EReal) (Ideal.ofBits FTy.f32 acc) v y).trans ((h.fold_fiber_r4_a3 y max (Ideal.ofBits FTy.f32 acc) v).trans rfl)

theorem sel_gen {s : Shape} (A : FVec Ideal s .f32) (y : s.Idx) :
    select (cmpf .oeq A (broadcast s (Scalar.ofBits .f32 0x00000000#32))) (broadcast s (Scalar.ofBits .f32 0x3F800000#32)) (divf A (broadcast s (Scalar.ofBits .f32 0x43E00000#32))) y
      = if A y = 0 then 1 else Ideal.div (A y) (Ideal.ofBits FTy.f32 1138753536#32) := by
  pointwise

theorem pay3_at (v : Vec Ideal S6x2048x16x128 .bf16) (y : S6x2048x16.Idx) :
    k0_pay3 v y = Spec.scOf fun x => v (ix4 (y 0) (y 1) (y 2) x) := by
  unfold k0_pay3
  refine (sel_gen _ _).trans ?_
  exact congrArg (fun A : EReal => if A = 0 then (1 : EReal) else Ideal.div A (Ideal.ofBits FTy.f32 1138753536#32)) (red_gen _ _ _ _ _ _)

theorem clip_gen {s : Shape} (A B : FVec Ideal s .f32) (y : s.Idx) :
    truncf .fp8e4m3 (minimumf (broadcast s (Scalar.ofBits .f32 0x43E00000#32)) (maximumf (broadcast s (Scalar.ofBits .f32 0xC3E00000#32)) (divf A B))) bitsLt_fp8e4m3_f32 y
      = min (Ideal.ofBits FTy.f32 1138753536#32) (max (Ideal.ofBits FTy.f32 3286237184#32) (Ideal.div (A y) (B y))) := by
  pointwise

theorem bc_at (v : FVec Ideal S6x2048x16 .f32) (y : S6x2048x16x128.Idx) :
    broadcastTo S6x2048x16x128 (shapeCast S6x2048x16x1 v shapeCasts_S6x2048x16_S6x2048x16x1) broadcasts_S6x2048x16x1_S6x2048x16x128 y = v (ix3 (y 0) (y 1) (y 2)) := by
  pointwise

theorem pay4_at (v : Vec Ideal S6x2048x16x128 .bf16) (y : S6x2048x16x128.Idx) :
    k0_pay4 v y = Spec.cdOf (fun x => v (ix4 (y 0) (y 1) (y 2) x)) (y 3) := by
  unfold k0_pay4
  refine (clip_gen _ _ _).trans ?_
  have e : ix4 (y 0) (y 1) (y 2) (y 3) = y := by funext a; fin_cases a <;> rfl
  refine (congrArg (fun s : EReal => min (Ideal.ofBits FTy.f32 1138753536#32) (max (Ideal.ofBits FTy.f32 3286237184#32) (Ideal.div (k0_pay2 v y) s))) ((bc_at _ _).trans (pay3_at v _))).trans ?_
  exact congrArg (fun s : EReal => min (Ideal.ofBits FTy.f32 1138753536#32) (max (Ideal.ofBits FTy.f32 3286237184#32) (Ideal.div s (Spec.scOf fun x => v (ix4 (y 0) (y 1) (y 2) x))))) (congrArg v e.symm)

theorem pay5_at (v : Vec Ideal S6x2048x16x128 .bf16) (y : S6x2048x16x128.Idx) : k0_pay5 v y = k0_pay4 v y := rfl
theorem pay6_at (v : Vec Ideal S6x2048x8x128 .fp8e4m3) (y : S6x2048x8x128.Idx) : k0_pay6 v y = v y := rfl
theorem pay1_at (v : Vec Ideal S6x2048x8x128 .fp8e4m3) (y : S6x2048x8x128.Idx) : k0_pay1 v y = v y := rfl

end Cert.ReferenceIdeal.Gen

end
-- ==== Proof.ReferenceIdeal.Arrays.lean ====
module

public import proofs.«01_k».proof.Proof.Gen.ReferenceIdeal.Frame
public import Idealize.ShloMosaic.Lib.Pipeline.ValueKit
public import Idealize.ShloMosaic.Lib.StableHlo.ReadAt
public import Idealize.ShloMosaic.Lib.Pointwise

@[expose] public section

noncomputable section

open Idealize.ShloMosaic Idealize.ShloMosaic.TcCoe Idealize.SL.Sem

namespace Cert.ReferenceIdeal.Gen

variable (m : (ℓ : Loc nD τ sig) → Buf (Elt Ideal) ℓ) (ρ : Dev nD → PrngReg)

/-! The arrays the reference's one-point kernel leaves, each its payload of a whole argument. -/

theorem idx : ∀ t : Fin cfg0.N, win0_0.index t = ![0, 0, 0, 0] ∧ win0_1.index t = ![0, 0, 0, 0] ∧ win0_2.index t = ![0, 0, 0, 0] :=
  (by decide +kernel : ∀ t : Fin grid0.N, _)

theorem iblk0 (c : Dev nD) : iblk m c 0 t0_0 = m ((c : Thread nD τ).loc main_arg0) := by
  blk_ext! [iblk, V, idx t0_0]
theorem iblk1 (c : Dev nD) : iblk m c 1 t0_0 = m ((c : Thread nD τ).loc main_arg4) := by
  blk_ext! [iblk, V, idx t0_0]
theorem iblk2 (c : Dev nD) : iblk m c 2 t0_0 = m ((c : Thread nD τ).loc main_arg6) := by
  blk_ext! [iblk, V, idx t0_0]

theorem arr3 (c : Dev nD) : (dats m 0 c).arrAt 3 cfg0.N = k0_pay4 (m ((c : Thread nD τ).loc main_arg0)) := by
  refine (dats m 0 c).arrAt_eq_of_after_last 3 t0_0 (by decide +kernel) _ fun j => ?_
  blk_simp
  rw [after0_3]
  rw [iblk0]
  exact congrFun ((View.canon_cons_unit_lit _ _ _ (by decide)).trans (congrArg k0_pay4 (View.ld_unit_lit _ _ (by decide)))) j

theorem arr4 (c : Dev nD) : (dats m 0 c).arrAt 4 cfg0.N = k0_pay3 (m ((c : Thread nD τ).loc main_arg0)) := by
  refine (dats m 0 c).arrAt_eq_of_after_last 4 t0_0 (by decide +kernel) _ fun j => ?_
  blk_simp
  rw [after0_4]
  rw [iblk0]
  exact congrFun ((View.canon_cons_unit_lit _ _ _ (by decide)).trans (congrArg k0_pay3 (View.ld_unit_lit _ _ (by decide)))) j

theorem arr5 (c : Dev nD) : (dats m 0 c).arrAt 5 cfg0.N = k0_pay5 (m ((c : Thread nD τ).loc main_arg0)) := by
  refine (dats m 0 c).arrAt_eq_of_after_last 5 t0_0 (by decide +kernel) _ fun j => ?_
  blk_simp
  rw [after0_5]
  rw [iblk0]
  exact congrFun ((View.canon_cons_unit_lit _ _ _ (by decide)).trans (congrArg k0_pay5 (View.ld_unit_lit _ _ (by decide)))) j

theorem arr6 (c : Dev nD) : (dats m 0 c).arrAt 6 cfg0.N = k0_pay6 (m ((c : Thread nD τ).loc main_arg4)) := by
  refine (dats m 0 c).arrAt_eq_of_after_last 6 t0_0 (by decide +kernel) _ fun j => ?_
  blk_simp
  rw [after0_6]
  rw [iblk1]
  exact congrFun ((View.canon_cons_unit_lit _ _ _ (by decide)).trans (congrArg k0_pay6 (View.ld_unit_lit _ _ (by decide)))) j

theorem arr7 (c : Dev nD) : (dats m 0 c).arrAt 7 cfg0.N = k0_pay1 (m ((c : Thread nD τ).loc main_arg6)) := by
  refine (dats m 0 c).arrAt_eq_of_after_last 7 t0_0 (by decide +kernel) _ fun j => ?_
  blk_simp
  rw [after0_7]
  rw [iblk2]
  exact congrFun ((View.canon_cons_unit_lit _ _ _ (by decide)).trans (congrArg k0_pay1 (View.ld_unit_lit _ _ (by decide)))) j

end Cert.ReferenceIdeal.Gen

end
-- ==== Proof.ReferenceIdeal.Final.lean ====
module

public import proofs.«01_k».proof.Proof.ReferenceIdeal.Tail
public import proofs.«01_k».proof.Proof.ReferenceIdeal.Pays
public import proofs.«01_k».proof.Proof.ReferenceIdeal.Arrays

@[expose] public section

noncomputable section

open Idealize.ShloMosaic Idealize.ShloMosaic.TcCoe Idealize.SL.Sem

namespace Cert.ReferenceIdeal.Gen

variable (m : (ℓ : Loc nD τ sig) → Buf (Elt Ideal) ℓ) (ρ : Dev nD → PrngReg)

/-! The reference's results, from its arguments. -/

theorem arr_inj : Function.Injective (Pipeline.arrRef (cfgs 0).spec) :=
  (by decide : ∀ a b, Pipeline.arrRef spec0 a = Pipeline.arrRef spec0 b → a = b)

/-- What the host lines after the region start from. -/
def mid (c : Dev nD) : Valuation τ sig (Elt Ideal) := Pipeline.withArrays (cfgs 0).spec c (V0 m c) fun w => (dats m 0 c).arrAt w (cfgs 0).N

theorem mid_arg1 (c : Dev nD) : mid m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem mid_arg2 (c : Dev nD) : mid m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

theorem mid_arg3 (c : Dev nD) : mid m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem mid_arg5 (c : Dev nD) : mid m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem mid_arg7 (c : Dev nD) : mid m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)

theorem mid_arg8 (c : Dev nD) : mid m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)

theorem mid_arg9 (c : Dev nD) : mid m c (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)

theorem mid_v0_0 (c : Dev nD) : mid m c (Proc.devRef .tc main_v0_0) = k0_pay4 (m ((c : Thread nD τ).loc main_arg0)) :=
  (Pipeline.withArrays_arr (cfgs 0).spec arr_inj c (V0 m c) _ 3).trans (arr3 m c)

theorem mid_v0_1 (c : Dev nD) : mid m c (Proc.devRef .tc main_v0_1) = k0_pay3 (m ((c : Thread nD τ).loc main_arg0)) :=
  (Pipeline.withArrays_arr (cfgs 0).spec arr_inj c (V0 m c) _ 4).trans (arr4 m c)

theorem mid_v0_2 (c : Dev nD) : mid m c (Proc.devRef .tc main_v0_2) = k0_pay5 (m ((c : Thread nD τ).loc main_arg0)) :=
  (Pipeline.withArrays_arr (cfgs 0).spec arr_inj c (V0 m c) _ 5).trans (arr5 m c)

theorem mid_v0_3 (c : Dev nD) : mid m c (Proc.devRef .tc main_v0_3) = k0_pay6 (m ((c : Thread nD τ).loc main_arg4)) :=
  (Pipeline.withArrays_arr (cfgs 0).spec arr_inj c (V0 m c) _ 6).trans (arr6 m c)

theorem mid_v0_4 (c : Dev nD) : mid m c (Proc.devRef .tc main_v0_4) = k0_pay1 (m ((c : Thread nD τ).loc main_arg6)) :=
  (Pipeline.withArrays_arr (cfgs 0).spec arr_inj c (V0 m c) _ 7).trans (arr7 m c)

/-- The arguments of device `c`. -/
def argsAt (c : Dev nD) : Spec.Args := Spec.argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The host lines' end, in two steps. -/
theorem end_eq (c : Dev nD) (b : Ref sig .tc) : Pipeline.afterTail₀ cfgs (dats m) 0 (V0 m) [hostOps1, hostOps1_1, hostOps1_2] c b
    = StableHlo.after hostOps1_2 (StableHlo.after (hostOps1 ++ hostOps1_1) (mid m c)) (Proc.devRef .tc b) := by
  unfold Pipeline.afterTail₀
  rw [List.flatten_cons, List.flatten_cons, List.flatten_cons, List.flatten_nil, List.append_nil, ← List.append_assoc, StableHlo.after_append]
  rfl

/-- The masked scores. -/
theorem score_at (c : Dev nD) (b : Fin 6) (q : Fin 2048) (h : Fin 16) (j : Fin 2048) (n : Fin 8) (hn : n.val = h.val / 2) (g : Fin 2) (hg : g.val = h.val % 2) :
    StableHlo.after (hostOps1 ++ hostOps1_1) (mid m c) (Proc.devRef .tc main_v30) (ix5 b n g q j) = Spec.sig (argsAt m c) b q h j.val := by
  rw [tail30]
  obtain rfl : n = Spec.kvh h := Fin.ext hn
  have e : (⟨(Spec.kvh h).val * 2 + g.val, by omega⟩ : Fin 16) = h := Fin.ext (show h.val / 2 * 2 + g.val = h.val by omega)
  rw [e, mid_arg1, mid_arg2, mid_arg3, mid_arg5, mid_v0_1, mid_v0_2, mid_v0_3, pay3_at]
  unfold Spec.sig
  rw [Spec.ax_val]
  have e2 : (fun x : Fin 128 => k0_pay5 (m ((c : Thread nD τ).loc main_arg0)) (ix4 b q h x)) = Spec.cdOf (fun x => m ((c : Thread nD τ).loc main_arg0) (ix4 b q h x)) :=
    funext fun x => (pay5_at _ _).trans (pay4_at _ _)
  rw [e2]
  rfl

theorem final69 (c : Dev nD) : Pipeline.afterTail₀ cfgs (dats m) 0 (V0 m) [hostOps1, hostOps1_1, hostOps1_2] c main_v69
    = fun i : S6x2048x16x128.Idx => Spec.res0 (argsAt m c) (i 0) (i 1) (i 2) (i 3) := by
  funext i
  rw [end_eq]
  refine (tail69 _ i (Spec.sig (argsAt m c) (i 0) (i 1) (i 2)) (fun j => (argsAt m c).vc (i 0) (Spec.ax j) (Spec.kvh (i 2)) (i 3))
    (fun j => (argsAt m c).vs (i 0) (Spec.ax j) (Spec.kvh (i 2))) (fun x => score_at m c (i 0) (i 1) (i 2) x _ rfl _ rfl) (fun x => ?_) (fun x => ?_)).trans ?_
  · refine (keepv _ _).trans ((congrFun (mid_v0_4 m c) _).trans ((pay1_at _ _).trans ?_))
    exact (congrArg (fun j => (argsAt m c).vc (i 0) j (Spec.kvh (i 2)) (i 3)) (Spec.ax_val x)).symm
  · refine (tail4 _ _).trans ((congrFun (mid_arg7 m c) _).trans ?_)
    exact (congrArg (fun j => (argsAt m c).vs (i 0) j (Spec.kvh (i 2))) (Spec.ax_val x)).symm
  · exact congrArg₂ (fun l o => Spec.outOf l o _ _ _) ((keep9 _ _).trans (congrFun (mid_arg9 m c) _)) ((keep8 _ _).trans (congrFun (mid_arg8 m c) _))

theorem final70 (c : Dev nD) : Pipeline.afterTail₀ cfgs (dats m) 0 (V0 m) [hostOps1, hostOps1_1, hostOps1_2] c main_v70
    = fun i : S6x16x2048.Idx => Spec.res1 (argsAt m c) (i 0) (i 2) (i 1) := by
  funext i
  rw [end_eq]
  refine (tail70 _ i (Spec.sig (argsAt m c) (i 0) (i 2) (i 1)) (fun x => score_at m c (i 0) (i 2) (i 1) x _ rfl _ rfl)).trans ?_
  exact congrArg (fun l => Spec.lseOf l _) ((keep9 _ _).trans (congrFun (mid_arg9 m c) _))

theorem final71 (c : Dev nD) : Pipeline.afterTail₀ cfgs (dats m) 0 (V0 m) [hostOps1, hostOps1_1, hostOps1_2] c main_v71
    = fun i : S6x16x2048.Idx => Spec.scOf ((argsAt m c).q (i 0) (i 2) (i 1)) := by
  funext i
  rw [end_eq]
  exact (tail71 _ i).trans ((keeps _ _).trans ((congrFun (mid_v0_1 m c) _).trans (pay3_at _ _)))

theorem final0 (c : Dev nD) : (dats m 0 c).arrAt 3 cfg0.N = fun i : S6x2048x16x128.Idx => Spec.cdOf ((argsAt m c).q (i 0) (i 1) (i 2)) (i 3) :=
  (arr3 m c).trans (funext fun i => pay4_at _ i)

end Cert.ReferenceIdeal.Gen

end
-- ==== Proof.Algebraic.lean ====
/- The idealized kernel and the idealized reference compute the same four results. -/
module

public import proofs.«01_k».proof.Defs
public import proofs.«01_k».proof.Proof.KernelIdeal.Results
public import proofs.«01_k».proof.Proof.ReferenceIdeal.Final

@[expose] public section

set_option maxRecDepth 16384

noncomputable section

open Idealize.ShloMosaic Idealize.ShloMosaic.TcCoe Idealize.SL.Sem

namespace Cert.KernelIdeal.Gen

/-- The kernel's four results, from its arguments. -/
theorem results (m : (ℓ : Loc nD τ sig) → Buf (Elt Ideal) ℓ) (ρ : Dev nD → PrngReg) (hO : Ok m)
    (good : ∀ c : Dev nD, Cert.Pre_positions.Good (m ((c : Thread nD τ).loc main_arg1)) (m ((c : Thread nD τ).loc main_arg2)) (m ((c : Thread nD τ).loc main_arg3))) :
    θ_run defs (onTc (τ := τ) (main (F := Ideal))) ⟨m, fun _ => 0, ρ⟩ (fun r => ∀ c : Dev nD,
      r.2.mem ((c.tc : Thread nD τ).loc main_v3_0) = (fun i : S6x2048x16x128.Idx => Spec.res0 (argsAt m c) (i 0) (i 1) (i 2) (i 3))
      ∧ r.2.mem ((c.tc : Thread nD τ).loc main_v3_1) = (fun i : S6x16x2048.Idx => Spec.res1 (argsAt m c) (i 0) (i 2) (i 1))
      ∧ r.2.mem ((c.tc : Thread nD τ).loc main_v3_2) = (fun i : S6x2048x16x128.Idx => Spec.cdOf ((argsAt m c).q (i 0) (i 1) (i 2)) (i 3))
      ∧ r.2.mem ((c.tc : Thread nD τ).loc main_v3_3) = (fun i : S6x16x2048.Idx => Spec.scOf ((argsAt m c).q (i 0) (i 2) (i 1)))) :=
  (θ_run defs _ _).mono (fun _ h c => ⟨((h c).1 7).trans ((arr7 m hO c).trans (fin7_eq m hO c (good c))),
      ((h c).1 8).trans ((arr8 m hO c).trans (fin8_eq m hO c (good c))),
      ((h c).1 9).trans ((arr9 m hO c).trans (fin9_eq m hO c)),
      ((h c).1 10).trans ((arr10 m hO c).trans (fin10_eq m hO c))⟩) (run_main m ρ hO)

end Cert.KernelIdeal.Gen

namespace Cert.ReferenceIdeal.Gen

/-- The reference's four results, from its arguments. -/
theorem results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v69) = (fun i : S6x2048x16x128.Idx => Spec.res0 (argsAt m c) (i 0) (i 1) (i 2) (i 3))
      ∧ r.2.mem ((c.tc : Thread nD τ).loc main_v70) = (fun i : S6x16x2048.Idx => Spec.res1 (argsAt m c) (i 0) (i 2) (i 1))
      ∧ r.2.mem ((c.tc : Thread nD τ).loc main_v0_0) = (fun i : S6x2048x16x128.Idx => Spec.cdOf ((argsAt m c).q (i 0) (i 1) (i 2)) (i 3))
      ∧ r.2.mem ((c.tc : Thread nD τ).loc main_v71) = (fun i : S6x16x2048.Idx => Spec.scOf ((argsAt m c).q (i 0) (i 2) (i 1)))) :=
  (θ_run defs _ _).mono (fun _ h c => ⟨((h c).2 main_v69 (Pipeline.mem_restRefs_of main_v69 (by decide) (by decide))).trans (final69 m c),
      ((h c).2 main_v70 (Pipeline.mem_restRefs_of main_v70 (by decide) (by decide))).trans (final70 m c),
      ((h c).1 3).trans (final0 m c),
      ((h c).2 main_v71 (Pipeline.mem_restRefs_of main_v71 (by decide) (by decide))).trans (final71 m c)⟩) (run_main m ρ)

end Cert.ReferenceIdeal.Gen

namespace Cert.Proof

/-- The same four results, on arguments whose positions are as the kernel's mask takes them. -/
theorem algebraic : Cert.algebraic_KernelIdeal_ReferenceIdeal_pre_positions (hKernelIdeal := Cert.KernelIdeal.Gen.facts)
    (hReferenceIdeal := Cert.ReferenceIdeal.Gen.facts) (hPre_positions := Cert.Pre_positions.facts) := by
  intro m g m' g' hpre hargs
  have good : ∀ c : Dev Cert.KernelIdeal.nD, Cert.Pre_positions.Good (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) :=
    fun c => Cert.Pre_positions.good (hF := Cert.Pre_positions.facts) _ _ _ _ _ _ _ _ _ _ (hpre c)
  have same : ∀ c : Dev Cert.KernelIdeal.nD, Cert.ReferenceIdeal.Gen.argsAt m' c = Cert.KernelIdeal.Gen.argsAt m c := by
    intro c
    obtain ⟨h0, h1, h2, h3, h4, h5, h6, h7, h8, h9⟩ := hargs c
    unfold Cert.ReferenceIdeal.Gen.argsAt Cert.KernelIdeal.Gen.argsAt
    exact (congr (congr (congr (congr (congr (congr (congr (congr (congr (congrArg Spec.argsOf h0) h1) h2) h3) h4) h5) h6) h7) h8) h9)
  refine ⟨fun c => fun i : Cert.KernelIdeal.S6x2048x16x128.Idx => Spec.res0 (Cert.KernelIdeal.Gen.argsAt m c) (i 0) (i 1) (i 2) (i 3),
    fun c => fun i : Cert.KernelIdeal.S6x16x2048.Idx => Spec.res1 (Cert.KernelIdeal.Gen.argsAt m c) (i 0) (i 2) (i 1),
    fun c => fun i : Cert.KernelIdeal.S6x2048x16x128.Idx => Spec.cdOf ((Cert.KernelIdeal.Gen.argsAt m c).q (i 0) (i 1) (i 2)) (i 3),
    fun c => fun i : Cert.KernelIdeal.S6x16x2048.Idx => Spec.scOf ((Cert.KernelIdeal.Gen.argsAt m c).q (i 0) (i 2) (i 1)), ?_, ?_⟩
  · exact (θ_run _ _ _).mono (fun r h c => ⟨(h.1 c).1, (h.1 c).2.1, (h.1 c).2.2.1, (h.1 c).2.2.2, h.2 c⟩)
      (θ_run_and (Cert.KernelIdeal.Gen.results m g trivial good) (Cert.KernelIdeal.Gen.unchanged m g trivial))
  · refine (θ_run _ _ _).mono (fun r h c => ?_) (θ_run_and (Cert.ReferenceIdeal.Gen.results m' g') (Cert.ReferenceIdeal.Gen.unchanged m' g'))
    obtain ⟨e0, e1, e2, e3⟩ := h.1 c
    rw [same c] at e0 e1 e2 e3
    exact ⟨e0, e1, e2, e3, h.2 c⟩

end Cert.Proof

end
-- ==== Proof.lean ====
/- The claims' proof: the frames of the three programs, the idealization's ledger, and the kernel's results against the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Frame
public import proofs.«01_k».proof.Proof.KernelIdeal.Frame
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_positions.facts,
    fun m ρ _ => Cert.Kernel.Gen.frame m ρ trivial,
    fun m ρ _ => Cert.KernelIdeal.Gen.frame m ρ trivial,
    fun m ρ _ => Cert.KernelIdeal.Gen.frame m ρ trivial,
    fun m ρ _ => Cert.ReferenceIdeal.Gen.frame m ρ,
    fun m ρ _ => Cert.ReferenceIdeal.Gen.frame m ρ,
    trivial,
    algebraic⟩

end Cert.Proof

end
